-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_up [hPre_finite_up : Cert.Pre_finite_up.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_up.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_up.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite_up.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_up [hPre_finite_up : Cert.Pre_finite_up.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_up.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_up.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite_up.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_up [hKernel2Ideal : Cert.Kernel2Ideal.Facts] [hPre_finite_up : Cert.Pre_finite_up.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_up m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_up [hReference2Ideal : Cert.Reference2Ideal.Facts] [hPre_finite_up : Cert.Pre_finite_up.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_up m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_up [hKernel2Ideal : Cert.Kernel2Ideal.Facts] [hReference2Ideal : Cert.Reference2Ideal.Facts] [hPre_finite_up : Cert.Pre_finite_up.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_up m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v58) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v74) = v2 c
          ∧ r.2.mem ((c.tc : Thread Cert.Reference8Ideal.nD Cert.Reference8Ideal.τ).loc Cert.Reference8Ideal.main_v57) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v75) = v2 c
          ∧ r.2.mem ((c.tc : Thread Cert.Reference9Ideal.nD Cert.Reference9Ideal.τ).loc Cert.Reference9Ideal.main_v58) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v39) = v0 c
          ∧ r.2.mem ((c.tc : Thread Cert.Reference16Ideal.nD Cert.Reference16Ideal.τ).loc Cert.Reference16Ideal.main_v22) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v50) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_v51) = v2 c
          ∧ r.2.mem ((c.tc : Thread Cert.Reference17Ideal.nD Cert.Reference17Ideal.τ).loc Cert.Reference17Ideal.main_v33) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v16) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_v20) = v1 c
          ∧ r.2.mem ((c.tc : Thread Cert.Reference28Ideal.nD Cert.Reference28Ideal.τ).loc Cert.Reference28Ideal.main_v21) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hPre_finite : Cert.Pre_finite.Facts) (hPre_finite_up : Cert.Pre_finite_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_up (hKernel2Ideal := hKernel2Ideal) (hPre_finite_up := hPre_finite_up)
    ∧ quiescent_Reference2Ideal (hReference2Ideal := hReference2Ideal)
    ∧ quiescent_Reference2Ideal_pre_finite_up (hReference2Ideal := hReference2Ideal) (hPre_finite_up := hPre_finite_up)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_up (hKernel2Ideal := hKernel2Ideal) (hReference2Ideal := hReference2Ideal) (hPre_finite_up := hPre_finite_up)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
-- ==== Pre_finite.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bcast_S_S4096x1024 : S_.BroadcastsInDim S4096x1024 (![] : Fin 0 → Fin S4096x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S256x1024 .bf16 := (extractStridedSlice S256x1024 ![0, 0] · slices_S256x2048_S256x1024_0_0) main_arg1
  let main_v4 : FVec F S256x1024 .bf16 := Host.absf main_v3
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  (main_v2, main_v6)
-- ==== Pre_finite_up.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩
abbrev S4096x2816 : Shape := ⟨2, ![4096, 2816]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  slices_S4096x5632_S4096x2816_0_2816 : S4096x5632.Slices ![0, 2816] S4096x2816
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x5632 .bf16) : IVec S4096x1024 1 × IVec S2816x1024 1 × IVec S4096x2816 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S4096x2816 .bf16 := (extractStridedSlice S4096x2816 ![0, 2816] · slices_S4096x5632_S4096x2816_0_2816) main_arg2
  let main_v7 : FVec F S4096x2816 .bf16 := Host.absf main_v6
  let main_cst_1 : FVec F S_ .bf16 := constant S_ .bf16 0x7F80#16
  let main_v8 : FVec F S4096x2816 .bf16 := broadcastInDim S4096x2816 ![] bcast_S_S4096x2816 main_cst_1
  let main_v9 : IVec S4096x2816 1 := cmpf .olt main_v7 main_v8
  (main_v2, main_v5, main_v9)
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S256x512 : Shape := ⟨2, ![256, 512]⟩
abbrev S512 : Shape := ⟨1, ![512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x1024, .f32⟩
  | .hbm, ⟨6, _⟩ => ⟨S256x1024, .f32⟩
  | .hbm, ⟨7, _⟩ => ⟨S256x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S256x2048, .f32⟩
  | .hbm, ⟨86, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩
abbrev S256x640 : Shape := ⟨2, ![256, 640]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x1024, .f32⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel3.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S5632x1024 : Shape := ⟨2, ![5632, 1024]⟩
abbrev S4096x5632 : Shape := ⟨2, ![4096, 5632]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x5632 : Shape := ⟨2, ![4096, 5632]⟩
abbrev S2816x1024 : Shape := ⟨2, ![2816, 1024]⟩
abbrev S1x1024 : Shape := ⟨2, ![1, 1024]⟩
abbrev S4096x1024 : Shape := ⟨2, ![4096, 1024]⟩
abbrev S4096x2816 : Shape := ⟨2, ![4096, 2816]⟩
abbrev S256x5632 : Shape := ⟨2, ![256, 5632]⟩
abbrev S256x1024 : Shape := ⟨2, ![256, 1024]⟩
abbrev S256x2816 : Shape := ⟨2, ![256, 2816]⟩
abbrev S256x640 : Shape := ⟨2, ![256, 640]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x2816, .bf16⟩
  | .hbm, ⟨8, _⟩ => ⟨S4096x1024, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S4096x5632 : Shape := ⟨2, ![4096, 5632]⟩
abbrev S2816x1024 : Shape := ⟨2, ![2816, 1024]⟩
abbrev S1x1024 : Shape := ⟨2, ![1, 1024]⟩
abbrev S4096x1024 : Shape := ⟨2, ![4096, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096x2816, .bf16⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Kernel9.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1536x1024, .f32⟩
  | .hbm, ⟨8, _⟩ => ⟨S1024x1536, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1536 : Shape := ⟨2, ![4096, 1536]⟩
abbrev S4096x1024 : Shape := ⟨2, ![4096, 1024]⟩
abbrev S1536x1024 : Shape := ⟨2, ![1536, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1024, .f32⟩
  | .hbm, ⟨3, _⟩ => ⟨S4096x1536, .f32⟩
  | .hbm, ⟨4, _⟩ => ⟨S_, .f32⟩
  | .hbm, ⟨5, _⟩ => ⟨S1024x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel14.lean ====
abbrev S4096x1024 : Shape := ⟨2, ![4096, 1024]⟩
abbrev S1536x1024 : Shape := ⟨2, ![1536, 1024]⟩
abbrev S4096x1536 : Shape := ⟨2, ![4096, 1536]⟩
abbrev S512x1024 : Shape := ⟨2, ![512, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S768x1024, .bf16⟩
  | .local _ .vmem, ⟨4, _⟩ => ⟨S512x768, .bf16⟩
  | .local _ .vmem, ⟨5, _⟩ => ⟨S512x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S1024x1536, .f32⟩
  | .hbm, ⟨5, _⟩ => ⟨S4096x1536, .f32⟩
  | .hbm, ⟨6, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1536x1024, .f32⟩
  | .hbm, ⟨6, _⟩ => ⟨S1024x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1536, .f32⟩
  | .hbm, ⟨27, _⟩ => ⟨S4096x1536, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x128, .f32⟩
  | .hbm, ⟨71, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_10 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel18.lean ====
abbrev S8x2800x128 : Shape := ⟨3, ![8, 2800, 128]⟩
abbrev S2800x128 : Shape := ⟨2, ![2800, 128]⟩
abbrev S8x1400x128 : Shape := ⟨3, ![8, 1400, 128]⟩
abbrev S1400x128 : Shape := ⟨2, ![1400, 128]⟩
abbrev S1x1400x128 : Shape := ⟨3, ![1, 1400, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2800x128, .f32⟩
  | .hbm, ⟨1, _⟩ => ⟨S2800x128, .f32⟩
  | .hbm, ⟨2, _⟩ => ⟨S2800x128, .f32⟩
  | .hbm, ⟨3, _⟩ => ⟨S2800x128, .f32⟩
  | .hbm, ⟨4, _⟩ => ⟨S2800x128, .f32⟩
  | .hbm, ⟨5, _⟩ => ⟨S2800x128, .f32⟩
  | .hbm, ⟨6, _⟩ => ⟨S2800x128, .f32⟩
  | .hbm, ⟨7, _⟩ => ⟨S2800x128, .f32⟩
  | .local _ .vmem, ⟨0, _⟩ => ⟨S8x1400x128, .f32⟩
  | .local _ .vmem, ⟨1, _⟩ => ⟨S8x1400x128, .f32⟩
  | .local _ .vmem, ⟨2, _⟩ => ⟨S1400x128, .f32⟩
  | .local _ .vmem, ⟨3, _⟩ => ⟨S1400x128, .f32⟩
  | .local _ .vmem, ⟨4, _⟩ => ⟨S1400x128, .f32⟩
  | .local _ .vmem, ⟨5, _⟩ => ⟨S1400x128, .f32⟩
  | .local _ .vmem, ⟨6, _⟩ => ⟨S1400x128, .f32⟩
  | .local _ .vmem, ⟨7, _⟩ => ⟨S1400x128, .f32⟩
  | .local _ .vmem, ⟨8, _⟩ => ⟨S1400x128, .f32⟩
  | .local _ .vmem, ⟨9, _⟩ => ⟨S1400x128, .f32⟩
  | .local _ .vmem, ⟨10, _⟩ => ⟨S1400x128, .f32⟩
  | .local _ .vmem, ⟨11, _⟩ => ⟨S1400x128, .f32⟩
  | .local _ .vmem, ⟨12, _⟩ => ⟨S1400x128, .f32⟩
  | .local _ .vmem, ⟨13, _⟩ => ⟨S1400x128, .f32⟩
  | .local _ .vmem, ⟨14, _⟩ => ⟨S1400x128, .f32⟩
  | .local _ .vmem, ⟨15, _⟩ => ⟨S1400x128, .f32⟩
  | _, _ => ⟨S8x2800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x2800x128 : Shape := ⟨3, ![8, 2800, 128]⟩
abbrev S2800x128 : Shape := ⟨2, ![2800, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2800x128, .f32⟩
  | .hbm, ⟨1, _⟩ => ⟨S2800x128, .f32⟩
  | .hbm, ⟨2, _⟩ => ⟨S2800x128, .f32⟩
  | .hbm, ⟨3, _⟩ => ⟨S2800x128, .f32⟩
  | .hbm, ⟨4, _⟩ => ⟨S_, .f32⟩
  | .hbm, ⟨5, _⟩ => ⟨S2800x128, .f32⟩
  | .hbm, ⟨6, _⟩ => ⟨S_, .f32⟩
  | .hbm, ⟨7, _⟩ => ⟨S2800x128, .f32⟩
  | .hbm, ⟨8, _⟩ => ⟨S2800x128, .f32⟩
  | .hbm, ⟨9, _⟩ => ⟨S_, .f32⟩
  | .hbm, ⟨10, _⟩ => ⟨S2800x128, .f32⟩
  | .hbm, ⟨11, _⟩ => ⟨S2800x128, .f32⟩
  | .hbm, ⟨12, _⟩ => ⟨S2800x128, .f32⟩
  | .hbm, ⟨13, _⟩ => ⟨S_, .f32⟩
  | .hbm, ⟨14, _⟩ => ⟨S2800x128, .f32⟩
  | .hbm, ⟨15, _⟩ => ⟨S2800x128, .f32⟩
  | .hbm, ⟨16, _⟩ => ⟨S2800x128, .f32⟩
  | .hbm, ⟨17, _⟩ => ⟨S_, .f32⟩
  | .hbm, ⟨18, _⟩ => ⟨S2800x128, .f32⟩
  | .hbm, ⟨19, _⟩ => ⟨S2800x128, .f32⟩
  | .hbm, ⟨20, _⟩ => ⟨S2800x128, .f32⟩
  | .hbm, ⟨21, _⟩ => ⟨S_, .f32⟩
  | .hbm, ⟨22, _⟩ => ⟨S2800x128, .f32⟩
  | .hbm, ⟨23, _⟩ => ⟨S2800x128, .f32⟩
  | .hbm, ⟨24, _⟩ => ⟨S_, .f32⟩
  | .hbm, ⟨25, _⟩ => ⟨S2800x128, .f32⟩
  | .hbm, ⟨26, _⟩ => ⟨S2800x128, .f32⟩
  | .hbm, ⟨27, _⟩ => ⟨S2800x128, .f32⟩
  | .hbm, ⟨28, _⟩ => ⟨S_, .f32⟩
  | .hbm, ⟨29, _⟩ => ⟨S2800x128, .f32⟩
  | .hbm, ⟨30, _⟩ => ⟨S2800x128, .f32⟩
  | .hbm, ⟨31, _⟩ => ⟨S2800x128, .f32⟩
  | .hbm, ⟨32, _⟩ => ⟨S_, .f32⟩
  | .hbm, ⟨33, _⟩ => ⟨S2800x128, .f32⟩
  | .hbm, ⟨34, _⟩ => ⟨S2800x128, .f32⟩
  | .hbm, ⟨35, _⟩ => ⟨S2800x128, .f32⟩
  | .hbm, ⟨36, _⟩ => ⟨S_, .f32⟩
  | .hbm, ⟨37, _⟩ => ⟨S2800x128, .f32⟩
  | .hbm, ⟨38, _⟩ => ⟨S2800x128, .f32⟩
  | _, _ => ⟨S8x2800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x192x1024 : Shape := ⟨3, ![4, 192, 1024]⟩
abbrev S1x192x1024 : Shape := ⟨3, ![1, 192, 1024]⟩
abbrev S192x1024 : Shape := ⟨2, ![192, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x192x1024, .f32⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S4x192x1024, .f32⟩
  | .hbm, ⟨5, _⟩ => ⟨S4x192x1024, .f32⟩
  | .hbm, ⟨6, _⟩ => ⟨S4x192x1024, .f32⟩
  | .local _ .vmem, ⟨0, _⟩ => ⟨S1x192x1024, .f32⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | _, _ => ⟨S4x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel20Ideal.lean ====
abbrev S4x192x1024 : Shape := ⟨3, ![4, 192, 1024]⟩
abbrev S1x192x1024 : Shape := ⟨3, ![1, 192, 1024]⟩
abbrev S192x1024 : Shape := ⟨2, ![192, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x192x1024, .f32⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S4x192x1024, .f32⟩
  | .hbm, ⟨5, _⟩ => ⟨S4x192x1024, .f32⟩
  | .hbm, ⟨6, _⟩ => ⟨S4x192x1024, .f32⟩
  | .local _ .vmem, ⟨0, _⟩ => ⟨S1x192x1024, .f32⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | _, _ => ⟨S4x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4x192x1024 : Shape := ⟨3, ![4, 192, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192x1024, .f32⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S_, .f32⟩
  | .hbm, ⟨5, _⟩ => ⟨S4x192x1024, .f32⟩
  | .hbm, ⟨6, _⟩ => ⟨S4x192x1024, .f32⟩
  | .hbm, ⟨7, _⟩ => ⟨S_, .f32⟩
  | .hbm, ⟨8, _⟩ => ⟨S4x192x1024, .f32⟩
  | .hbm, ⟨9, _⟩ => ⟨S4x192x1024, .f32⟩
  | .hbm, ⟨10, _⟩ => ⟨S4x192x1024, .f32⟩
  | .hbm, ⟨11, _⟩ => ⟨S_, .f32⟩
  | .hbm, ⟨12, _⟩ => ⟨S4x192x1024, .f32⟩
  | .hbm, ⟨13, _⟩ => ⟨S4x192x1024, .f32⟩
  | .hbm, ⟨14, _⟩ => ⟨S4x192x1024, .f32⟩
  | .hbm, ⟨15, _⟩ => ⟨S_, .f32⟩
  | .hbm, ⟨16, _⟩ => ⟨S4x192x1024, .f32⟩
  | .hbm, ⟨17, _⟩ => ⟨S4x192x1024, .f32⟩
  | .hbm, ⟨18, _⟩ => ⟨S4x192x1024, .f32⟩
  | .hbm, ⟨19, _⟩ => ⟨S_, .f32⟩
  | .hbm, ⟨20, _⟩ => ⟨S4x192x1024, .f32⟩
  | .hbm, ⟨21, _⟩ => ⟨S4x192x1024, .f32⟩
  | .hbm, ⟨22, _⟩ => ⟨S_, .f32⟩
  | .hbm, ⟨23, _⟩ => ⟨S4x192x1024, .f32⟩
  | .hbm, ⟨24, _⟩ => ⟨S4x192x1024, .f32⟩
  | .hbm, ⟨25, _⟩ => ⟨S4x192x1024, .f32⟩
  | .hbm, ⟨26, _⟩ => ⟨S_, .f32⟩
  | .hbm, ⟨27, _⟩ => ⟨S4x192x1024, .f32⟩
  | .hbm, ⟨28, _⟩ => ⟨S4x192x1024, .f32⟩
  | .hbm, ⟨29, _⟩ => ⟨S4x192x1024, .f32⟩
  | .hbm, ⟨30, _⟩ => ⟨S_, .f32⟩
  | .hbm, ⟨31, _⟩ => ⟨S4x192x1024, .f32⟩
  | .hbm, ⟨32, _⟩ => ⟨S4x192x1024, .f32⟩
  | .hbm, ⟨33, _⟩ => ⟨S4x192x1024, .f32⟩
  | .hbm, ⟨34, _⟩ => ⟨S_, .f32⟩
  | .hbm, ⟨35, _⟩ => ⟨S4x192x1024, .f32⟩
  | .hbm, ⟨36, _⟩ => ⟨S4x192x1024, .f32⟩
  | _, _ => ⟨S4x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel22Ideal.lean ====
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x704x1024 : Shape := ⟨3, ![4, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel25.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .bf16⟩
  | .hbm, ⟨2, _⟩ => ⟨S2048x1024, .f32⟩
  | .local _ .vmem, ⟨0, _⟩ => ⟨S256x512, .f32⟩
  | .local _ .vmem, ⟨1, _⟩ => ⟨S256x512, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S256x2048 : Shape := ⟨2, ![256, 2048]⟩
abbrev S256x1024 : Shape := ⟨2, ![256, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .bf16⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S2048x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S256x1024, .f32⟩
  | .local _ .vmem, ⟨0, _⟩ => ⟨S256x2048, .f32⟩
  | .local _ .vmem, ⟨1, _⟩ => ⟨S2048x1024, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference26Ideal.lean ====
abbrev S256x2048 : Shape := ⟨2, ![256, 2048]⟩
abbrev S2048x1024 : Shape := ⟨2, ![2048, 1024]⟩
abbrev S1024x2048 : Shape := ⟨2, ![1024, 2048]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S256x1024, .f32⟩
  | .hbm, ⟨6, _⟩ => ⟨S256x2048, .f32⟩
  | .hbm, ⟨7, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S256x1024 : Shape := ⟨2, ![256, 1024]⟩
abbrev S4x256x1024 : Shape := ⟨3, ![4, 256, 1024]⟩
abbrev S1x1024 : Shape := ⟨2, ![1, 1024]⟩
abbrev S1x256x1024 : Shape := ⟨3, ![1, 256, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S4x256x1024, .f32⟩
  | .hbm, ⟨2, _⟩ => ⟨S1x1024, .f32⟩
  | .local _ .vmem, ⟨0, _⟩ => ⟨S256x1024, .f32⟩
  | .local _ .vmem, ⟨1, _⟩ => ⟨S4x256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference27Ideal.lean ====
abbrev S256x1024 : Shape := ⟨2, ![256, 1024]⟩
abbrev S4x256x1024 : Shape := ⟨3, ![4, 256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S1024, .f32⟩
  | .hbm, ⟨24, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel28.lean ====
abbrev S4096x5632 : Shape := ⟨2, ![4096, 5632]⟩
abbrev S2816x1024 : Shape := ⟨2, ![2816, 1024]⟩
abbrev S1x1024 : Shape := ⟨2, ![1, 1024]⟩
abbrev S4096x1024 : Shape := ⟨2, ![4096, 1024]⟩
abbrev S4096x2816 : Shape := ⟨2, ![4096, 2816]⟩
abbrev S256x5632 : Shape := ⟨2, ![256, 5632]⟩
abbrev S256x1024 : Shape := ⟨2, ![256, 1024]⟩
abbrev S256x2816 : Shape := ⟨2, ![256, 2816]⟩
abbrev S256x640 : Shape := ⟨2, ![256, 640]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference28Ideal.lean ====
abbrev S4096x5632 : Shape := ⟨2, ![4096, 5632]⟩
abbrev S2816x1024 : Shape := ⟨2, ![2816, 1024]⟩
abbrev S1x1024 : Shape := ⟨2, ![1, 1024]⟩
abbrev S4096x1024 : Shape := ⟨2, ![4096, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S2816x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel29.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Kernel29Ideal.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference29Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S3x128x1024, .f32⟩
  | .hbm, ⟨3, _⟩ => ⟨S_, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel30.lean ====
abbrev S192x1024 : Shape := ⟨2, ![192, 1024]⟩
abbrev S3x192x1024 : Shape := ⟨3, ![3, 192, 1024]⟩
abbrev S1x192x1024 : Shape := ⟨3, ![1, 192, 1024]⟩

abbrev nBuf : Space → Nat
  | .hbm => 3
  | .vmem => 3
  | .smem => 0
  | _ => 0

abbrev bufTy : (tb : Table) → Fin (tcTables nBuf tb) → BufTy
  | .hbm, ⟨0, _⟩ => ⟨S192x1024, .f32⟩
  | .hbm, ⟨1, _⟩ => ⟨S3x192x1024, .bf16⟩
  | .hbm, ⟨2, _⟩ => ⟨S192x1024, .f32⟩
  | .local _ .vmem, ⟨0, _⟩ => ⟨S192x1024, .f32⟩
  | .local _ .vmem, ⟨1, _⟩ => ⟨S3x192x1024, .bf16⟩
  | .local _ .vmem, ⟨2, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Kernel30Ideal.lean ====
abbrev S192x1024 : Shape := ⟨2, ![192, 1024]⟩
abbrev S3x192x1024 : Shape := ⟨3, ![3, 192, 1024]⟩
abbrev S1x192x1024 : Shape := ⟨3, ![1, 192, 1024]⟩

abbrev nBuf : Space → Nat
  | .hbm => 3
  | .vmem => 3
  | .smem => 0
  | _ => 0

abbrev bufTy : (tb : Table) → Fin (tcTables nBuf tb) → BufTy
  | .hbm, ⟨0, _⟩ => ⟨S192x1024, .f32⟩
  | .hbm, ⟨1, _⟩ => ⟨S3x192x1024, .bf16⟩
  | .hbm, ⟨2, _⟩ => ⟨S192x1024, .f32⟩
  | .local _ .vmem, ⟨0, _⟩ => ⟨S192x1024, .f32⟩
  | .local _ .vmem, ⟨1, _⟩ => ⟨S3x192x1024, .bf16⟩
  | .local _ .vmem, ⟨2, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference30Ideal.lean ====
abbrev S192x1024 : Shape := ⟨2, ![192, 1024]⟩
abbrev S3x192x1024 : Shape := ⟨3, ![3, 192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S3x192x1024, .bf16⟩
  | .hbm, ⟨2, _⟩ => ⟨S3x192x1024, .f32⟩
  | .hbm, ⟨3, _⟩ => ⟨S_, .f32⟩
  | .hbm, ⟨4, _⟩ => ⟨S192x1024, .f32⟩
  | .hbm, ⟨5, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel31.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Kernel31Ideal.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S256x1024 : Shape := ⟨2, ![256, 1024]⟩
abbrev S3x256x1024 : Shape := ⟨3, ![3, 256, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S3x256x1024, .f32⟩
  | .hbm, ⟨3, _⟩ => ⟨S_, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel32.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel32Ideal.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S3x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel33.lean ====
abbrev S704x1024 : Shape := ⟨2, ![704, 1024]⟩
abbrev S3x704x1024 : Shape := ⟨3, ![3, 704, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S3x704x1024, .f32⟩
  | .hbm, ⟨3, _⟩ => ⟨S_, .f32⟩
  | .hbm, ⟨4, _⟩ => ⟨S704x1024, .f32⟩
  | .hbm, ⟨5, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel34.lean ====
abbrev S4096x1536 : Shape := ⟨2, ![4096, 1536]⟩
abbrev S4096x128 : Shape := ⟨2, ![4096, 128]⟩
abbrev S1x256 : Shape := ⟨2, ![1, 256]⟩
abbrev S4x128x128 : Shape := ⟨3, ![4, 128, 128]⟩
abbrev S128x256 : Shape := ⟨2, ![128, 256]⟩
abbrev S256x256 : Shape := ⟨2, ![256, 256]⟩
abbrev S8 : Shape := ⟨1, ![8]⟩
abbrev S4096x1024 : Shape := ⟨2, ![4096, 1024]⟩
abbrev S128x1536 : Shape := ⟨2, ![128, 1536]⟩
abbrev S128x128 : Shape := ⟨2, ![128, 128]⟩
abbrev S128x1024 : Shape := ⟨2, ![128, 1024]⟩
abbrev S2x512x256 : Shape := ⟨3, ![2, 512, 256]⟩
abbrev S512x256 : Shape := ⟨2, ![512, 256]⟩
abbrev S1x512x256 : Shape := ⟨3, ![1, 512, 256]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩
abbrev S256x128 : Shape := ⟨2, ![256, 128]⟩
abbrev S512x128 : Shape := ⟨2, ![512, 128]⟩
abbrev S64x256 : Shape := ⟨2, ![64, 256]⟩
abbrev S1 : Shape := ⟨1, ![1]⟩
abbrev S64 : Shape := ⟨1, ![64]⟩
abbrev S64x1 : Shape := ⟨2, ![64, 1]⟩

abbrev nBuf : Space → Nat
  | .hbm => 10
  | .vmem => 22
  | .smem => 1
  | _ => 0

abbrev bufTy : (tb : Table) → Fin (tcTables nBuf tb) → BufTy
  | .hbm, ⟨0, _⟩ => ⟨S4096x1536, .bf16⟩
  | .hbm, ⟨1, _⟩ => ⟨S4096x128, .f32⟩
  | .hbm, ⟨2, _⟩ => ⟨S4096x128, .f32⟩
  | .hbm, ⟨3, _⟩ => ⟨S1x256, .f32⟩
  | .hbm, ⟨4, _⟩ => ⟨S4x128x128, .f32⟩
  | .hbm, ⟨5, _⟩ => ⟨S128x256, .f32⟩
  | .hbm, ⟨6, _⟩ => ⟨S256x256, .f32⟩
  | .hbm, ⟨7, _⟩ => ⟨S1x256, .f32⟩
  | .hbm, ⟨8, _⟩ => ⟨S8, .f32⟩
  | .hbm, ⟨9, _⟩ => ⟨S4096x1024, .bf16⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x256, .f32⟩
  | .local _ .vmem, ⟨15, _⟩ => ⟨S4x128x128, .f32⟩
  | .local _ .vmem, ⟨16, _⟩ => ⟨S128x256, .f32⟩
  | .local _ .vmem, ⟨17, _⟩ => ⟨S256x256, .f32⟩
  | .local _ .vmem, ⟨18, _⟩ => ⟨S1x256, .f32⟩
  | .local _ .vmem, ⟨19, _⟩ => ⟨S128x1024, .bf16⟩
  | .local _ .vmem, ⟨20, _⟩ => ⟨S128x1024, .bf16⟩
  | .local _ .vmem, ⟨21, _⟩ => ⟨S2x512x256, .f32⟩
  | .local _ .smem, ⟨0, _⟩ => ⟨S8, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c0_i32_145 : BitVec 32 := 0#32
  let v416 : BitVec 1 := Scalar.cmpi .sgt arg0 c0_i32_145
  let c0_i32_146 : BitVec 32 := 0#32
  let c1_i32_147 : BitVec 32 := 1#32
  let v417 : BitVec 32 := Scalar.select v416 c0_i32_146 c1_i32_147
  let v418 : Index := Scalar.indexCast v417
  let c0_148 : Index := 0#32
  let c0_149 : Index := 0#32
  ![v418.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Proof.Frames.lean ====
/- The references run, leave their arguments as they were and have no semaphore to leave raised. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Proof.Gen.Reference33Ideal.Run
public import Idealize.ShloMosaic.Lib.Quiescent

@[expose] public section

set_option maxRecDepth 16384

noncomputable section

namespace Cert.Proof

open Idealize.ShloMosaic Idealize.ShloMosaic.TcCoe Idealize.SL.Sem

theorem frame_reference : Cert.quiescent_ReferenceIdeal := fun m g _ =>
  (θ_run _ _ _).mono (fun r h => ⟨fun c => (h c).2.2, sem_eq_zero_of_no_sems (by decide) r.2⟩) (Cert.ReferenceIdeal.Value.run m g)

theorem frame_reference2 : Cert.quiescent_Reference2Ideal := fun m g _ =>
  (θ_run _ _ _).mono (fun r h => ⟨fun c => (h c).2, sem_eq_zero_of_no_sems (by decide) r.2⟩) (Cert.Reference2Ideal.Value.run m g)

theorem frame_reference3 : Cert.quiescent_Reference3Ideal := fun m g _ =>
  (θ_run _ _ _).mono (fun r h => ⟨fun c => (h c).2.2.2.2, sem_eq_zero_of_no_sems (by decide) r.2⟩) (Cert.Reference3Ideal.Value.run m g)

theorem frame_reference4 : Cert.quiescent_Reference4Ideal := fun m g _ =>
  (θ_run _ _ _).mono (fun r h => ⟨fun c => (h c).2, sem_eq_zero_of_no_sems (by decide) r.2⟩) (Cert.Reference4Ideal.Value.run m g)

theorem frame_reference5 : Cert.quiescent_Reference5Ideal := fun m g _ =>
  (θ_run _ _ _).mono (fun r h => ⟨fun c => (h c).2, sem_eq_zero_of_no_sems (by decide) r.2⟩) (Cert.Reference5Ideal.Value.run m g)

theorem frame_reference6 : Cert.quiescent_Reference6Ideal := fun m g _ =>
  (θ_run _ _ _).mono (fun r h => ⟨fun c => (h c).2, sem_eq_zero_of_no_sems (by decide) r.2⟩) (Cert.Reference6Ideal.Value.run m g)

theorem frame_reference7 : Cert.quiescent_Reference7Ideal := fun m g _ =>
  (θ_run _ _ _).mono (fun r h => ⟨fun c => (h c).2.2.2.2, sem_eq_zero_of_no_sems (by decide) r.2⟩) (Cert.Reference7Ideal.Value.run m g)

theorem frame_reference8 : Cert.quiescent_Reference8Ideal := fun m g _ =>
  (θ_run _ _ _).mono (fun r h => ⟨fun c => (h c).2.2.2.2, sem_eq_zero_of_no_sems (by decide) r.2⟩) (Cert.Reference8Ideal.Value.run m g)

theorem frame_reference9 : Cert.quiescent_Reference9Ideal := fun m g _ =>
  (θ_run _ _ _).mono (fun r h => ⟨fun c => (h c).2.2.2.2, sem_eq_zero_of_no_sems (by decide) r.2⟩) (Cert.Reference9Ideal.Value.run m g)

theorem frame_reference10 : Cert.quiescent_Reference10Ideal := fun m g _ =>
  (θ_run _ _ _).mono (fun r h => ⟨fun c => (h c).2, sem_eq_zero_of_no_sems (by decide) r.2⟩) (Cert.Reference10Ideal.Value.run m g)

theorem frame_reference11 : Cert.quiescent_Reference11Ideal := fun m g _ =>
  (θ_run _ _ _).mono (fun r h => ⟨fun c => (h c).2, sem_eq_zero_of_no_sems (by decide) r.2⟩) (Cert.Reference11Ideal.Value.run m g)

theorem frame_reference12 : Cert.quiescent_Reference12Ideal := fun m g _ =>
  (θ_run _ _ _).mono (fun r h => ⟨fun c => (h c).2, sem_eq_zero_of_no_sems (by decide) r.2⟩) (Cert.Reference12Ideal.Value.run m g)

theorem frame_reference13 : Cert.quiescent_Reference13Ideal := fun m g _ =>
  (θ_run _ _ _).mono (fun r h => ⟨fun c => (h c).2.2.2, sem_eq_zero_of_no_sems (by decide) r.2⟩) (Cert.Reference13Ideal.Value.run m g)

theorem frame_reference14 : Cert.quiescent_Reference14Ideal := fun m g _ =>
  (θ_run _ _ _).mono (fun r h => ⟨fun c => (h c).2, sem_eq_zero_of_no_sems (by decide) r.2⟩) (Cert.Reference14Ideal.Value.run m g)

theorem frame_reference15 : Cert.quiescent_Reference15Ideal := fun m g _ =>
  (θ_run _ _ _).mono (fun r h => ⟨fun c => (h c).2, sem_eq_zero_of_no_sems (by decide) r.2⟩) (Cert.Reference15Ideal.Value.run m g)

theorem frame_reference16 : Cert.quiescent_Reference16Ideal := fun m g _ =>
  (θ_run _ _ _).mono (fun r h => ⟨fun c => (h c).2.2, sem_eq_zero_of_no_sems (by decide) r.2⟩) (Cert.Reference16Ideal.Value.run m g)

theorem frame_reference17 : Cert.quiescent_Reference17Ideal := fun m g _ =>
  (θ_run _ _ _).mono (fun r h => ⟨fun c => (h c).2.2.2.2, sem_eq_zero_of_no_sems (by decide) r.2⟩) (Cert.Reference17Ideal.Value.run m g)

theorem frame_reference18 : Cert.quiescent_Reference18Ideal := fun m g _ =>
  (θ_run _ _ _).mono (fun r h => ⟨fun c => (h c).2.2.2.2, sem_eq_zero_of_no_sems (by decide) r.2⟩) (Cert.Reference18Ideal.Value.run m g)

theorem frame_reference19 : Cert.quiescent_Reference19Ideal := fun m g _ =>
  (θ_run _ _ _).mono (fun r h => ⟨fun c => (h c).2.2.2, sem_eq_zero_of_no_sems (by decide) r.2⟩) (Cert.Reference19Ideal.Value.run m g)

theorem frame_reference20 : Cert.quiescent_Reference20Ideal := fun m g _ =>
  (θ_run _ _ _).mono (fun r h => ⟨fun c => (h c).2.2.2, sem_eq_zero_of_no_sems (by decide) r.2⟩) (Cert.Reference20Ideal.Value.run m g)

theorem frame_reference21 : Cert.quiescent_Reference21Ideal := fun m g _ =>
  (θ_run _ _ _).mono (fun r h => ⟨fun c => (h c).2.2.2, sem_eq_zero_of_no_sems (by decide) r.2⟩) (Cert.Reference21Ideal.Value.run m g)

theorem frame_reference22 : Cert.quiescent_Reference22Ideal := fun m g _ =>
  (θ_run _ _ _).mono (fun r h => ⟨fun c => (h c).2.2.2, sem_eq_zero_of_no_sems (by decide) r.2⟩) (Cert.Reference22Ideal.Value.run m g)

theorem frame_reference23 : Cert.quiescent_Reference23Ideal := fun m g _ =>
  (θ_run _ _ _).mono (fun r h => ⟨fun c => (h c).2.2.2, sem_eq_zero_of_no_sems (by decide) r.2⟩) (Cert.Reference23Ideal.Value.run m g)

theorem frame_reference24 : Cert.quiescent_Reference24Ideal := fun m g _ =>
  (θ_run _ _ _).mono (fun r h => ⟨fun c => (h c).2, sem_eq_zero_of_no_sems (by decide) r.2⟩) (Cert.Reference24Ideal.Value.run m g)

theorem frame_reference25 : Cert.quiescent_Reference25Ideal := fun m g _ =>
  (θ_run _ _ _).mono (fun r h => ⟨fun c => (h c).2, sem_eq_zero_of_no_sems (by decide) r.2⟩) (Cert.Reference25Ideal.Value.run m g)

theorem frame_reference26 : Cert.quiescent_Reference26Ideal := fun m g _ =>
  (θ_run _ _ _).mono (fun r h => ⟨fun c => (h c).2, sem_eq_zero_of_no_sems (by decide) r.2⟩) (Cert.Reference26Ideal.Value.run m g)

theorem frame_reference27 : Cert.quiescent_Reference27Ideal := fun m g _ =>
  (θ_run _ _ _).mono (fun r h => ⟨fun c => (h c).2, sem_eq_zero_of_no_sems (by decide) r.2⟩) (Cert.Reference27Ideal.Value.run m g)

theorem frame_reference28 : Cert.quiescent_Reference28Ideal := fun m g _ =>
  (θ_run _ _ _).mono (fun r h => ⟨fun c => (h c).2.2.2, sem_eq_zero_of_no_sems (by decide) r.2⟩) (Cert.Reference28Ideal.Value.run m g)

theorem frame_reference29 : Cert.quiescent_Reference29Ideal := fun m g _ =>
  (θ_run _ _ _).mono (fun r h => ⟨fun c => (h c).2, sem_eq_zero_of_no_sems (by decide) r.2⟩) (Cert.Reference29Ideal.Value.run m g)

theorem frame_reference30 : Cert.quiescent_Reference30Ideal := fun m g _ =>
  (θ_run _ _ _).mono (fun r h => ⟨fun c => (h c).2, sem_eq_zero_of_no_sems (by decide) r.2⟩) (Cert.Reference30Ideal.Value.run m g)

theorem frame_reference31 : Cert.quiescent_Reference31Ideal := fun m g _ =>
  (θ_run _ _ _).mono (fun r h => ⟨fun c => (h c).2, sem_eq_zero_of_no_sems (by decide) r.2⟩) (Cert.Reference31Ideal.Value.run m g)

theorem frame_reference32 : Cert.quiescent_Reference32Ideal := fun m g _ =>
  (θ_run _ _ _).mono (fun r h => ⟨fun c => (h c).2, sem_eq_zero_of_no_sems (by decide) r.2⟩) (Cert.Reference32Ideal.Value.run m g)

theorem frame_reference33 : Cert.quiescent_Reference33Ideal := fun m g _ =>
  (θ_run _ _ _).mono (fun r h => ⟨fun c => (h c).2, sem_eq_zero_of_no_sems (by decide) r.2⟩) (Cert.Reference33Ideal.Value.run m g)

end Cert.Proof

end
-- ==== Proof.Payload.lean ====
/- What one head of one grid point computes, read at an index: the probabilities, the gradient of the scores, and the three
   products stored. The four heads run the same text, so the lemmas are stated for the first and the others are equal to it. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Xattn

/-- The scale of the scores, one sixteenth, as both programs write it. -/
def sixteenth : EReal := Ideal.ofBits .f32 0x3D800000#32

/-- The largest score. -/
def top (x : Fin 256 → EReal) : EReal := Finset.univ.fold max (Ideal.ofBits .f32 0xFF800000#32) x

/-- The exponential of a score below the largest. -/
def weight (x : Fin 256 → EReal) (m : Fin 256) : EReal := Ideal.exp (x m - top x)

/-- The softmax of the scores `x`. -/
def prob (x : Fin 256 → EReal) (m : Fin 256) : EReal := Ideal.div (weight x m) (∑ k, weight x k)

/-- The gradient of the unscaled scores, from the scores `x` and the gradient `d` of the probabilities. -/
def dscore (x d : Fin 256 → EReal) (m : Fin 256) : EReal := prob x m * (d m - ∑ k, prob x k * d k) * sixteenth

end Cert.Xattn

namespace Cert.KernelIdeal.Value

open Cert.KernelIdeal Cert.KernelIdeal.Gen Cert.Xattn

variable (q : FVec Ideal S512x256 .bf16) (k v : FVec Ideal S256x256 .bf16) (g : FVec Ideal S512x256 .bf16) (acc : FVec Ideal S256x256 .f32)

/-- The scores of query row `r` of a block against the keys. -/
def rowScores (r : Fin 512) (m : Fin 256) : EReal := (∑ l : Fin 256, k (ix2 m l) * q (ix2 r l)) * sixteenth

/-- The gradient of the probabilities of query row `r` of a block. -/
def rowGrads (r : Fin 512) (m : Fin 256) : EReal := ∑ l : Fin 256, v (ix2 m l) * g (ix2 r l)

theorem pay7_at (m : Fin 256) (r : Fin 512) : k0_pay7 (F := Ideal) q k (ix2 m r) = prob (rowScores q k r) m := by
  pointwise [k0_pay7, prob, weight, top, rowScores, sixteenth]

theorem pay8_at (m : Fin 256) (r : Fin 512) : k0_pay8 (F := Ideal) q k v g (ix2 m r) = dscore (rowScores q k r) (rowGrads v g r) m := by
  pointwise [k0_pay8, pay7_at, dscore, rowGrads, sixteenth]

theorem pay9_at (m l : Fin 256) :
    k0_pay9 (F := Ideal) q k v g acc (ix2 m l) = acc (ix2 m l) + ∑ r : Fin 512, dscore (rowScores q k r) (rowGrads v g r) m * q (ix2 r l) := by
  pointwise [k0_pay9, pay8_at]

theorem pay10_at (m l : Fin 256) :
    k0_pay10 (F := Ideal) g (k0_pay7 q k) acc (ix2 m l) = acc (ix2 m l) + ∑ r : Fin 512, prob (rowScores q k r) m * g (ix2 r l) := by
  pointwise [k0_pay10, pay7_at]

theorem pay11_at (r : Fin 512) (l : Fin 256) :
    k0_pay11 (F := Ideal) k (k0_pay8 q k v g) (ix2 r l) = ∑ m : Fin 256, dscore (rowScores q k r) (rowGrads v g r) m * k (ix2 m l) := by
  pointwise [k0_pay11, pay8_at]

/-! The other heads' stores are the first head's, at their own columns. -/

theorem keys_1 : k0_pay14 (F := Ideal) q (k0_pay13 q k v g) acc = k0_pay9 q k v g acc := rfl
theorem values_1 : k0_pay15 (F := Ideal) g (k0_pay12 q k) acc = k0_pay10 g (k0_pay7 q k) acc := rfl
theorem queries_1 : k0_pay16 (F := Ideal) k (k0_pay13 q k v g) = k0_pay11 k (k0_pay8 q k v g) := rfl

theorem keys_2 : k0_pay21 (F := Ideal) q (k0_pay17 q k) (k0_pay18 v g) (k0_pay19 q k v g) acc = k0_pay9 q k v g acc := rfl
theorem values_2 : k0_pay22 (F := Ideal) g (k0_pay17 q k) acc = k0_pay10 g (k0_pay7 q k) acc := rfl
theorem queries_2 : k0_pay23 (F := Ideal) k (k0_pay17 q k) (k0_pay18 v g) (k0_pay19 q k v g) = k0_pay11 k (k0_pay8 q k v g) := rfl

theorem keys_3 : k0_pay3 (F := Ideal) q v g (k0_pay24 q k) (k0_pay25 q k) acc = k0_pay9 q k v g acc := rfl
theorem values_3 : k0_pay4 (F := Ideal) g (k0_pay24 q k) (k0_pay25 q k) acc = k0_pay10 g (k0_pay7 q k) acc := rfl
theorem queries_3 : k0_pay5 (F := Ideal) k v g (k0_pay24 q k) (k0_pay25 q k) = k0_pay11 k (k0_pay8 q k v g) := rfl

end Cert.KernelIdeal.Value

end
-- ==== Proof.Stores.lean ====
/- A buffer read back after stores of which the latest cover it. -/
module

public import Idealize.ShloMosaic.Lib.Pipeline.ReadBack
public import Idealize.ShloMosaic.Lib.Pipeline.ValueKit
public import Idealize.ShloMosaic.Lib.IdealHost

@[expose] public section

namespace Cert.Stores

open Idealize.ShloMosaic

variable {S : Shape} {e : EltTy} (G : S.Idx → Elt Ideal e)

/-- Stores of which the latest `n` are blocks of `G` and cover the index leave `G` there, whatever was stored before. -/
theorem canon_latest (n : ℕ) (L : List (View.Piece (Elt Ideal) S e)) (y : S.Idx) (h : View.PiecesOf G (L.take n))
    (hc : ∃ p ∈ L.take n, y ∈ p.1.set) : View.canon L y = G y := by
  conv_lhs => rw [← List.take_append_drop n L]
  exact View.canon_append_of_piecesOf G _ _ h y hc

/-- Stores that are all blocks of `G` and cover the index leave `G` there. -/
theorem canon_all (L : List (View.Piece (Elt Ideal) S e)) (y : S.Idx) (h : View.PiecesOf G L) (hc : ∃ p ∈ L, y ∈ p.1.set) :
    View.canon L y = G y := by
  rw [← List.append_nil L]
  exact View.canon_append_of_piecesOf G _ _ h y hc

/-- What a load reads of a buffer stored whole. -/
theorem read_whole {sig : RefSig} {κ : Kind} {sp : Space} (v : View sig κ sp S e) {off : Fin S.rank → ℕ} (inb : ∀ a, off a + S.size a ≤ S.size a)
    (h : ∀ a, off a = 0) (r : LoadRect S) :
    v.readCov [(⟨Rect.unit off (no_index S.size) inb, G⟩ : View.Piece (Elt Ideal) S e)] r = fun x => G (r.idx x) := by
  rw [View.readCov_eq_canon', View.canon_cons_unit_lit inb G [] h]

end Cert.Stores

end
-- ==== Proof.Blocks.lean ====
/- What one grid point leaves in its two output blocks: the four heads' products put together. -/
module

public import proofs.«01_k».proof.Proof.Payload
public import proofs.«01_k».proof.Proof.Stores
public import proofs.«01_k».proof.Proof.Gen.KernelIdeal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Xattn

/-- Column `l` of head `h`, among the columns of the queries and of the keys. -/
def col (h : Fin 4) (l : Fin 256) : Fin 1024 := ⟨256 * h.val + l.val, by omega⟩

/-- Column `l` of head `h`'s keys in the array of keys and values. -/
def kcol (h : Fin 4) (l : Fin 256) : Fin 2048 := ⟨256 * h.val + l.val, by omega⟩

/-- Column `l` of head `h`'s values in the array of keys and values. -/
def vcol (h : Fin 4) (l : Fin 256) : Fin 2048 := ⟨1024 + (256 * h.val + l.val), by omega⟩

/-- The head that column `j` of the queries belongs to, and the column's place in it. -/
def head (j : Fin 1024) : Fin 4 := ⟨j.val / 256, by omega⟩
def lane (j : Fin 1024) : Fin 256 := ⟨j.val % 256, by omega⟩

/-- The scores of one query row `q` against the keys of head `h`. -/
def scores (kv : FVec Ideal ⟨2, ![256, 2048]⟩ .bf16) (q : Fin 1024 → EReal) (h : Fin 4) (m : Fin 256) : EReal :=
  (∑ l : Fin 256, kv (ix2 m (kcol h l)) * q (col h l)) * sixteenth

/-- The gradient of the probabilities of one row `g` of the output's gradient, in head `h`. -/
def grads (kv : FVec Ideal ⟨2, ![256, 2048]⟩ .bf16) (g : Fin 1024 → EReal) (h : Fin 4) (m : Fin 256) : EReal :=
  ∑ l : Fin 256, kv (ix2 m (vcol h l)) * g (col h l)

/-- The gradient of one query row. -/
def dqRow (kv : FVec Ideal ⟨2, ![256, 2048]⟩ .bf16) (q g : Fin 1024 → EReal) (j : Fin 1024) : EReal :=
  ∑ m : Fin 256, dscore (scores kv q (head j)) (grads kv g (head j)) m * kv (ix2 m (kcol (head j) (lane j)))

/-- What one query row adds to the gradient of the keys at memory token `m`, column `j`. -/
def dkRow (kv : FVec Ideal ⟨2, ![256, 2048]⟩ .bf16) (q g : Fin 1024 → EReal) (m : Fin 256) (j : Fin 1024) : EReal :=
  dscore (scores kv q (head j)) (grads kv g (head j)) m * q j

/-- What one query row adds to the gradient of the values. -/
def dvRow (kv : FVec Ideal ⟨2, ![256, 2048]⟩ .bf16) (q g : Fin 1024 → EReal) (m : Fin 256) (j : Fin 1024) : EReal :=
  prob (scores kv q (head j)) m * g j

/-- Both, over the columns of keys and values side by side. -/
def dkvRow (kv : FVec Ideal ⟨2, ![256, 2048]⟩ .bf16) (q g : Fin 1024 → EReal) (m : Fin 256) (j : Fin 2048) : EReal :=
  if h : j.val < 1024 then dkRow kv q g m ⟨j.val, h⟩ else dvRow kv q g m ⟨j.val - 1024, by omega⟩

end Cert.Xattn

namespace Cert.KernelIdeal.Value

open Cert.KernelIdeal Cert.KernelIdeal.Gen Cert.Xattn Cert.Stores

variable (m : (ℓ : Loc nD τ sig) → Buf (Elt Ideal) ℓ)

/-- What a point adds to the block of the keys' and values' gradient. -/
def part4 (Q G : FVec Ideal S512x1024 .bf16) (KV : FVec Ideal S256x2048 .bf16) (y : S256x2048.Idx) : EReal :=
  ∑ r : Fin 512, dkvRow KV (fun j => Q (ix2 r j)) (fun j => G (ix2 r j)) (y 0) (y 1)

/-- The block of the queries' gradient, row by row. -/
def block3 (Q G : FVec Ideal S512x1024 .bf16) (KV : FVec Ideal S256x2048 .bf16) (y : S512x1024.Idx) : EReal :=
  dqRow KV (fun j => Q (ix2 (y 0) j)) (fun j => G (ix2 (y 0) j)) (y 1)

section

variable (Q G : FVec Ideal S512x1024 .bf16) (KV : FVec Ideal S256x2048 .bf16) (A : FVec Ideal S256x2048 .f32) (h : Fin 4)
  {q : FVec Ideal S512x256 .bf16} {k v : FVec Ideal S256x256 .bf16} {g : FVec Ideal S512x256 .bf16} {acc : FVec Ideal S256x256 .f32}

theorem head_col (h : Fin 4) (l : Fin 256) : head (col h l) = h := by
  apply Fin.ext; simp only [head, col]; omega

theorem lane_col (h : Fin 4) (l : Fin 256) : lane (col h l) = l := by
  apply Fin.ext; simp only [lane, col]; omega

theorem rowScores_eq (hq : ∀ r l, q (ix2 r l) = Q (ix2 r (col h l))) (hk : ∀ i l, k (ix2 i l) = KV (ix2 i (kcol h l))) (r : Fin 512) :
    rowScores q k r = scores KV (fun j => Q (ix2 r j)) h :=
  funext fun i => by simp only [rowScores, scores, hq, hk]

theorem rowGrads_eq (hv : ∀ i l, v (ix2 i l) = KV (ix2 i (vcol h l))) (hg : ∀ r l, g (ix2 r l) = G (ix2 r (col h l))) (r : Fin 512) :
    rowGrads v g r = grads KV (fun j => G (ix2 r j)) h :=
  funext fun i => by simp only [rowGrads, grads, hv, hg]

theorem keys_piece (hq : ∀ r l, q (ix2 r l) = Q (ix2 r (col h l))) (hk : ∀ i l, k (ix2 i l) = KV (ix2 i (kcol h l)))
    (hv : ∀ i l, v (ix2 i l) = KV (ix2 i (vcol h l))) (hg : ∀ r l, g (ix2 r l) = G (ix2 r (col h l)))
    (ha : ∀ i l, acc (ix2 i l) = A (ix2 i (kcol h l))) (i l : Fin 256)
    (z : S256x2048.Idx) (hz : z = ix2 i (kcol h l)) :
    k0_pay9 (F := Ideal) q k v g acc (ix2 i l) = A z + part4 Q G KV z := by
  subst hz
  have hj : (kcol h l).val < 1024 := by simp only [kcol]; omega
  rw [pay9_at, ha]
  refine congrArg _ (Finset.sum_congr rfl fun r _ => ?_)
  show _ = dkvRow KV _ _ i (kcol h l)
  rw [dkvRow, dif_pos hj]
  show _ = dkRow KV _ _ i (col h l)
  rw [dkRow, head_col, rowScores_eq Q KV h hq hk, rowGrads_eq G KV h hv hg, hq]

theorem values_piece (hq : ∀ r l, q (ix2 r l) = Q (ix2 r (col h l))) (hk : ∀ i l, k (ix2 i l) = KV (ix2 i (kcol h l)))
    (hg : ∀ r l, g (ix2 r l) = G (ix2 r (col h l)))
    (ha : ∀ i l, acc (ix2 i l) = A (ix2 i (vcol h l))) (i l : Fin 256)
    (z : S256x2048.Idx) (hz : z = ix2 i (vcol h l)) :
    k0_pay10 (F := Ideal) g (k0_pay7 q k) acc (ix2 i l) = A z + part4 Q G KV z := by
  subst hz
  have hj : ¬ (vcol h l).val < 1024 := by simp only [vcol]; omega
  have hl : (⟨(vcol h l).val - 1024, by simp only [vcol]; omega⟩ : Fin 1024) = col h l := by
    apply Fin.ext; simp only [vcol, col]; omega
  rw [pay10_at, ha]
  refine congrArg _ (Finset.sum_congr rfl fun r _ => ?_)
  show _ = dkvRow KV _ _ i (vcol h l)
  rw [dkvRow, dif_neg hj, hl]
  rw [dvRow, head_col, rowScores_eq Q KV h hq hk, hg]

theorem queries_piece (hq : ∀ r l, q (ix2 r l) = Q (ix2 r (col h l))) (hk : ∀ i l, k (ix2 i l) = KV (ix2 i (kcol h l)))
    (hv : ∀ i l, v (ix2 i l) = KV (ix2 i (vcol h l))) (hg : ∀ r l, g (ix2 r l) = G (ix2 r (col h l))) (r : Fin 512) (l : Fin 256)
    (z : S512x1024.Idx) (hz : z = ix2 r (col h l)) : k0_pay11 (F := Ideal) k (k0_pay8 q k v g) (ix2 r l) = block3 Q G KV z := by
  subst hz
  rw [pay11_at]
  show _ = dqRow KV (fun j => Q (ix2 r j)) (fun j => G (ix2 r j)) (col h l)
  rw [dqRow, head_col, lane_col, rowScores_eq Q KV h hq hk, rowGrads_eq G KV h hv hg]
  simp only [hk]

end

/-- At a point that is not the first the block of the keys' and values' gradient gains the point's part. -/
theorem step (c : Dev nD) (t : Fin cfg0.N) (h : ¬ t.val % 8 = 0) (y : S256x2048.Idx) :
    (outsAt0 m c t.val t.isLt).2 y = (outsAt0 m c (t.val - 1) (Nat.lt_of_le_of_lt (Nat.sub_le _ _) t.isLt)).2 y + part4 (iblk m c 0 t) (iblk m c 2 t) (iblk m c 1 t) y := by
  rw [outsAt0_B m c t h]
  frame_out
  refine canon_latest (e := .f32) (fun y => (outsAt0 m c (t.val - 1) (Nat.lt_of_le_of_lt (Nat.sub_le _ _) t.isLt)).2 y + part4 (iblk m c 0 t) (iblk m c 2 t) (iblk m c 1 t) y) 8 _ y ?_ ?_
  swap
  · refine View.cover_of_tiledL (s := S256x2048) _ S256x256.size ?_ y
    sl_kernel_rfl
  refine ⟨fun x => ?_, fun x => ?_, fun x => ?_, fun x => ?_, fun x => ?_, fun x => ?_, fun x => ?_, fun x => ?_, trivial⟩
  all_goals idx_vars x
  · refine (congrFun (values_3 _ _ _ _) _).trans (values_piece (iblk m c 0 t) (iblk m c 2 t) (iblk m c 1 t) (outsAt0 m c (t.val - 1) (Nat.lt_of_le_of_lt (Nat.sub_le _ _) t.isLt)).2 3 ?_ ?_ ?_ ?_ _ _ _ ?_)
    all_goals first | (intro r l; pointwise; blk_ext [col, kcol, vcol]; done) | (blk_ext [kcol, vcol]; done)
  · refine (congrFun (keys_3 _ _ _ _ _) _).trans (keys_piece (iblk m c 0 t) (iblk m c 2 t) (iblk m c 1 t) (outsAt0 m c (t.val - 1) (Nat.lt_of_le_of_lt (Nat.sub_le _ _) t.isLt)).2 3 ?_ ?_ ?_ ?_ ?_ _ _ _ ?_)
    all_goals first | (intro r l; pointwise; blk_ext [col, kcol, vcol]; done) | (blk_ext [kcol, vcol]; done)
  · refine (congrFun (values_2 _ _ _ _) _).trans (values_piece (iblk m c 0 t) (iblk m c 2 t) (iblk m c 1 t) (outsAt0 m c (t.val - 1) (Nat.lt_of_le_of_lt (Nat.sub_le _ _) t.isLt)).2 2 ?_ ?_ ?_ ?_ _ _ _ ?_)
    all_goals first | (intro r l; pointwise; blk_ext [col, kcol, vcol]; done) | (blk_ext [kcol, vcol]; done)
  · refine (congrFun (keys_2 _ _ _ _ _) _).trans (keys_piece (iblk m c 0 t) (iblk m c 2 t) (iblk m c 1 t) (outsAt0 m c (t.val - 1) (Nat.lt_of_le_of_lt (Nat.sub_le _ _) t.isLt)).2 2 ?_ ?_ ?_ ?_ ?_ _ _ _ ?_)
    all_goals first | (intro r l; pointwise; blk_ext [col, kcol, vcol]; done) | (blk_ext [kcol, vcol]; done)
  · refine (congrFun (values_1 _ _ _ _) _).trans (values_piece (iblk m c 0 t) (iblk m c 2 t) (iblk m c 1 t) (outsAt0 m c (t.val - 1) (Nat.lt_of_le_of_lt (Nat.sub_le _ _) t.isLt)).2 1 ?_ ?_ ?_ ?_ _ _ _ ?_)
    all_goals first | (intro r l; pointwise; blk_ext [col, kcol, vcol]; done) | (blk_ext [kcol, vcol]; done)
  · refine (congrFun (keys_1 _ _ _ _ _) _).trans (keys_piece (iblk m c 0 t) (iblk m c 2 t) (iblk m c 1 t) (outsAt0 m c (t.val - 1) (Nat.lt_of_le_of_lt (Nat.sub_le _ _) t.isLt)).2 1 ?_ ?_ ?_ ?_ ?_ _ _ _ ?_)
    all_goals first | (intro r l; pointwise; blk_ext [col, kcol, vcol]; done) | (blk_ext [kcol, vcol]; done)
  · refine (values_piece (iblk m c 0 t) (iblk m c 2 t) (iblk m c 1 t) (outsAt0 m c (t.val - 1) (Nat.lt_of_le_of_lt (Nat.sub_le _ _) t.isLt)).2 0 ?_ ?_ ?_ ?_ _ _ _ ?_)
    all_goals first | (intro r l; pointwise; blk_ext [col, kcol, vcol]; done) | (blk_ext [kcol, vcol]; done)
  · refine (keys_piece (iblk m c 0 t) (iblk m c 2 t) (iblk m c 1 t) (outsAt0 m c (t.val - 1) (Nat.lt_of_le_of_lt (Nat.sub_le _ _) t.isLt)).2 0 ?_ ?_ ?_ ?_ ?_ _ _ _ ?_)
    all_goals first | (intro r l; pointwise; blk_ext [col, kcol, vcol]; done) | (blk_ext [kcol, vcol]; done)

theorem zero_at (y : S256x2048.Idx) : k0_pay6 (F := Ideal) y = 0 := by pointwise [k0_pay6]

/-- At the first point the block is the point's part alone. -/
theorem first (c : Dev nD) (t : Fin cfg0.N) (h : t.val % 8 = 0) (y : S256x2048.Idx) :
    (outsAt0 m c t.val t.isLt).2 y = 0 + part4 (iblk m c 0 t) (iblk m c 2 t) (iblk m c 1 t) y := by
  rw [outsAt0_A m c t h, ← zero_at y]
  frame_open
  simp (disch := decide) only [↓ View.readCov_skip, ↓ View.readCov_cons_toLoadRect, ↓ View.readCov_fill]
  frame_out
  refine canon_latest (e := .f32) (fun y => k0_pay6 (F := Ideal) y + part4 (iblk m c 0 t) (iblk m c 2 t) (iblk m c 1 t) y) 8 _ y ?_ ?_
  swap
  · refine View.cover_of_tiledL (s := S256x2048) _ S256x256.size ?_ y
    sl_kernel_rfl
  refine ⟨fun x => ?_, fun x => ?_, fun x => ?_, fun x => ?_, fun x => ?_, fun x => ?_, fun x => ?_, fun x => ?_, trivial⟩
  all_goals idx_vars x
  · refine (congrFun (values_3 _ _ _ _) _).trans (values_piece (iblk m c 0 t) (iblk m c 2 t) (iblk m c 1 t) k0_pay6 3 ?_ ?_ ?_ ?_ _ _ _ ?_)
    all_goals first | (intro r l; pointwise; blk_ext [col, kcol, vcol]; done) | (blk_ext [kcol, vcol]; done)
  · refine (congrFun (keys_3 _ _ _ _ _) _).trans (keys_piece (iblk m c 0 t) (iblk m c 2 t) (iblk m c 1 t) k0_pay6 3 ?_ ?_ ?_ ?_ ?_ _ _ _ ?_)
    all_goals first | (intro r l; pointwise; blk_ext [col, kcol, vcol]; done) | (blk_ext [kcol, vcol]; done)
  · refine (congrFun (values_2 _ _ _ _) _).trans (values_piece (iblk m c 0 t) (iblk m c 2 t) (iblk m c 1 t) k0_pay6 2 ?_ ?_ ?_ ?_ _ _ _ ?_)
    all_goals first | (intro r l; pointwise; blk_ext [col, kcol, vcol]; done) | (blk_ext [kcol, vcol]; done)
  · refine (congrFun (keys_2 _ _ _ _ _) _).trans (keys_piece (iblk m c 0 t) (iblk m c 2 t) (iblk m c 1 t) k0_pay6 2 ?_ ?_ ?_ ?_ ?_ _ _ _ ?_)
    all_goals first | (intro r l; pointwise; blk_ext [col, kcol, vcol]; done) | (blk_ext [kcol, vcol]; done)
  · refine (congrFun (values_1 _ _ _ _) _).trans (values_piece (iblk m c 0 t) (iblk m c 2 t) (iblk m c 1 t) k0_pay6 1 ?_ ?_ ?_ ?_ _ _ _ ?_)
    all_goals first | (intro r l; pointwise; blk_ext [col, kcol, vcol]; done) | (blk_ext [kcol, vcol]; done)
  · refine (congrFun (keys_1 _ _ _ _ _) _).trans (keys_piece (iblk m c 0 t) (iblk m c 2 t) (iblk m c 1 t) k0_pay6 1 ?_ ?_ ?_ ?_ ?_ _ _ _ ?_)
    all_goals first | (intro r l; pointwise; blk_ext [col, kcol, vcol]; done) | (blk_ext [kcol, vcol]; done)
  · refine (values_piece (iblk m c 0 t) (iblk m c 2 t) (iblk m c 1 t) k0_pay6 0 ?_ ?_ ?_ ?_ _ _ _ ?_)
    all_goals first | (intro r l; pointwise; blk_ext [col, kcol, vcol]; done) | (blk_ext [kcol, vcol]; done)
  · refine (keys_piece (iblk m c 0 t) (iblk m c 2 t) (iblk m c 1 t) k0_pay6 0 ?_ ?_ ?_ ?_ ?_ _ _ _ ?_)
    all_goals first | (intro r l; pointwise; blk_ext [col, kcol, vcol]; done) | (blk_ext [kcol, vcol]; done)

theorem queries (c : Dev nD) (t : Fin cfg0.N) (y : S512x1024.Idx) :
    (outsAt0 m c t.val t.isLt).1 y = block3 (iblk m c 0 t) (iblk m c 2 t) (iblk m c 1 t) y := by
  by_cases h : t.val % 8 = 0
  · rw [outsAt0_A m c t h]
    frame_out
    refine canon_latest (e := .bf16) (block3 (iblk m c 0 t) (iblk m c 2 t) (iblk m c 1 t)) 4 _ y ?_ ?_
    swap
    · refine View.cover_of_tiledL (s := S512x1024) _ S512x256.size ?_ y
      sl_kernel_rfl
    refine ⟨fun x => ?_, fun x => ?_, fun x => ?_, fun x => ?_, trivial⟩
    all_goals idx_vars x
    · refine (congrFun (queries_3 _ _ _ _) _).trans (queries_piece (iblk m c 0 t) (iblk m c 2 t) (iblk m c 1 t) 3 ?_ ?_ ?_ ?_ _ _ _ ?_)
      all_goals first | (intro r l; pointwise; blk_ext [col, kcol, vcol]; done) | (blk_ext [col]; done)
    · refine (congrFun (queries_2 _ _ _ _) _).trans (queries_piece (iblk m c 0 t) (iblk m c 2 t) (iblk m c 1 t) 2 ?_ ?_ ?_ ?_ _ _ _ ?_)
      all_goals first | (intro r l; pointwise; blk_ext [col, kcol, vcol]; done) | (blk_ext [col]; done)
    · refine (congrFun (queries_1 _ _ _ _) _).trans (queries_piece (iblk m c 0 t) (iblk m c 2 t) (iblk m c 1 t) 1 ?_ ?_ ?_ ?_ _ _ _ ?_)
      all_goals first | (intro r l; pointwise; blk_ext [col, kcol, vcol]; done) | (blk_ext [col]; done)
    · refine (queries_piece (iblk m c 0 t) (iblk m c 2 t) (iblk m c 1 t) 0 ?_ ?_ ?_ ?_ _ _ _ ?_)
      all_goals first | (intro r l; pointwise; blk_ext [col, kcol, vcol]; done) | (blk_ext [col]; done)

  · rw [outsAt0_B m c t h]
    frame_out
    refine canon_latest (e := .bf16) (block3 (iblk m c 0 t) (iblk m c 2 t) (iblk m c 1 t)) 4 _ y ?_ ?_
    swap
    · refine View.cover_of_tiledL (s := S512x1024) _ S512x256.size ?_ y
      sl_kernel_rfl
    refine ⟨fun x => ?_, fun x => ?_, fun x => ?_, fun x => ?_, trivial⟩
    all_goals idx_vars x
    · refine (congrFun (queries_3 _ _ _ _) _).trans (queries_piece (iblk m c 0 t) (iblk m c 2 t) (iblk m c 1 t) 3 ?_ ?_ ?_ ?_ _ _ _ ?_)
      all_goals first | (intro r l; pointwise; blk_ext [col, kcol, vcol]; done) | (blk_ext [col]; done)
    · refine (congrFun (queries_2 _ _ _ _) _).trans (queries_piece (iblk m c 0 t) (iblk m c 2 t) (iblk m c 1 t) 2 ?_ ?_ ?_ ?_ _ _ _ ?_)
      all_goals first | (intro r l; pointwise; blk_ext [col, kcol, vcol]; done) | (blk_ext [col]; done)
    · refine (congrFun (queries_1 _ _ _ _) _).trans (queries_piece (iblk m c 0 t) (iblk m c 2 t) (iblk m c 1 t) 1 ?_ ?_ ?_ ?_ _ _ _ ?_)
      all_goals first | (intro r l; pointwise; blk_ext [col, kcol, vcol]; done) | (blk_ext [col]; done)
    · refine (queries_piece (iblk m c 0 t) (iblk m c 2 t) (iblk m c 1 t) 0 ?_ ?_ ?_ ?_ _ _ _ ?_)
      all_goals first | (intro r l; pointwise; blk_ext [col, kcol, vcol]; done) | (blk_ext [col]; done)

end Cert.KernelIdeal.Value

end
-- ==== Proof.Final.lean ====
/- The kernel's two result arrays, as functions of its arguments. -/
module

public import proofs.«01_k».proof.Proof.Blocks
public import proofs.«01_k».proof.Proof.Gen.KernelIdeal.Value

@[expose] public section

set_option maxRecDepth 16384

noncomputable section

open Idealize.ShloMosaic Idealize.ShloMosaic.TcCoe Idealize.SL.Sem

namespace Cert.KernelIdeal.Value

open Cert.KernelIdeal Cert.KernelIdeal.Gen Cert.Xattn

variable (m : (ℓ : Loc nD τ sig) → Buf (Elt Ideal) ℓ) (c : Dev nD)

/-- Where the grid point reads and writes its blocks. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The queries, the keys and values, and the gradient of the output, as launched. -/
def Q : FVec Ideal S4096x1024 .bf16 := m ((c.tc : Thread nD τ).loc main_arg0)
def KV : FVec Ideal S256x2048 .bf16 := m ((c.tc : Thread nD τ).loc main_arg1)
def G : FVec Ideal S4096x1024 .bf16 := m ((c.tc : Thread nD τ).loc main_arg2)

theorem block_kv (t : Fin cfg0.N) : (iblk m c 1 t : FVec Ideal S256x2048 .bf16) = KV m c := by
  funext y
  unfold KV
  blk_ext [iblk, V, idx t]

/-- The query row that is row `r` of point `t`'s block. -/
def row (t : Fin cfg0.N) (r : Fin 512) : Fin 4096 := ⟨t.val * 512 + r.val, by have := t.isLt; have h8 : cfg0.N = 8 := N_0; omega⟩

theorem block_q (t : Fin cfg0.N) (r : Fin 512) (j : Fin 1024) :
    (iblk m c 0 t : FVec Ideal S512x1024 .bf16) (ix2 r j) = Q m c (ix2 (row t r) j) := by
  unfold Q row
  blk_ext [iblk, V, idx t]

theorem block_g (t : Fin cfg0.N) (r : Fin 512) (j : Fin 1024) :
    (iblk m c 2 t : FVec Ideal S512x1024 .bf16) (ix2 r j) = G m c (ix2 (row t r) j) := by
  unfold G row
  blk_ext [iblk, V, idx t]

/-- Where an element of point `t`'s block of the queries' gradient lies in the array. -/
theorem place (t : Fin cfg0.N) (y : S512x1024.Idx) :
    ((win0_3.blk t).view.emb y : S4096x1024.Idx) = ix2 (row t (y 0)) (y 1) := by
  unfold row
  blk_ext [idx t]

/-- The gradient of the queries as a function of the arguments, and that of the keys and values. -/
def dqAt (s : Fin 4096) (j : Fin 1024) : EReal := dqRow (KV m c) (fun j => Q m c (ix2 s j)) (fun j => G m c (ix2 s j)) j
def dq (i : S4096x1024.Idx) : EReal := dqAt m c (i 0) (i 1)
def dkv (i : S256x2048.Idx) : EReal :=
  ∑ s : Fin 4096, dkvRow (KV m c) (fun j => Q m c (ix2 s j)) (fun j => G m c (ix2 s j)) (i 0) (i 1)

theorem block_dq (t : Fin cfg0.N) (y : S512x1024.Idx) :
    block3 (iblk m c 0 t) (iblk m c 2 t) (iblk m c 1 t) y = dqAt m c (row t (y 0)) (y 1) := by
  unfold block3 dqAt
  rw [block_kv]
  exact congrFun (congrArg₂ (dqRow (KV m c)) (funext fun j => block_q m c t (y 0) j) (funext fun j => block_g m c t (y 0) j)) (y 1)

theorem place_dq (t : Fin cfg0.N) (y : S512x1024.Idx) : dqAt m c (row t (y 0)) (y 1) = dq m c ((win0_3.blk t).view.emb y) := by
  rw [place t y]
  rfl

/-- The first result. -/
theorem arr3 : (dats m 0 c).arrAt 3 cfg0.N = fun i => dq m c i := by
  refine (dats m 0 c).arrAt_eq_of_covers 3 _ (by decide +kernel) fun t _ y => ?_
  blk_simp
  rw [after0_3, queries]
  have e := block_dq m c t y
  rw [e]
  exact place_dq m c t y

/-- The second result. -/
theorem arr4 : (dats m 0 c).arrAt 4 cfg0.N = dkv m c := by
  refine (dats m 0 c).arrAt_eq_of_after_last 4 t0_7 (by decide +kernel) (dkv m c) fun j => ?_
  blk_simp
  rw [after0_4, Pipeline.eq_sum_fin_of_reset_step_apply_last (fun n h => (outsAt0 m c n h).2) 8 (fun _ => 0) _
    (fun t h j => first m c t h j) (fun t h j => step m c t h j) (le_of_eq N_0) t0_7 rfl j, zero_add]
  unfold part4 dkv
  refine Fin.sum_mul_add_congr fun s k hl => ?_
  rw [block_kv]
  exact congrFun (congrFun (congrArg₂ (dkvRow (KV m c)) (funext fun i => block_q m c s k i) (funext fun i => block_g m c s k i)) (j 0)) (j 1)

end Cert.KernelIdeal.Value

end
-- ==== Proof.Sums.lean ====
/- Finite sums of extended reals. -/
module

public import Idealize.ShloMosaic.Lib.IdealHost

@[expose] public section

namespace Cert.Sums

/-- A finite sum of reals is real. -/
theorem sum_real {n : ℕ} (w : Fin n → ℝ) : (∑ k, (w k : EReal)) = ((∑ k, w k : ℝ) : EReal) := by
  induction n with
  | zero => simp
  | succ n ih => rw [Fin.sum_univ_succ, Fin.sum_univ_succ, ih, EReal.coe_add]

/-- A nonnegative real factor goes into a sum of extended reals. -/
theorem mul_sum_real {n : ℕ} (a : ℝ) (ha : 0 ≤ a) (y : Fin n → EReal) : (a : EReal) * ∑ k, y k = ∑ k, (a : EReal) * y k := by
  induction n with
  | zero => simp
  | succ n ih =>
    rw [Fin.sum_univ_succ, Fin.sum_univ_succ, EReal.left_distrib_of_nonneg_of_ne_top (EReal.coe_nonneg.mpr ha) (EReal.coe_ne_top a), ih]

end Cert.Sums

end
-- ==== Proof.Math.lean ====
/- The gradient of a softmax over extended reals, once as the kernel writes it and once as the derivative of the quotient gives it,
   for scores that are real numbers. The gradient that comes in may be infinite. -/
module

public import proofs.«01_k».proof.Proof.Blocks
public import proofs.«01_k».proof.Proof.Sums
public import Idealize.ShloMosaic.Lib.IdealHost

@[expose] public section

set_option maxRecDepth 16384

noncomputable section

open Idealize.ShloMosaic Cert.Sums

namespace Cert.Xattn

theorem sixteenth_real : sixteenth = (((1 : ℝ) / 16 : ℝ) : EReal) := by
  simp [sixteenth, Ideal.ofBits, Ideal.ieee, -EReal.coe_mul]; norm_num

theorem lowest_eq : Ideal.ofBits .f32 0xFF800000#32 = (⊥ : EReal) := by
  simp [Ideal.ofBits, Ideal.ieee]

/-- The maximum with minus infinity changes nothing. -/
theorem max_lowest (y : EReal) : max (Ideal.ofBits .f32 0xFF800000#32) y = y := by
  rw [lowest_eq]; exact max_eq_right bot_le

/-- The largest of finitely many real scores is real. -/
theorem top_real (r : Fin 256 → ℝ) : ∃ M : ℝ, top (fun m => (r m : EReal)) = M := by
  have hlt : top (fun m => (r m : EReal)) < ⊤ := by
    unfold top
    rw [Finset.fold_max_lt]
    exact ⟨by rw [lowest_eq]; exact bot_lt_top, fun m _ => EReal.coe_lt_top _⟩
  have hgt : ⊥ < top (fun m => (r m : EReal)) := by
    unfold top
    rw [Finset.lt_fold_max]
    exact Or.inr ⟨0, Finset.mem_univ _, EReal.bot_lt_coe _⟩
  exact ⟨_, (EReal.coe_toReal hlt.ne hgt.ne').symm⟩

/-- The weights of real scores are positive reals. -/
theorem weight_real (r : Fin 256 → ℝ) : ∃ w : Fin 256 → ℝ, (∀ m, 0 < w m) ∧ ∀ m, weight (fun m => (r m : EReal)) m = w m := by
  obtain ⟨M, hM⟩ := top_real r
  refine ⟨fun m => Real.exp (r m - M), fun m => Real.exp_pos _, fun m => ?_⟩
  unfold weight
  rw [hM, ← EReal.coe_sub, Ideal.exp_coe]

/-- The derivative of the quotient is the kernel's form of the gradient, at scores that are real. -/
theorem dscore_eq (r : Fin 256 → ℝ) (x d : Fin 256 → EReal) (hx : ∀ m, x m = (r m : EReal)) (m : Fin 256) :
    (Ideal.div (d m) (∑ k, weight x k) +
        -(∑ k, d k * Ideal.div 1 ((∑ k, weight x k) * (∑ k, weight x k)) * weight x k)) * weight x m * sixteenth
      = dscore x d m := by
  obtain rfl : x = fun m => (r m : EReal) := funext hx
  obtain ⟨w, hw, e⟩ := weight_real r
  unfold dscore prob
  simp only [e, sum_real]
  have hσ : (0 : ℝ) < ∑ k, w k := Finset.sum_pos (fun k _ => hw k) ⟨0, Finset.mem_univ _⟩
  generalize (∑ k, w k) = σ at hσ ⊢
  rw [← EReal.coe_mul]
  simp only [Ideal.div_coe hσ.ne', Ideal.div_coe (mul_pos hσ hσ).ne', one_mul]
  have hr : (0 : ℝ) ≤ 1 / σ := by positivity
  have hk : ∀ k, d k * ((1 / (σ * σ) : ℝ) : EReal) * (w k : EReal)
      = ((1 / σ : ℝ) : EReal) * ((w k : EReal) * ((1 / σ : ℝ) : EReal) * d k) := by
    intro k
    rw [show (1 / (σ * σ) : ℝ) = (1 / σ) * (1 / σ) by field_simp, EReal.coe_mul]
    ac_rfl
  rw [Finset.sum_congr rfl (fun k _ => hk k), ← mul_sum_real _ hr]
  generalize (∑ k, (w k : EReal) * ((1 / σ : ℝ) : EReal) * d k) = T
  have hn : -(((1 / σ : ℝ) : EReal) * T) = ((1 / σ : ℝ) : EReal) * -T := by rw [mul_comm, mul_comm _ (-T), EReal.neg_mul]
  rw [hn, mul_comm (d m), ← EReal.left_distrib_of_nonneg_of_ne_top (EReal.coe_nonneg.mpr hr) (EReal.coe_ne_top _), ← sub_eq_add_neg]
  ac_rfl

end Cert.Xattn

end
-- ==== Proof.Ref.lean ====
/- The reference's chain of operations, read at an index: the scores, the weights, the probabilities, the gradient of the scores,
   and the two results. -/
module

public import proofs.«01_k».proof.Proof.Math
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Xattn Cert.Sums

variable (Q : (⟨S4096x1024, .bf16⟩ : BufTy).Contents (Elt Ideal)) (KV : (⟨S256x2048, .bf16⟩ : BufTy).Contents (Elt Ideal))
  (G : (⟨S4096x1024, .bf16⟩ : BufTy).Contents (Elt Ideal))

/-- The scores of query row `s`. -/
def X (h : Fin 4) (s : Fin 4096) : Fin 256 → EReal := scores KV (fun j => Q (ix2 s j)) h

/-- The gradient of the probabilities of query row `s`. -/
def D (h : Fin 4) (s : Fin 4096) : Fin 256 → EReal := grads KV (fun j => G (ix2 s j)) h

theorem v10_at (h : Fin 4) (s : Fin 4096) (m : Fin 256) : val_main_v10 Q KV (ix3 h s m) = X Q KV h s m := by
  unfold val_main_v10 val_main_v8 val_main_v9 val_main_v5 val_main_v6 val_main_v0 val_main_v3 val_main_v1 val_main_cst
  pointwise
  unfold X scores sixteenth
  refine congrArg₂ _ (Finset.sum_congr rfl fun l _ => ?_) rfl
  rw [mul_comm]
  congr 1 <;> blk_ext [kcol, col]

theorem v11_at (h : Fin 4) (s : Fin 4096) : val_main_v11 Q KV (ix2 h s) = top (X Q KV h s) := by
  unfold val_main_v11 val_main_cst_0
  pointwise [v10_at Q KV]
  rfl

theorem v18_at (h : Fin 4) (s : Fin 4096) : val_main_v18 Q KV (ix2 h s) = top (X Q KV h s) := by
  rw [val_main_v18_apply, val_main_v17_apply, val_main_cst_2_apply, v11_at]
  exact max_lowest _

theorem v31_at (h : Fin 4) (s : Fin 4096) (m : Fin 256) : val_main_v31 Q KV (ix3 h s m) = weight (X Q KV h s) m := by
  unfold val_main_v31 val_main_v30 val_main_v29 val_main_v28
  pointwise [v10_at Q KV, v18_at Q KV]
  rfl

theorem v32_at (h : Fin 4) (s : Fin 4096) : val_main_v32 Q KV (ix2 h s) = ∑ k, weight (X Q KV h s) k := by
  unfold val_main_v32 val_main_cst_8
  pointwise [v31_at Q KV]

theorem v35_at (h : Fin 4) (s : Fin 4096) (m : Fin 256) : val_main_v35 Q KV (ix3 h s m) = prob (X Q KV h s) m := by
  unfold val_main_v35 val_main_v34 val_main_v33
  pointwise [v31_at Q KV, v32_at Q KV]
  rfl

theorem v44_at (h : Fin 4) (s : Fin 4096) (m : Fin 256) : val_main_v44 KV G (ix3 h s m) = D KV G h s m := by
  unfold val_main_v44 val_main_v43 val_main_v42 val_main_v7 val_main_v2 val_main_v4 val_main_v1
  pointwise
  unfold D grads
  refine Finset.sum_congr rfl fun l _ => ?_
  rw [mul_comm]
  congr 1 <;> blk_ext [vcol, col]

theorem v50_at (h : Fin 4) (s : Fin 4096) : val_main_v50 Q KV G (ix2 h s)
    = ∑ k, D KV G h s k * Ideal.div 1 ((∑ k, weight (X Q KV h s) k) * (∑ k, weight (X Q KV h s) k)) * weight (X Q KV h s) k := by
  unfold val_main_v50 val_main_v49 val_main_v48 val_main_v47 val_main_v38 val_main_v37 val_main_v36 val_main_v33 val_main_cst_9 val_main_cst_10
  pointwise [v31_at Q KV, v32_at Q KV, v44_at KV G]

theorem v60_at (h : Fin 4) (s : Fin 4096) (m : Fin 256) (r : Fin 256 → ℝ) (hr : ∀ m, X Q KV h s m = (r m : EReal)) :
    val_main_v60 Q KV G (ix3 h s m) = dscore (X Q KV h s) (D KV G h s) m := by
  rw [← dscore_eq r _ _ hr]
  unfold val_main_v60 val_main_v58 val_main_v57 val_main_v54 val_main_v56 val_main_v55 val_main_v52 val_main_v51 val_main_v53 val_main_v33 val_main_v59 val_main_cst_11 val_main_cst_12
  pointwise [v31_at Q KV, v32_at Q KV, v44_at KV G, v50_at Q KV G]
  rw [Fin.sum_univ_one]
  rfl

/-- Finite queries and finite keys, all that the value claim asks of the arguments. -/
def Finite : Prop :=
  (∀ (s : Fin 4096) (j : Fin 1024), ∃ r : ℝ, Q (ix2 s j) = (r : EReal)) ∧
    ∀ (m : Fin 256) (h : Fin 4) (l : Fin 256), ∃ r : ℝ, KV (ix2 m (kcol h l)) = (r : EReal)

theorem X_real (hf : Finite Q KV) (h : Fin 4) (s : Fin 4096) : ∃ r : Fin 256 → ℝ, ∀ m, X Q KV h s m = (r m : EReal) := by
  choose q hq using hf.1
  choose k hk using hf.2
  refine ⟨fun m => (∑ l, k m h l * q s (col h l)) * (1 / 16), fun m => ?_⟩
  unfold X scores
  rw [sixteenth_real, EReal.coe_mul, ← sum_real]
  refine congrArg₂ _ (Finset.sum_congr rfl fun l _ => ?_) rfl
  show KV (ix2 m (kcol h l)) * Q (ix2 s (col h l)) = _
  rw [hk, hq, EReal.coe_mul]

/-- The gradient of the queries. -/
theorem v69_at (hf : Finite Q KV) (i : Fin 4096) (j : Fin 1024) :
    val_main_v69 Q KV G (ix2 i j) = dqRow KV (fun j => Q (ix2 i j)) (fun j => G (ix2 i j)) j := by
  obtain ⟨r, hr⟩ := X_real Q KV hf (head j) i
  have e : ∀ m, val_main_v60 Q KV G (ix3 (head j) i m) = dscore (X Q KV (head j) i) (D KV G (head j) i) m := fun m => v60_at Q KV G _ _ m r hr
  unfold val_main_v69 val_main_v67 val_main_v64 val_main_v63 val_main_v6 val_main_v3 val_main_v1
  pointwise
  unfold dqRow
  refine Finset.sum_congr rfl fun x _ => ?_
  refine congrArg₂ (· * ·) (e x) (congrArg KV ?_)
  blk_ext [kcol, head, lane]

/-- The gradient of the keys. -/
theorem v66_at (hf : Finite Q KV) (m : Fin 256) (j : Fin 1024) :
    val_main_v66 Q KV G (ix2 m j) = ∑ s : Fin 4096, dkRow KV (fun j => Q (ix2 s j)) (fun j => G (ix2 s j)) m j := by
  unfold val_main_v66 val_main_v62 val_main_v61 val_main_v5 val_main_v0
  pointwise
  refine Finset.sum_congr rfl fun s _ => ?_
  obtain ⟨r, hr⟩ := X_real Q KV hf (head j) s
  exact congrArg (· * Q (ix2 s j)) (v60_at Q KV G (head j) s m r hr)

/-- The gradient of the values. -/
theorem v65_at (m : Fin 256) (j : Fin 1024) :
    val_main_v65 Q KV G (ix2 m j) = ∑ s : Fin 4096, dvRow KV (fun j => Q (ix2 s j)) (fun j => G (ix2 s j)) m j := by
  unfold val_main_v65 val_main_v46 val_main_v45 val_main_v43 val_main_v42 val_main_v2
  pointwise
  refine Finset.sum_congr rfl fun s _ => ?_
  rw [mul_comm]
  exact congrArg (· * G (ix2 s j)) (v35_at Q KV (head j) s m)

theorem v68_at (hf : Finite Q KV) (m : Fin 256) (j : Fin 2048) :
    val_main_v68 Q KV G (ix2 m j) = ∑ s : Fin 4096, dkvRow KV (fun j => Q (ix2 s j)) (fun j => G (ix2 s j)) m j := by
  unfold val_main_v68
  pointwise
  unfold dkvRow
  split
  · exact v66_at Q KV G hf m _
  · exact v65_at Q KV G m _

end Cert.ReferenceIdeal.Read

end
-- ==== Proof.Finite.lean ====
/- What a comparison of an absolute value with plus infinity says, over extended reals. -/
module

public import Idealize.ShloMosaic.Lib.IdealHost

@[expose] public section

open Idealize.ShloMosaic

namespace Cert.Finite

theorem inf_bf16 : Ideal.ofBits .bf16 0x7F80#16 = (⊤ : EReal) := by
  simp [Ideal.ofBits, Ideal.ieee]

/-- An extended real whose absolute value is below plus infinity is real. -/
theorem real_of_lt {x : EReal} (h : max x (-x) < ⊤) : ∃ r : ℝ, x = (r : EReal) := by
  induction x with
  | bot => simp at h
  | top => simp at h
  | coe r => exact ⟨r, rfl⟩

/-- A comparison's bit is one only where the comparison holds. -/
theorem of_bit {p : Prop} [Decidable p] (h : BitVec.ofBool (decide p) = 1#1) : p := by
  by_contra hp
  simp [hp] at h

end Cert.Finite

end
-- ==== Proof.Xattn.lean ====
/- The gradient of the memory cross-attention: the two results of the kernel against the derivative of the forward pass. The claim asks for
   finite queries and keys. -/
module

public import proofs.«01_k».proof.Defs
public import proofs.«01_k».proof.Proof.Final
public import proofs.«01_k».proof.Proof.Ref
public import proofs.«01_k».proof.Proof.Finite
public import proofs.«01_k».proof.Proof.Gen.ReferenceIdeal.Run

@[expose] public section

set_option maxRecDepth 16384

noncomputable section

namespace Cert.Proof

open Idealize.ShloMosaic Idealize.ShloMosaic.TcCoe Idealize.SL.Sem Cert.Xattn Cert.Finite

instance preFacts : Cert.Pre_finite.Facts where
  bcast_S_S4096x1024 := by decide
  slices_S256x2048_S256x1024_0_0 := by decide
  bcast_S_S256x1024 := by decide

/-- What the precondition says. -/
theorem finite_of_pre (Q : FVec Ideal Cert.Pre_finite.S4096x1024 .bf16) (KV : FVec Ideal Cert.Pre_finite.S256x2048 .bf16)
    (G : FVec Ideal Cert.Pre_finite.S4096x1024 .bf16)
    (h0 : (Cert.Pre_finite.fn Q KV G).1 = fun _ => 1#1) (h1 : (Cert.Pre_finite.fn Q KV G).2 = fun _ => 1#1) :
    Cert.ReferenceIdeal.Read.Finite Q KV := by
  refine ⟨fun s j => ?_, fun m h l => ?_⟩
  · have e := congrFun h0 (ix2 s j)
    revert e
    unfold Cert.Pre_finite.fn
    pointwise
    rw [inf_bf16]
    intro e
    exact real_of_lt (of_bit e)
  · have e := congrFun h1 (ix2 m (col h l))
    revert e
    unfold Cert.Pre_finite.fn
    pointwise
    rw [inf_bf16]
    intro e
    exact real_of_lt (of_bit e)

theorem values : Cert.algebraic_KernelIdeal_ReferenceIdeal_pre_finite := by
  intro m g m' g' hpre hm
  refine ⟨fun c => Cert.KernelIdeal.Value.dq m c, fun c => Cert.KernelIdeal.Value.dkv m c, ?_, ?_⟩
  · refine (θ_run _ _ _).mono (fun r h c => ?_) (Cert.KernelIdeal.Value.run_blocks m g)
    obtain ⟨h3, h4, ha, hb, hc⟩ := h c
    exact ⟨h3.trans (Cert.KernelIdeal.Value.arr3 m c), h4.trans (Cert.KernelIdeal.Value.arr4 m c), ha, hb, hc⟩
  · refine (θ_run _ _ _).mono (fun r h c => ?_) (Cert.ReferenceIdeal.Value.run m' g')
    obtain ⟨h69, h68, ha, hb, hc⟩ := h c
    obtain ⟨e0, e1, e2⟩ := hm c
    have hf : Cert.ReferenceIdeal.Read.Finite (Cert.KernelIdeal.Value.Q m c) (Cert.KernelIdeal.Value.KV m c) :=
      finite_of_pre _ _ _ (hpre c).1 (hpre c).2
    refine ⟨h69.trans ?_, h68.trans ?_, ha, hb, hc⟩
    · rw [Cert.ReferenceIdeal.Read.val_main_v69_eq]
      refine (congr (congrArg₂ _ e0 e1) e2).trans (funext fun i => ?_)
      idx_vars i
      exact Cert.ReferenceIdeal.Read.v69_at _ _ _ hf _ _
    · rw [Cert.ReferenceIdeal.Read.val_main_v68_eq]
      refine (congr (congrArg₂ _ e0 e1) e2).trans (funext fun i => ?_)
      idx_vars i
      exact Cert.ReferenceIdeal.Read.v68_at _ _ _ hf _ _

end Cert.Proof

end
-- ==== Proof.Gate.lean ====
/- The logistic gate of the feed-forward block, over extended reals. -/
module

public import Idealize.ShloMosaic.Lib.IdealHost

@[expose] public section

noncomputable section

open Idealize.ShloMosaic

namespace Cert.Gate

/-- The logistic function. -/
def logistic (x : EReal) : EReal := Ideal.div 1 (1 + Ideal.exp (-x))

/-- The gated value. -/
def gated (gate up : EReal) : EReal := gate * logistic gate * up

/-- The columns of a row's gates and of its other half. -/
def gateCol (j : Fin 2816) : Fin 5632 := ⟨j.val, by omega⟩
def upCol (j : Fin 2816) : Fin 5632 := ⟨j.val + 2816, by omega⟩

theorem col_cases (j : Fin 5632) : (∃ k, j = gateCol k) ∨ ∃ k, j = upCol k := by
  by_cases h : j.val < 2816
  · exact .inl ⟨⟨j.val, h⟩, rfl⟩
  · exact .inr ⟨⟨j.val - 2816, by omega⟩, Fin.ext (by simp [upCol]; omega)⟩

/-- The logistic function at the infinities, and its values are real. -/
theorem logistic_top : logistic ⊤ = 1 := by
  have h : Ideal.exp (-⊤) = 0 := rfl
  rw [logistic, h]
  simp [Ideal.div]

theorem logistic_bot : logistic ⊥ = 0 := by
  have h : Ideal.exp (-⊥) = ⊤ := rfl
  rw [logistic, h, EReal.add_top_of_ne_bot (by decide)]
  simp [Ideal.div]

theorem logistic_coe (r : ℝ) : logistic r = ((1 / (1 + Real.exp (-r)) : ℝ) : EReal) := by
  have h : (1 : EReal) + Ideal.exp (-(r : EReal)) = ((1 + Real.exp (-r) : ℝ) : EReal) := by
    rw [← EReal.coe_neg, Ideal.exp_coe, EReal.coe_add, EReal.coe_one]
  rw [logistic, h, Ideal.div_coe (by positivity), one_mul]

/-- The gate's share of a gradient `c`: the slope of `x * logistic x` in one piece, and as the two rules for a product and for the
    logistic function give it. They agree at a real `c`; at an infinite one the two terms of the second can cancel. -/
def gateGrad (c x : EReal) : EReal := c * (logistic x + x * logistic x * (1 - logistic x))
def gateGradTerms (c x : EReal) : EReal := c * logistic x + x * c * (logistic x * (1 - logistic x))

theorem gateGrad_eq (c : ℝ) (x : EReal) : gateGradTerms c x = gateGrad c x := by
  induction x with
  | bot => simp [gateGrad, gateGradTerms, logistic_bot]
  | top =>
    have h : (1 : EReal) - 1 = 0 := by rw [← EReal.coe_one, ← EReal.coe_sub, sub_self, EReal.coe_zero]
    simp [gateGrad, gateGradTerms, logistic_top, h]
  | coe r =>
    unfold gateGrad gateGradTerms
    rw [logistic_coe, ← EReal.coe_one]
    simp only [← EReal.coe_mul, ← EReal.coe_sub, ← EReal.coe_add]
    exact congrArg _ (by ring)

/-- The kernel's spelling of the logistic function, which takes the gate from zero. -/
theorem logistic_eq (x : EReal) : Ideal.div 1 (1 + Ideal.exp (0 - x)) = logistic x := by
  rw [sub_eq_add_neg, zero_add]
  rfl

end Cert.Gate

end
-- ==== Proof.FfnOutBwd.lean ====
/- The gradient of the feed-forward block's gate and of the product after it. The kernel's row blocks put together are the derivative of the
   forward pass, for finite incoming gradient, weights and ungated values. -/
module

public import proofs.«01_k».proof.Defs
public import proofs.«01_k».proof.Proof.Sums
public import proofs.«01_k».proof.Proof.Gate
public import proofs.«01_k».proof.Proof.Finite
public import proofs.«01_k».proof.Proof.Stores
public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference2Ideal.Read

open Cert.Reference2Ideal Cert.Reference2Ideal.Gen Cert.Gate

variable (DF : (⟨S4096x1024, .bf16⟩ : BufTy).Contents (Elt Ideal)) (W : (⟨S2816x1024, .bf16⟩ : BufTy).Contents (Elt Ideal))
  (GU : (⟨S4096x5632, .bf16⟩ : BufTy).Contents (Elt Ideal))

/-- The gradient of the gated values, and the two halves of the result. -/
def da (s : Fin 4096) (j : Fin 2816) : EReal := ∑ k : Fin 1024, DF (ix2 s k) * W (ix2 j k)
def dgate (s : Fin 4096) (j : Fin 2816) : EReal := gateGrad (da DF W s j * GU (ix2 s (upCol j))) (GU (ix2 s (gateCol j)))
def dup (s : Fin 4096) (j : Fin 2816) : EReal := da DF W s j * (GU (ix2 s (gateCol j)) * Gate.logistic (GU (ix2 s (gateCol j))))

/-- What is asked of the arguments. -/
structure Finite : Prop where
  df : ∀ s k, ∃ r : ℝ, (DF (ix2 s k) : EReal) = r
  w : ∀ j k, ∃ r : ℝ, (W (ix2 j k) : EReal) = r
  up : ∀ s j, ∃ r : ℝ, (GU (ix2 s (upCol j)) : EReal) = r

variable {DF W GU} in
theorem Finite.da_up (hf : Finite DF W GU) (s : Fin 4096) (j : Fin 2816) : ∃ r : ℝ, da DF W s j * GU (ix2 s (upCol j)) = (r : EReal) := by
  choose x hx using hf.df s
  choose y hy using hf.w j
  obtain ⟨u, hu⟩ := hf.up s j
  refine ⟨(∑ k, x k * y k) * u, ?_⟩
  rw [EReal.coe_mul, ← Sums.sum_real]
  refine congrArg₂ (· * ·) (Finset.sum_congr rfl fun k _ => ?_) hu
  rw [EReal.coe_mul]
  exact congrArg₂ (· * ·) (hx k) (hy k)

theorem v3_at (s : Fin 4096) (j : Fin 2816) : val_main_v3 GU (ix2 s j) = GU (ix2 s (gateCol j)) := by
  unfold val_main_v3 val_main_v2
  pointwise
  blk_ext [gateCol]

theorem v4_at (s : Fin 4096) (j : Fin 2816) : val_main_v4 GU (ix2 s j) = GU (ix2 s (upCol j)) := by
  unfold val_main_v4 val_main_v2
  pointwise
  blk_ext [upCol]

theorem v5_2_at (s : Fin 4096) (j : Fin 2816) : val_main_v5_2 GU (ix2 s j) = Gate.logistic (GU (ix2 s (gateCol j))) := by
  unfold val_main_v5_2 val_main_call0_v4 val_main_call0_v3 val_main_call0_v2 val_main_call0_v1 val_main_call0_v0
    val_main_call0_cst val_main_call0_cst_0
  pointwise [v3_at GU, Gate.logistic]

theorem v8_at (s : Fin 4096) (j : Fin 2816) : val_main_v8 DF W (ix2 s j) = da DF W s j := by
  unfold val_main_v8 val_main_v0 val_main_v1
  pointwise [da]

theorem v9_at (s : Fin 4096) (j : Fin 2816) : val_main_v9 DF W GU (ix2 s j) = dup DF W GU s j := by
  unfold val_main_v9 val_main_v5_0
  pointwise [v3_at GU, v5_2_at GU, v8_at DF W, dup]
  exact mul_comm _ _

theorem v11_at (hf : Finite DF W GU) (s : Fin 4096) (j : Fin 2816) : val_main_v11 DF W GU (ix2 s j) = dgate DF W GU s j := by
  obtain ⟨r, hr⟩ := hf.da_up s j
  unfold dgate
  rw [hr, ← gateGrad_eq, ← hr]
  unfold val_main_v11 val_main_call1_v2 val_main_call1_v1 val_main_call1_v0 val_main_v10 val_main_v5_1 val_main_call0_v7 val_main_call0_v6
    val_main_call0_cst_1
  pointwise [v3_at GU, v4_at GU, v5_2_at GU, v8_at DF W, gateGradTerms]

theorem v13_gate (hf : Finite DF W GU) (s : Fin 4096) (j : Fin 2816) : val_main_v13 DF W GU (ix2 s (gateCol j)) = dgate DF W GU s j := by
  refine Eq.trans ?_ (v11_at DF W GU hf s j)
  refine (val_main_v13_apply DF W GU _).trans ?_
  unfold val_main_v12
  exact concatenate_pair_apply_left (s₁ := S4096x2816) (s₂ := S4096x2816) (t := S4096x5632) 1 (val_main_v11 DF W GU) (val_main_v9 DF W GU)
    concatenates_S4096x2816_S4096x2816_S4096x5632_d1 (ix2 s (gateCol j)) rfl (ix2 s j) fun b => by fin_cases b <;> rfl

theorem v13_up (s : Fin 4096) (j : Fin 2816) : val_main_v13 DF W GU (ix2 s (upCol j)) = dup DF W GU s j := by
  refine Eq.trans ?_ (v9_at DF W GU s j)
  refine (val_main_v13_apply DF W GU _).trans ?_
  unfold val_main_v12
  refine concatenate_pair_apply_right (s₁ := S4096x2816) (s₂ := S4096x2816) (t := S4096x5632) 1 (val_main_v11 DF W GU) (val_main_v9 DF W GU)
    concatenates_S4096x2816_S4096x2816_S4096x5632_d1 (ix2 s (upCol j)) rfl rfl (ix2 s j) (fun b hb => ?_) rfl
  fin_cases b
  · rfl
  · exact absurd rfl hb

end Cert.Reference2Ideal.Read

namespace Cert.Kernel2Ideal.Value

open Cert.Kernel2Ideal Cert.Kernel2Ideal.Gen Cert.Gate Cert.Stores

section

variable (gate up : FVec Ideal S256x640 .bf16) (d : FVec Ideal S256x640 .f32) (gate' up' : FVec Ideal S256x256 .bf16) (d' : FVec Ideal S256x256 .f32)
  (df : FVec Ideal S256x1024 .bf16) (w : FVec Ideal S2816x1024 .bf16)

theorem pay5_at (r : Fin 256) (j : Fin 2816) : k0_pay5 (F := Ideal) df w (ix2 r j) = ∑ k : Fin 1024, (df (ix2 r k) * w (ix2 j k) : EReal) := by
  pointwise [k0_pay5]

theorem pay9_at (r : Fin 256) (j : Fin 640) :
    k0_pay9 (F := Ideal) gate up d (ix2 r j) = gateGrad (d (ix2 r j) * up (ix2 r j)) (gate (ix2 r j)) := by
  pointwise [k0_pay9, k0_pay8, k0_pay7, k0_pay6, gateGrad, logistic_eq]

theorem pay10_at (r : Fin 256) (j : Fin 640) :
    k0_pay10 (F := Ideal) gate d (ix2 r j) = d (ix2 r j) * (gate (ix2 r j) * Gate.logistic (gate (ix2 r j))) := by
  pointwise [k0_pay10, k0_pay8, k0_pay7, k0_pay6, logistic_eq]

theorem pay14_at (r : Fin 256) (j : Fin 640) :
    k0_pay14 (F := Ideal) (k0_pay11 gate) up d (ix2 r j) = gateGrad (d (ix2 r j) * up (ix2 r j)) (gate (ix2 r j)) := by
  pointwise [k0_pay14, k0_pay13, k0_pay12, k0_pay11, gateGrad, logistic_eq]

theorem pay15_at (r : Fin 256) (j : Fin 640) :
    k0_pay15 (F := Ideal) (k0_pay11 gate) d (ix2 r j) = d (ix2 r j) * (gate (ix2 r j) * Gate.logistic (gate (ix2 r j))) := by
  pointwise [k0_pay15, k0_pay13, k0_pay12, k0_pay11, logistic_eq]

theorem pay21_at (r : Fin 256) (j : Fin 640) :
    k0_pay21 (F := Ideal) (k0_pay17 gate) (k0_pay18 gate) (k0_pay19 up d) k0_pay20 (ix2 r j)
      = gateGrad (d (ix2 r j) * up (ix2 r j)) (gate (ix2 r j)) := by
  pointwise [k0_pay21, k0_pay20, k0_pay19, k0_pay18, k0_pay17, k0_pay16, gateGrad, logistic_eq]

theorem pay22_at (r : Fin 256) (j : Fin 640) :
    k0_pay22 (F := Ideal) d (k0_pay18 gate) (ix2 r j) = d (ix2 r j) * (gate (ix2 r j) * Gate.logistic (gate (ix2 r j))) := by
  pointwise [k0_pay22, k0_pay18, k0_pay17, k0_pay16, logistic_eq]

theorem pay26_at (r : Fin 256) (j : Fin 640) :
    k0_pay26 (F := Ideal) gate up d (ix2 r j) = gateGrad (d (ix2 r j) * up (ix2 r j)) (gate (ix2 r j)) := by
  pointwise [k0_pay26, k0_pay25, k0_pay24, k0_pay23, gateGrad, logistic_eq]

theorem pay27_at (r : Fin 256) (j : Fin 640) :
    k0_pay27 (F := Ideal) gate d (ix2 r j) = d (ix2 r j) * (gate (ix2 r j) * Gate.logistic (gate (ix2 r j))) := by
  pointwise [k0_pay27, k0_pay25, k0_pay24, k0_pay23, logistic_eq]

theorem pay3_at (r : Fin 256) (j : Fin 256) :
    k0_pay3 (F := Ideal) (k0_pay28 gate') up' d' (ix2 r j) = gateGrad (d' (ix2 r j) * up' (ix2 r j)) (gate' (ix2 r j)) := by
  pointwise [k0_pay3, k0_pay2, k0_pay1, k0_pay28, gateGrad, logistic_eq]

theorem pay4_at (r : Fin 256) (j : Fin 256) :
    k0_pay4 (F := Ideal) (k0_pay28 gate') d' (ix2 r j) = d' (ix2 r j) * (gate' (ix2 r j) * Gate.logistic (gate' (ix2 r j))) := by
  pointwise [k0_pay4, k0_pay2, k0_pay1, k0_pay28, logistic_eq]

end

variable (m : (ℓ : Loc nD τ sig) → Buf (Elt Ideal) ℓ) (c : Dev nD)

/-- A block of the result, from the gradient of the gated values. -/
def outBlk (gu : FVec Ideal S256x5632 .bf16) (d : FVec Ideal S256x2816 .f32) (y : S256x5632.Idx) : EReal :=
  if h : (y 1).val < 2816 then
    gateGrad (d (ix2 (y 0) ⟨(y 1).val, h⟩) * gu (ix2 (y 0) (upCol ⟨(y 1).val, h⟩))) (gu (ix2 (y 0) (gateCol ⟨(y 1).val, h⟩)))
  else
    have hj : (y 1).val - 2816 < 2816 := by have : (y 1).val < 5632 := (y 1).isLt; omega
    d (ix2 (y 0) ⟨_, hj⟩) * (gu (ix2 (y 0) (gateCol ⟨_, hj⟩)) * Gate.logistic (gu (ix2 (y 0) (gateCol ⟨_, hj⟩))))

section

variable (gu : FVec Ideal S256x5632 .bf16) (d : FVec Ideal S256x2816 .f32) (r : Fin 256) (j : Fin 2816)

theorem outBlk_gate : outBlk gu d (ix2 r (gateCol j)) = gateGrad (d (ix2 r j) * gu (ix2 r (upCol j))) (gu (ix2 r (gateCol j))) :=
  dif_pos j.isLt

theorem outBlk_up : outBlk gu d (ix2 r (upCol j)) = d (ix2 r j) * (gu (ix2 r (gateCol j)) * Gate.logistic (gu (ix2 r (gateCol j)))) := by
  have e : (⟨(upCol j).val - 2816, by have := j.isLt; simp [upCol]⟩ : Fin 2816) = j := Fin.ext (by simp [upCol])
  refine (dif_neg (by show ¬(upCol j).val < 2816; simp [upCol])).trans ?_
  exact congrArg (fun k => (d (ix2 r k) * (gu (ix2 r (gateCol k)) * Gate.logistic (gu (ix2 r (gateCol k)))) : EReal)) e

variable {x gate up : EReal} {z : S256x5632.Idx}

theorem piece_gate (hd : x = d (ix2 r j)) (hu : up = gu (ix2 r (upCol j))) (hg : gate = gu (ix2 r (gateCol j))) (hz : z = ix2 r (gateCol j)) :
    gateGrad (x * up) gate = outBlk gu d z := by
  rw [hd, hu, hg, hz, outBlk_gate]

theorem piece_up (hd : x = d (ix2 r j)) (hg : gate = gu (ix2 r (gateCol j))) (hz : z = ix2 r (upCol j)) :
    x * (gate * Gate.logistic gate) = outBlk gu d z := by
  rw [hd, hg, hz, outBlk_up]

end

/-- Column `j` of the chunk that starts at column `o`. -/
def chunk (o : ℕ) {n : ℕ} (h : o + n ≤ 2816) (j : Fin n) : Fin 2816 := ⟨o + j.val, by omega⟩

theorem chunk_idx (o n : ℕ) (h : o + n ≤ 2816) (inb : ∀ a, (![0, o] : Fin 2 → ℕ) a + (![256, n] : Fin 2 → ℕ) a ≤ S256x2816.size a) (r : Fin 256) (j : Fin n) :
    (Rect.unit (s := S256x2816) ![0, o] ![256, n] inb).toLoadRect.idx (ix2 r j) = ix2 r (chunk o h j) := by
  refine funext fun a => Fin.ext ?_
  fin_cases a <;> simp [LoadRect.idx, Rect.unit, Rect.toLoadRect, chunk]

theorem out3 (t : Fin cfg0.N) : outsAt0 m c t = outBlk (iblk m c 2 t) (k0_pay5 (iblk m c 0 t) (iblk m c 1 t)) := by
  unfold outsAt0
  frame_out
  have h : ∀ a, (![0, 0] : Fin S256x2816.rank → ℕ) a = 0 := by decide
  simp only [read_whole (S := S256x2816) (e := .f32) _ _ _ h]
  funext y
  refine canon_all (e := .bf16) (outBlk (iblk m c 2 t) (k0_pay5 (iblk m c 0 t) (iblk m c 1 t))) _ _ ?_ ?_
  · refine ⟨fun x => ?_, fun x => ?_, fun x => ?_, fun x => ?_, fun x => ?_, fun x => ?_, fun x => ?_, fun x => ?_, fun x => ?_, fun x => ?_, trivial⟩
    all_goals idx_vars x
    · refine (pay4_at _ _ _ _).trans (piece_up _ _ x0 (chunk 2560 (by decide) x1) ?_ ?_ ?_)
      · exact congrArg _ (chunk_idx _ _ _ _ _ _)
      · pointwise; blk_ext [gateCol, chunk]
      · blk_ext [upCol, chunk]
    · refine (pay3_at _ _ _ _ _).trans (piece_gate _ _ x0 (chunk 2560 (by decide) x1) ?_ ?_ ?_ ?_)
      · exact congrArg _ (chunk_idx _ _ _ _ _ _)
      · pointwise; blk_ext [upCol, chunk]
      · pointwise; blk_ext [gateCol, chunk]
      · blk_ext [gateCol, chunk]
    · refine (pay27_at _ _ _ _).trans (piece_up _ _ x0 (chunk 1920 (by decide) x1) ?_ ?_ ?_)
      · exact congrArg _ (chunk_idx _ _ _ _ _ _)
      · pointwise; blk_ext [gateCol, chunk]
      · blk_ext [upCol, chunk]
    · refine (pay26_at _ _ _ _ _).trans (piece_gate _ _ x0 (chunk 1920 (by decide) x1) ?_ ?_ ?_ ?_)
      · exact congrArg _ (chunk_idx _ _ _ _ _ _)
      · pointwise; blk_ext [upCol, chunk]
      · pointwise; blk_ext [gateCol, chunk]
      · blk_ext [gateCol, chunk]
    · refine (pay22_at _ _ _ _).trans (piece_up _ _ x0 (chunk 1280 (by decide) x1) ?_ ?_ ?_)
      · exact congrArg _ (chunk_idx _ _ _ _ _ _)
      · pointwise; blk_ext [gateCol, chunk]
      · blk_ext [upCol, chunk]
    · refine (pay21_at _ _ _ _ _).trans (piece_gate _ _ x0 (chunk 1280 (by decide) x1) ?_ ?_ ?_ ?_)
      · exact congrArg _ (chunk_idx _ _ _ _ _ _)
      · pointwise; blk_ext [upCol, chunk]
      · pointwise; blk_ext [gateCol, chunk]
      · blk_ext [gateCol, chunk]
    · refine (pay15_at _ _ _ _).trans (piece_up _ _ x0 (chunk 640 (by decide) x1) ?_ ?_ ?_)
      · exact congrArg _ (chunk_idx _ _ _ _ _ _)
      · pointwise; blk_ext [gateCol, chunk]
      · blk_ext [upCol, chunk]
    · refine (pay14_at _ _ _ _ _).trans (piece_gate _ _ x0 (chunk 640 (by decide) x1) ?_ ?_ ?_ ?_)
      · exact congrArg _ (chunk_idx _ _ _ _ _ _)
      · pointwise; blk_ext [upCol, chunk]
      · pointwise; blk_ext [gateCol, chunk]
      · blk_ext [gateCol, chunk]
    · refine (pay10_at _ _ _ _).trans (piece_up _ _ x0 (chunk 0 (by decide) x1) ?_ ?_ ?_)
      · exact congrArg _ (chunk_idx _ _ _ _ _ _)
      · pointwise; blk_ext [gateCol, chunk]
      · blk_ext [upCol, chunk]
    · refine (pay9_at _ _ _ _ _).trans (piece_gate _ _ x0 (chunk 0 (by decide) x1) ?_ ?_ ?_ ?_)
      · exact congrArg _ (chunk_idx _ _ _ _ _ _)
      · pointwise; blk_ext [upCol, chunk]
      · pointwise; blk_ext [gateCol, chunk]
      · blk_ext [gateCol, chunk]
  · refine View.cover_of_tiledBy (s := S256x5632) _ ![256, 128] ?_ _
    sl_kernel_rfl

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The row of the arrays that is row `r` of point `t`'s blocks. -/
def row (t : Fin cfg0.N) (r : Fin 256) : Fin 4096 := ⟨t.val * 256 + r.val, by have := t.isLt; have h : cfg0.N = 16 := N_0; omega⟩

/-- The arguments as launched. -/
def DF : FVec Ideal S4096x1024 .bf16 := m ((c.tc : Thread nD τ).loc main_arg0)
def W : FVec Ideal S2816x1024 .bf16 := m ((c.tc : Thread nD τ).loc main_arg1)
def GU : FVec Ideal S4096x5632 .bf16 := m ((c.tc : Thread nD τ).loc main_arg2)

theorem block_df (t : Fin cfg0.N) (r : Fin 256) (j : Fin 1024) :
    (iblk m c 0 t : FVec Ideal S256x1024 .bf16) (ix2 r j) = DF m c (ix2 (row t r) j) := by
  unfold DF row
  blk_ext [iblk, V, idx t]

theorem block_w (t : Fin cfg0.N) : (iblk m c 1 t : FVec Ideal S2816x1024 .bf16) = W m c := by
  funext y
  unfold W
  blk_ext [iblk, V, idx t]

theorem block_gu (t : Fin cfg0.N) (r : Fin 256) (j : Fin 5632) :
    (iblk m c 2 t : FVec Ideal S256x5632 .bf16) (ix2 r j) = GU m c (ix2 (row t r) j) := by
  unfold GU row
  blk_ext [iblk, V, idx t]

/-- The result as a function of the arguments. -/
def dgu (i : S4096x5632.Idx) : EReal :=
  if h : (i 1).val < 2816 then Cert.Reference2Ideal.Read.dgate (DF m c) (W m c) (GU m c) (i 0) ⟨(i 1).val, h⟩
  else Cert.Reference2Ideal.Read.dup (DF m c) (W m c) (GU m c) (i 0) ⟨(i 1).val - 2816, by have : (i 1).val < 5632 := (i 1).isLt; omega⟩

theorem dgu_gate (s : Fin 4096) (j : Fin 2816) : dgu m c (ix2 s (gateCol j)) = Cert.Reference2Ideal.Read.dgate (DF m c) (W m c) (GU m c) s j :=
  dif_pos j.isLt

theorem dgu_up (s : Fin 4096) (j : Fin 2816) : dgu m c (ix2 s (upCol j)) = Cert.Reference2Ideal.Read.dup (DF m c) (W m c) (GU m c) s j := by
  refine (dif_neg (by show ¬(upCol j).val < 2816; simp [upCol])).trans ?_
  exact congrArg (Cert.Reference2Ideal.Read.dup (DF m c) (W m c) (GU m c) s) (Fin.ext (by simp [upCol]))

theorem da_block (t : Fin cfg0.N) (r : Fin 256) (j : Fin 2816) :
    k0_pay5 (F := Ideal) (iblk m c 0 t) (iblk m c 1 t) (ix2 r j) = Cert.Reference2Ideal.Read.da (DF m c) (W m c) (row t r) j := by
  rw [pay5_at, block_w]
  exact Finset.sum_congr rfl fun k _ => congrArg (fun z : EReal => z * W m c (ix2 j k)) (block_df m c t r k)

theorem out_block (t : Fin cfg0.N) (r : Fin 256) (j : Fin 5632) : outsAt0 m c t (ix2 r j) = dgu m c (ix2 (row t r) j) := by
  rw [out3]
  obtain ⟨k, rfl⟩ | ⟨k, rfl⟩ := col_cases j
  · rw [outBlk_gate, dgu_gate, da_block, block_gu, block_gu]
    rfl
  · rw [outBlk_up, dgu_up, da_block, block_gu]
    rfl

theorem place (t : Fin cfg0.N) (r : Fin 256) (j : Fin 5632) :
    ((win0_3.blk t).view.emb (ix2 r j : S256x5632.Idx) : S4096x5632.Idx) = ix2 (row t r) j := by
  unfold row
  blk_ext [idx t]

theorem arr3 : (dats m 0 c).arrAt 3 cfg0.N = dgu m c := by
  refine (dats m 0 c).arrAt_eq_of_covers 3 _ (by decide +kernel) fun t _ y => ?_
  blk_simp
  rw [after0_3]
  idx_vars y
  exact (out_block m c t _ _).trans (congrArg (dgu m c) (place t _ _).symm)

end Cert.Kernel2Ideal.Value

namespace Cert.Proof

open Cert.Finite

instance preFacts2 : Cert.Pre_finite_up.Facts where
  bcast_S_S4096x1024 := by decide
  bcast_S_S2816x1024 := by decide
  slices_S4096x5632_S4096x2816_0_2816 := by decide
  bcast_S_S4096x2816 := by decide

/-- What the precondition says. -/
theorem finite_of_pre2 (DF : FVec Ideal Cert.Pre_finite_up.S4096x1024 .bf16) (W : FVec Ideal Cert.Pre_finite_up.S2816x1024 .bf16)
    (GU : FVec Ideal Cert.Pre_finite_up.S4096x5632 .bf16)
    (h0 : (Cert.Pre_finite_up.fn DF W GU).1 = fun _ => 1#1) (h1 : (Cert.Pre_finite_up.fn DF W GU).2.1 = fun _ => 1#1)
    (h2 : (Cert.Pre_finite_up.fn DF W GU).2.2 = fun _ => 1#1) : Cert.Reference2Ideal.Read.Finite DF W GU := by
  refine ⟨fun s k => ?_, fun j k => ?_, fun s j => ?_⟩
  · have e := congrFun h0 (ix2 s k)
    revert e
    unfold Cert.Pre_finite_up.fn
    pointwise
    rw [inf_bf16]
    intro e
    exact real_of_lt (of_bit e)
  · have e := congrFun h1 (ix2 j k)
    revert e
    unfold Cert.Pre_finite_up.fn
    pointwise
    rw [inf_bf16]
    intro e
    exact real_of_lt (of_bit e)
  · have e := congrFun h2 (ix2 s j)
    have hx : (GU (ix2 s ⟨2816 + j.val, by have := j.isLt; omega⟩) : EReal) = GU (ix2 s (Cert.Gate.upCol j)) := by blk_ext [Cert.Gate.upCol]
    rw [← hx]
    revert e
    unfold Cert.Pre_finite_up.fn
    pointwise
    rw [inf_bf16]
    intro e
    exact real_of_lt (of_bit e)

theorem values2 : Cert.algebraic_Kernel2Ideal_Reference2Ideal_pre_finite_up := by
  intro m g m' g' hpre hm
  refine ⟨fun c => Cert.Kernel2Ideal.Value.dgu m c, ?_, ?_⟩
  · refine (θ_run _ _ _).mono (fun r h c => ?_) (Cert.Kernel2Ideal.Value.run_blocks m g)
    obtain ⟨h3, hr⟩ := h c
    exact ⟨h3.trans (Cert.Kernel2Ideal.Value.arr3 m c), hr⟩
  · refine (θ_run _ _ _).mono (fun r h c => ?_) (Cert.Reference2Ideal.Value.run m' g')
    obtain ⟨e0, e1, e2⟩ := hm c
    obtain ⟨h13, hr⟩ := h c
    have hf : Cert.Reference2Ideal.Read.Finite (Cert.Kernel2Ideal.Value.DF m c) (Cert.Kernel2Ideal.Value.W m c) (Cert.Kernel2Ideal.Value.GU m c) :=
      finite_of_pre2 _ _ _ (hpre c).1 (hpre c).2.1 (hpre c).2.2
    refine ⟨h13.trans ?_, hr⟩
    rw [Cert.Reference2Ideal.Read.val_main_v13_eq, e0, e1, e2]
    funext i
    idx_vars i
    obtain ⟨k, rfl⟩ | ⟨k, rfl⟩ := Cert.Gate.col_cases i1
    · exact (Cert.Reference2Ideal.Read.v13_gate _ _ _ hf _ _).trans (Cert.Kernel2Ideal.Value.dgu_gate m c _ _).symm
    · exact (Cert.Reference2Ideal.Read.v13_up _ _ _ _ _).trans (Cert.Kernel2Ideal.Value.dgu_up m c _ _).symm

end Cert.Proof

end
-- ==== Proof.Norm.lean ====
/- The root-mean-square norm of a row of 1024 extended reals and its gradient, once as the kernel writes it and once as the derivative of the
   norm's own formula gives it. Nothing is asked of the row or of the gradient that comes in: where the row's power is infinite its scale is
   zero and both forms are zero. -/
module

public import proofs.«01_k».proof.Proof.Sums

@[expose] public section

noncomputable section

open Idealize.ShloMosaic

namespace Cert.Norm

open Cert.Sums

/-- The length of a row, as the constant that both programs divide by. -/
abbrev width : EReal := Ideal.ofBits .f32 0x44800000#32

/-- The constant that both programs add to the mean square. -/
abbrev tiny : EReal := Ideal.ofBits .f32 0x358637BD#32

/-- Minus one half, the exponent that the derivative brings down. -/
abbrev half : EReal := Ideal.ofBits .f32 0xBF000000#32

/-- The mean square of the row, and the small constant. -/
def power (x : Fin 1024 → EReal) : EReal := Ideal.div (∑ k, x k * x k) width + tiny

/-- The factor that the norm scales the row with. -/
def scale (x : Fin 1024 → EReal) : EReal := Ideal.rsqrt (power x)

/-- The gradient of the row as the kernel writes it, for the gradient `a` of the scaled row. -/
def part (x a : Fin 1024 → EReal) (j : Fin 1024) : EReal :=
  scale x * (a j - x j * scale x * Ideal.div (∑ k, a k * (x k * scale x)) width)

/-- What the derivative of the scale contributes at each end of the square. -/
def slope (x a : Fin 1024 → EReal) : EReal :=
  Ideal.div ((∑ k, x k * a k) * (half * Ideal.div (scale x) (power x))) width

theorem width_real : width = ((1024 : ℝ) : EReal) := by
  simp [width, Ideal.ofBits, Ideal.ieee, -EReal.coe_mul]; norm_num

theorem half_real : half = ((-(1 / 2) : ℝ) : EReal) := by
  simp [half, Ideal.ofBits, Ideal.ieee, -EReal.coe_mul]; norm_num

theorem tiny_real : ∃ e : ℝ, 0 < e ∧ tiny = (e : EReal) := by
  refine ⟨_, ?_, by simp [tiny, Ideal.ofBits, Ideal.ieee, -EReal.coe_mul]; rfl⟩
  positivity

theorem square_nonneg (y : EReal) : 0 ≤ y * y := by
  rcases le_total 0 y with h | h
  · exact mul_nonneg h h
  · rw [← neg_mul_neg]
    exact mul_nonneg (EReal.neg_nonneg.mpr h) (EReal.neg_nonneg.mpr h)

/-- The power of a row is infinite or a positive real. -/
theorem power_cases (x : Fin 1024 → EReal) : power x = ⊤ ∨ ∃ p : ℝ, 0 < p ∧ power x = (p : EReal) := by
  obtain ⟨e, he, h⟩ := tiny_real
  have hs : 0 ≤ ∑ k, x k * x k := Finset.sum_nonneg fun k _ => square_nonneg (x k)
  unfold power
  rw [h, width_real, Ideal.div_coe (by norm_num)]
  generalize (∑ k, x k * x k) = y at hs
  induction y with
  | bot => exact absurd hs (not_le.mpr EReal.bot_lt_zero)
  | top => left; rw [EReal.top_mul_coe_of_pos (by norm_num)]; rfl
  | coe s =>
    right
    have hs' : 0 ≤ s := EReal.coe_nonneg.mp hs
    exact ⟨s * (1 / 1024) + e, by positivity, by push_cast; rfl⟩

/-- The derivative of the norm's formula is the kernel's form of the gradient. -/
theorem part_eq (x a : Fin 1024 → EReal) (j : Fin 1024) :
    a j * scale x + x j * slope x a + slope x a * x j = part x a j := by
  rcases power_cases x with h | ⟨p, hp, h⟩
  · have h0 : scale x = 0 := by unfold scale; rw [h]; rfl
    have h1 : slope x a = 0 := by
      unfold slope
      rw [h0, h, width_real, Ideal.div_coe (by norm_num)]
      simp [Ideal.div]
    unfold part
    rw [h1, h0]
    simp
  · have h0 : scale x = (((Real.sqrt p)⁻¹ : ℝ) : EReal) := by
      unfold scale
      rw [h]
      show (if p < 0 then ⊥ else if p = 0 then ⊤ else (((Real.sqrt p)⁻¹ : ℝ) : EReal)) = _
      rw [if_neg (not_lt.mpr hp.le), if_neg hp.ne']
    have hr : 0 ≤ (Real.sqrt p)⁻¹ := by positivity
    have hc : (Real.sqrt p)⁻¹ * (1 / p) = (Real.sqrt p)⁻¹ * (Real.sqrt p)⁻¹ * (Real.sqrt p)⁻¹ := by
      have := Real.mul_self_sqrt hp.le
      have hq : Real.sqrt p ≠ 0 := (Real.sqrt_pos.mpr hp).ne'
      rw [← this, Real.sqrt_mul_self (Real.sqrt_nonneg p)]
      field_simp
    unfold part slope
    rw [h0, h, width_real, half_real, Ideal.div_coe hp.ne', Ideal.div_coe (by norm_num), Ideal.div_coe (by norm_num), ← EReal.coe_mul, hc]
    generalize (Real.sqrt p)⁻¹ = r at hr
    have hk : ∑ k, a k * (x k * (r : EReal)) = (r : EReal) * ∑ k, x k * a k := by
      rw [mul_sum_real r hr]
      exact Finset.sum_congr rfl fun k _ => by ac_rfl
    rw [hk]
    generalize (∑ k, x k * a k) = S
    have hl : x j * (S * (((-(1 / 2) : ℝ) : EReal) * ((r * r * r : ℝ) : EReal)) * ((1 / 1024 : ℝ) : EReal))
        = ((r * r * r / 2048 : ℝ) : EReal) * -(x j * S) := by
      rw [mul_comm _ (-(x j * S)), EReal.neg_mul, mul_comm (x j * S), ← EReal.neg_mul, ← EReal.coe_neg,
        show (-(r * r * r / 2048) : ℝ) = -(1 / 2) * (r * r * r) * (1 / 1024) by ring, EReal.coe_mul, EReal.coe_mul]
      ac_rfl
    have hd : -(x j * (r : EReal) * ((r : EReal) * S * ((1 / 1024 : ℝ) : EReal))) = ((r * r / 1024 : ℝ) : EReal) * -(x j * S) := by
      rw [mul_comm _ (-(x j * S)), EReal.neg_mul, show (r * r / 1024 : ℝ) = r * r * (1 / 1024) by ring, EReal.coe_mul, EReal.coe_mul]
      exact congrArg _ (by ac_rfl)
    rw [mul_comm _ (x j), hl, sub_eq_add_neg, hd, EReal.left_distrib_of_nonneg_of_ne_top (EReal.coe_nonneg.mpr hr) (EReal.coe_ne_top r), add_assoc,
      mul_comm (a j)]
    refine congrArg₂ _ rfl ?_
    have hq : (0 : EReal) ≤ ((r * r * r / 2048 : ℝ) : EReal) := EReal.coe_nonneg.mpr (by positivity)
    rw [← EReal.right_distrib_of_nonneg hq hq, ← EReal.coe_add, ← mul_assoc, ← EReal.coe_mul]
    exact congrArg (· * -(x j * S)) (congrArg _ (by ring))

end Cert.Norm

end
-- ==== Proof.FfnInBwdRef.lean ====
/- The reference's gradient of the feed-forward block's first product, read at an index: a row of the gradient is the norm's gradient, and
   each gain's gradient is a sum over the rows. -/
module

public import proofs.«01_k».proof.Proof.Norm
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference3Ideal.Read

open Cert.Reference3Ideal Cert.Reference3Ideal.Gen Cert.Norm

variable (DY : (⟨S4096x5632, .bf16⟩ : BufTy).Contents (Elt Ideal)) (W : (⟨S5632x1024, .bf16⟩ : BufTy).Contents (Elt Ideal))
  (X : (⟨S4096x1024, .f32⟩ : BufTy).Contents (Elt Ideal)) (G : (⟨S1x1024, .f32⟩ : BufTy).Contents (Elt Ideal))
  (DX : (⟨S4096x1024, .f32⟩ : BufTy).Contents (Elt Ideal)) (M : (⟨S4096x1024, .bf16⟩ : BufTy).Contents (Elt Ideal))
  (GB : (⟨S1x1024, .f32⟩ : BufTy).Contents (Elt Ideal))

/-- The gradient of the norm's result. -/
def back (s : Fin 4096) (j : Fin 1024) : EReal := ∑ k : Fin 5632, DY (ix2 s k) * W (ix2 k j)

/-- The gradient of the residual stream below the norm. -/
def down (s : Fin 4096) (j : Fin 1024) : EReal :=
  DX (ix2 s j) + part (fun k => X (ix2 s k)) (fun k => back DY W s k * G (ix2 0 k)) j

/-- The gradient of the branch whose norm was added there. -/
def branch (s : Fin 4096) (j : Fin 1024) : EReal :=
  part (fun k => M (ix2 s k)) (fun k => down DY W X G DX s k * GB (ix2 0 k)) j

/-- The gradients of the two gains. -/
def gain (j : Fin 1024) : EReal := ∑ s, X (ix2 s j) * scale (fun k => X (ix2 s k)) * back DY W s j
def branchGain (j : Fin 1024) : EReal := ∑ s, M (ix2 s j) * scale (fun k => M (ix2 s k)) * down DY W X G DX s j

theorem v8_at (s : Fin 4096) (z : Fin 1) : val_main_v8 X (ix2 s z) = power (fun k => X (ix2 s k)) := by
  unfold val_main_v8 val_main_v6 val_main_v7 val_main_v5 val_main_v4 val_main_v3 val_main_v2 val_main_cst val_main_cst_0 val_main_cst_1
  pointwise [power]

theorem v9_at (s : Fin 4096) (z : Fin 1) : val_main_v9 X (ix2 s z) = scale (fun k => X (ix2 s k)) := by
  unfold val_main_v9
  pointwise [v8_at X, scale]

theorem v19_at (s : Fin 4096) (j : Fin 1024) : val_main_v19 DY W (ix2 s j) = back DY W s j := by
  unfold val_main_v19 val_main_v18 val_main_v1 val_main_v0
  pointwise [back]

theorem v24_at (s : Fin 4096) (j : Fin 1024) : val_main_v24 DY W G (ix2 s j) = back DY W s j * G (ix2 0 j) := by
  unfold val_main_v24 val_main_v23
  pointwise [v19_at DY W]

theorem v34_at (s : Fin 4096) : val_main_v34 DY W X G (ix1 s) = slope (fun k => X (ix2 s k)) (fun k => back DY W s k * G (ix2 0 k)) := by
  unfold val_main_v34 val_main_v33 val_main_v32 val_main_v31 val_main_v27 val_main_v26 val_main_v25 val_main_v12 val_main_v11 val_main_v10 val_main_cst_2 val_main_cst_4 val_main_cst_5 val_main_cst_6
  pointwise [v24_at DY W G, v8_at X, v9_at X]
  rw [Fin.sum_univ_one]
  rfl

theorem v39_at (s : Fin 4096) (j : Fin 1024) : val_main_v39 DY W X G DX (ix2 s j) = down DY W X G DX s j := by
  unfold val_main_v39 val_main_v38 val_main_v37 val_main_v36 val_main_v35 val_main_v30 val_main_v29 val_main_v28 down
  rw [← part_eq]
  pointwise [v24_at DY W G, v9_at X, v34_at DY W X G]
  simp only [add_assoc]

theorem v22_at (z : Fin 1) (j : Fin 1024) : val_main_v22 DY W X (ix2 z j) = gain DY W X j := by
  unfold val_main_v22 val_main_v21 val_main_v20 val_main_v14 val_main_v13 val_main_cst_3
  pointwise [v19_at DY W, v9_at X, gain]

theorem v47_at (s : Fin 4096) (z : Fin 1) : val_main_v47 M (ix2 s z) = power (fun k => M (ix2 s k)) := by
  unfold val_main_v47 val_main_v45 val_main_v46 val_main_v44 val_main_v43 val_main_v42 val_main_v41 val_main_v40 val_main_cst_7 val_main_cst_8 val_main_cst_9
  pointwise [power]

theorem v48_at (s : Fin 4096) (z : Fin 1) : val_main_v48 M (ix2 s z) = scale (fun k => M (ix2 s k)) := by
  unfold val_main_v48
  pointwise [v47_at M, scale]

theorem v60_at (s : Fin 4096) (j : Fin 1024) :
    val_main_v60 DY W X G DX GB (ix2 s j) = down DY W X G DX s j * GB (ix2 0 j) := by
  unfold val_main_v60 val_main_v59
  pointwise [v39_at DY W X G DX]

theorem v69_at (s : Fin 4096) : val_main_v69 DY W X G DX M GB (ix1 s)
    = slope (fun k => M (ix2 s k)) (fun k => down DY W X G DX s k * GB (ix2 0 k)) := by
  unfold val_main_v69 val_main_v68 val_main_v67 val_main_v66 val_main_v63 val_main_v62 val_main_v61 val_main_v51 val_main_v50 val_main_v49 val_main_v40 val_main_cst_10 val_main_cst_12 val_main_cst_13 val_main_cst_14
  pointwise [v60_at DY W X G DX GB, v47_at M, v48_at M]
  rw [Fin.sum_univ_one]
  rfl

theorem v75_at (s : Fin 4096) (j : Fin 1024) : val_main_v75 DY W X G DX M GB (ix2 s j) = branch DY W X G DX M GB s j := by
  unfold val_main_v75 val_main_v74 val_main_v73 val_main_v72 val_main_v71 val_main_v70 val_main_v65 val_main_v64 val_main_v40 branch
  rw [← part_eq]
  pointwise [v60_at DY W X G DX GB, v48_at M, v69_at DY W X G DX M GB]

theorem v58_at (z : Fin 1) (j : Fin 1024) : val_main_v58 DY W X G DX M (ix2 z j) = branchGain DY W X G DX M j := by
  unfold val_main_v58 val_main_v57 val_main_v56 val_main_v53 val_main_v52 val_main_v40 val_main_cst_11
  pointwise [v39_at DY W X G DX, v48_at M, branchGain]

end Cert.Reference3Ideal.Read

end
-- ==== Proof.FfnInBwd.lean ====
/- The gradient of the feed-forward block's first product: the kernel's row blocks put together, and its sums over the row blocks, are what
   the reference computes. -/
module

public import proofs.«01_k».proof.Defs
public import proofs.«01_k».proof.Proof.FfnInBwdRef
public import proofs.«01_k».proof.Proof.Gen.Kernel3Ideal.Value
public import Idealize.ShloMosaic.Lib.Pipeline.ReadBack

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Norm

section

variable (dy : FVec Ideal S256x5632 .bf16) (w : FVec Ideal S5632x1024 .bf16) (x : FVec Ideal S256x1024 .f32) (g : FVec Ideal S1x1024 .f32)
  (dx : FVec Ideal S256x1024 .f32) (mm : FVec Ideal S256x1024 .bf16) (gb acc : FVec Ideal S1x1024 .f32)

/-- A block's gradient of the norm's result, of the residual stream below it, and of the branch below that. -/
def backBlk (r : Fin 256) (j : Fin 1024) : EReal := ∑ k : Fin 5632, dy (ix2 r k) * w (ix2 k j)
def downBlk (r : Fin 256) (j : Fin 1024) : EReal :=
  dx (ix2 r j) + part (fun k => x (ix2 r k)) (fun k => backBlk dy w r k * g (ix2 0 k)) j
def branchBlk (r : Fin 256) (j : Fin 1024) : EReal :=
  part (fun k => mm (ix2 r k)) (fun k => downBlk dy w x g dx r k * gb (ix2 0 k)) j

/-- A block's parts of the two gains' gradients. -/
def gainBlk (y : S1x1024.Idx) : EReal := ∑ r, x (ix2 r (y 1)) * scale (fun k => x (ix2 r k)) * backBlk dy w r (y 1)
def branchGainBlk (y : S1x1024.Idx) : EReal := ∑ r, mm (ix2 r (y 1)) * scale (fun k => mm (ix2 r k)) * downBlk dy w x g dx r (y 1)

theorem pay3_at (r : Fin 256) (j : Fin 1024) : k0_pay3 (F := Ideal) dy w (ix2 r j) = backBlk dy w r j := by
  pointwise [k0_pay3, backBlk]

theorem pay4_at (r : Fin 256) (z : Fin 1) : k0_pay4 (F := Ideal) x (ix2 r z) = scale (fun k => x (ix2 r k)) := by
  pointwise [k0_pay4, scale, power]

theorem pay5_at (r : Fin 256) (j : Fin 1024) : k0_pay5 (F := Ideal) x (ix2 r j) = x (ix2 r j) * scale (fun k => x (ix2 r k)) := by
  pointwise [k0_pay5, pay4_at x]

theorem pay6_at (r : Fin 256) (j : Fin 1024) :
    k0_pay6 (F := Ideal) dy w x g (ix2 r j) = part (fun k => x (ix2 r k)) (fun k => backBlk dy w r k * g (ix2 0 k)) j := by
  pointwise [k0_pay6, pay3_at dy w, pay4_at x, pay5_at x, part]

theorem pay7_at (z : Fin 1) (j : Fin 1024) : k0_pay7 (F := Ideal) dy w x acc (ix2 z j) = acc (ix2 z j) + gainBlk dy w x (ix2 z j) := by
  pointwise [k0_pay7, pay3_at dy w, pay5_at x, gainBlk]
  exact congrArg _ (Finset.sum_congr rfl fun r _ => mul_comm _ _)

theorem pay8_at (r : Fin 256) (j : Fin 1024) : k0_pay8 (F := Ideal) (k0_pay6 dy w x g) dx (ix2 r j) = downBlk dy w x g dx r j := by
  pointwise [k0_pay8, pay6_at dy w x g, downBlk]

theorem pay10_at (r : Fin 256) (z : Fin 1) : k0_pay10 (F := Ideal) mm (ix2 r z) = scale (fun k => mm (ix2 r k)) := by
  pointwise [k0_pay10, k0_pay9, scale, power]

theorem pay11_at (r : Fin 256) (j : Fin 1024) : k0_pay11 (F := Ideal) mm (ix2 r j) = mm (ix2 r j) * scale (fun k => mm (ix2 r k)) := by
  pointwise [k0_pay11, k0_pay9, pay10_at mm]

theorem pay12_at (r : Fin 256) (j : Fin 1024) :
    k0_pay12 (F := Ideal) (k0_pay6 dy w x g) dx mm gb (ix2 r j) = branchBlk dy w x g dx mm gb r j := by
  pointwise [k0_pay12, pay8_at dy w x g dx, pay10_at mm, pay11_at mm, branchBlk, part]

theorem pay13_at (z : Fin 1) (j : Fin 1024) : k0_pay13 (F := Ideal) (k0_pay6 dy w x g) dx mm acc (ix2 z j)
    = acc (ix2 z j) + branchGainBlk dy w x g dx mm (ix2 z j) := by
  pointwise [k0_pay13, pay8_at dy w x g dx, pay11_at mm, branchGainBlk]
  exact congrArg _ (Finset.sum_congr rfl fun r _ => mul_comm _ _)

end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] ∧ win0_10.index t = ![0, 0] :=
  (by decide +kernel : ∀ t : Fin grid0.N, _)

/-- The row of the arrays that is row `r` of point `t`'s blocks. -/
def row (t : Fin cfg0.N) (r : Fin 256) : Fin 4096 := ⟨t.val * 256 + r.val, by have := t.isLt; have h : cfg0.N = 16 := N_0; omega⟩

theorem out7 (t : Fin cfg0.N) : (outsAt0 m c t.val t.isLt).1 = k0_pay8 (k0_pay6 (iblk m c 0 t) (iblk m c 1 t) (iblk m c 2 t) (iblk m c 3 t)) (iblk m c 4 t) := by
  by_cases h : t.val % 16 = 0
  · rw [outsAt0_A m c t h]
    frame_out
  · rw [outsAt0_B m c t h]
    frame_out

theorem out9 (t : Fin cfg0.N) : (outsAt0 m c t.val t.isLt).2.2.1
    = k0_pay12 (k0_pay6 (iblk m c 0 t) (iblk m c 1 t) (iblk m c 2 t) (iblk m c 3 t)) (iblk m c 4 t) (iblk m c 5 t) (iblk m c 6 t) := by
  by_cases h : t.val % 16 = 0
  · rw [outsAt0_A m c t h]
    frame_out
  · rw [outsAt0_B m c t h]
    frame_out

theorem first8 (t : Fin cfg0.N) (h : t.val % 16 = 0) (y : S1x1024.Idx) :
    (outsAt0 m c t.val t.isLt).2.1 y = 0 + gainBlk (iblk m c 0 t) (iblk m c 1 t) (iblk m c 2 t) y := by
  rw [outsAt0_A m c t h]
  frame_open
  simp (disch := decide) only [↓ View.readCov_skip, ↓ View.readCov_cons_toLoadRect, ↓ View.readCov_fill]
  frame_out
  idx_vars y
  rw [pay7_at]
  pointwise [k0_pay1]

theorem step8 (t : Fin cfg0.N) (h : ¬ t.val % 16 = 0) (y : S1x1024.Idx) :
    (outsAt0 m c t.val t.isLt).2.1 y = (outsAt0 m c (t.val - 1) (Nat.lt_of_le_of_lt (Nat.sub_le _ _) t.isLt)).2.1 y
      + gainBlk (iblk m c 0 t) (iblk m c 1 t) (iblk m c 2 t) y := by
  rw [outsAt0_B m c t h]
  frame_out
  idx_vars y
  rw [pay7_at]

theorem first10 (t : Fin cfg0.N) (h : t.val % 16 = 0) (y : S1x1024.Idx) :
    (outsAt0 m c t.val t.isLt).2.2.2 y = 0 + branchGainBlk (iblk m c 0 t) (iblk m c 1 t) (iblk m c 2 t) (iblk m c 3 t) (iblk m c 4 t) (iblk m c 5 t) y := by
  rw [outsAt0_A m c t h]
  frame_open
  simp (disch := decide) only [↓ View.readCov_skip, ↓ View.readCov_cons_toLoadRect, ↓ View.readCov_fill]
  frame_out
  idx_vars y
  rw [pay13_at]
  pointwise [k0_pay2]

theorem step10 (t : Fin cfg0.N) (h : ¬ t.val % 16 = 0) (y : S1x1024.Idx) :
    (outsAt0 m c t.val t.isLt).2.2.2 y = (outsAt0 m c (t.val - 1) (Nat.lt_of_le_of_lt (Nat.sub_le _ _) t.isLt)).2.2.2 y
      + branchGainBlk (iblk m c 0 t) (iblk m c 1 t) (iblk m c 2 t) (iblk m c 3 t) (iblk m c 4 t) (iblk m c 5 t) y := by
  rw [outsAt0_B m c t h]
  frame_out
  idx_vars y
  rw [pay13_at]

/-- The arguments as launched. -/
def DY : FVec Ideal S4096x5632 .bf16 := m ((c.tc : Thread nD τ).loc main_arg0)
def W : FVec Ideal S5632x1024 .bf16 := m ((c.tc : Thread nD τ).loc main_arg1)
def X : FVec Ideal S4096x1024 .f32 := m ((c.tc : Thread nD τ).loc main_arg2)
def G : FVec Ideal S1x1024 .f32 := m ((c.tc : Thread nD τ).loc main_arg3)
def DX : FVec Ideal S4096x1024 .f32 := m ((c.tc : Thread nD τ).loc main_arg4)
def M : FVec Ideal S4096x1024 .bf16 := m ((c.tc : Thread nD τ).loc main_arg5)
def GB : FVec Ideal S1x1024 .f32 := m ((c.tc : Thread nD τ).loc main_arg6)

theorem block_dy (t : Fin cfg0.N) (r : Fin 256) (j : Fin 5632) :
    (iblk m c 0 t : FVec Ideal S256x5632 .bf16) (ix2 r j) = DY m c (ix2 (row t r) j) := by
  unfold DY row
  blk_ext [iblk, V, idx t]

theorem block_w (t : Fin cfg0.N) : (iblk m c 1 t : FVec Ideal S5632x1024 .bf16) = W m c := by
  funext y
  unfold W
  blk_ext [iblk, V, idx t]

theorem block_x (t : Fin cfg0.N) (r : Fin 256) (j : Fin 1024) :
    (iblk m c 2 t : FVec Ideal S256x1024 .f32) (ix2 r j) = X m c (ix2 (row t r) j) := by
  unfold X row
  blk_ext [iblk, V, idx t]

theorem block_g (t : Fin cfg0.N) : (iblk m c 3 t : FVec Ideal S1x1024 .f32) = G m c := by
  funext y
  unfold G
  blk_ext [iblk, V, idx t]

theorem block_dx (t : Fin cfg0.N) (r : Fin 256) (j : Fin 1024) :
    (iblk m c 4 t : FVec Ideal S256x1024 .f32) (ix2 r j) = DX m c (ix2 (row t r) j) := by
  unfold DX row
  blk_ext [iblk, V, idx t]

theorem block_m (t : Fin cfg0.N) (r : Fin 256) (j : Fin 1024) :
    (iblk m c 5 t : FVec Ideal S256x1024 .bf16) (ix2 r j) = M m c (ix2 (row t r) j) := by
  unfold M row
  blk_ext [iblk, V, idx t]

theorem block_gb (t : Fin cfg0.N) : (iblk m c 6 t : FVec Ideal S1x1024 .f32) = GB m c := by
  funext y
  unfold GB
  blk_ext [iblk, V, idx t]

/-- The results as functions of the arguments. -/
def back (s : Fin 4096) (j : Fin 1024) : EReal := Cert.Reference3Ideal.Read.back (DY m c) (W m c) s j
def down (i : S4096x1024.Idx) : EReal := Cert.Reference3Ideal.Read.down (DY m c) (W m c) (X m c) (G m c) (DX m c) (i 0) (i 1)
def branch (i : S4096x1024.Idx) : EReal :=
  Cert.Reference3Ideal.Read.branch (DY m c) (W m c) (X m c) (G m c) (DX m c) (M m c) (GB m c) (i 0) (i 1)
def gain (i : S1x1024.Idx) : EReal := Cert.Reference3Ideal.Read.gain (DY m c) (W m c) (X m c) (i 1)
def branchGain (i : S1x1024.Idx) : EReal :=
  Cert.Reference3Ideal.Read.branchGain (DY m c) (W m c) (X m c) (G m c) (DX m c) (M m c) (i 1)

theorem back_block (t : Fin cfg0.N) (r : Fin 256) (j : Fin 1024) :
    backBlk (iblk m c 0 t) (iblk m c 1 t) r j = back m c (row t r) j := by
  unfold backBlk
  rw [block_w]
  exact Finset.sum_congr rfl fun k _ => congrArg (fun z : EReal => z * W m c (ix2 k j)) (block_dy m c t r k)

theorem down_block (t : Fin cfg0.N) (r : Fin 256) (j : Fin 1024) :
    downBlk (iblk m c 0 t) (iblk m c 1 t) (iblk m c 2 t) (iblk m c 3 t) (iblk m c 4 t) r j = down m c (ix2 (row t r) j) := by
  unfold downBlk
  rw [block_g]
  exact congrArg₂ (· + ·) (block_dx m c t r j) (congrFun (congrArg₂ part (funext fun k => block_x m c t r k)
    (funext fun k => congrArg (· * _) (back_block m c t r k))) j)

theorem branch_block (t : Fin cfg0.N) (r : Fin 256) (j : Fin 1024) :
    branchBlk (iblk m c 0 t) (iblk m c 1 t) (iblk m c 2 t) (iblk m c 3 t) (iblk m c 4 t) (iblk m c 5 t) (iblk m c 6 t) r j
      = branch m c (ix2 (row t r) j) := by
  unfold branchBlk
  rw [block_gb]
  exact congrFun (congrArg₂ part (funext fun k => block_m m c t r k) (funext fun k => congrArg (· * _) (down_block m c t r k))) j

theorem gain_block (t : Fin cfg0.N) (y : S1x1024.Idx) : gainBlk (iblk m c 0 t) (iblk m c 1 t) (iblk m c 2 t) y
    = ∑ r, X m c (ix2 (row t r) (y 1)) * scale (fun k => X m c (ix2 (row t r) k)) * back m c (row t r) (y 1) :=
  Finset.sum_congr rfl fun r _ => congrArg₂ (· * ·) (congrArg₂ (· * ·) (block_x m c t r (y 1)) (congrArg scale (funext fun k => block_x m c t r k)))
    (back_block m c t r (y 1))

theorem branchGain_block (t : Fin cfg0.N) (y : S1x1024.Idx) :
    branchGainBlk (iblk m c 0 t) (iblk m c 1 t) (iblk m c 2 t) (iblk m c 3 t) (iblk m c 4 t) (iblk m c 5 t) y
      = ∑ r, M m c (ix2 (row t r) (y 1)) * scale (fun k => M m c (ix2 (row t r) k)) * down m c (ix2 (row t r) (y 1)) :=
  Finset.sum_congr rfl fun r _ => congrArg₂ (· * ·) (congrArg₂ (· * ·) (block_m m c t r (y 1)) (congrArg scale (funext fun k => block_m m c t r k)))
    (down_block m c t r (y 1))

theorem place7 (t : Fin cfg0.N) (r : Fin 256) (j : Fin 1024) :
    ((win0_7.blk t).view.emb (ix2 r j : S256x1024.Idx) : S4096x1024.Idx) = ix2 (row t r) j := by
  unfold row
  blk_ext [idx t]

theorem place9 (t : Fin cfg0.N) (r : Fin 256) (j : Fin 1024) :
    ((win0_9.blk t).view.emb (ix2 r j : S256x1024.Idx) : S4096x1024.Idx) = ix2 (row t r) j := by
  unfold row
  blk_ext [idx t]

theorem arr7 : (dats m 0 c).arrAt 7 cfg0.N = down m c := by
  refine (dats m 0 c).arrAt_eq_of_covers 7 _ (by decide +kernel) fun t _ y => ?_
  blk_simp
  rw [after0_7, out7]
  idx_vars y
  exact ((pay8_at _ _ _ _ _ _ _).trans (down_block m c t _ _)).trans (congrArg (down m c) (place7 t _ _).symm)

theorem arr9 : (dats m 0 c).arrAt 9 cfg0.N = branch m c := by
  refine (dats m 0 c).arrAt_eq_of_covers 9 _ (by decide +kernel) fun t _ y => ?_
  blk_simp
  rw [after0_9, out9]
  idx_vars y
  exact ((pay12_at _ _ _ _ _ _ _ _ _).trans (branch_block m c t _ _)).trans (congrArg (branch m c) (place9 t _ _).symm)

theorem arr8 : (dats m 0 c).arrAt 8 cfg0.N = gain m c := by
  refine (dats m 0 c).arrAt_eq_of_after_last 8 t0_15 (by decide +kernel) (gain m c) fun j => ?_
  blk_simp
  rw [after0_8, Pipeline.eq_sum_fin_of_reset_step_apply_last (fun n h => (outsAt0 m c n h).2.1) 16 (fun _ => 0) _
    (fun t h j => first8 m c t h j) (fun t h j => step8 m c t h j) (le_of_eq N_0) t0_15 rfl j, zero_add]
  simp only [gain_block]
  unfold gain Cert.Reference3Ideal.Read.gain
  exact Fin.sum_mul_add_congr fun s k hl => rfl

theorem arr10 : (dats m 0 c).arrAt 10 cfg0.N = branchGain m c := by
  refine (dats m 0 c).arrAt_eq_of_after_last 10 t0_15 (by decide +kernel) (branchGain m c) fun j => ?_
  blk_simp
  rw [after0_10, Pipeline.eq_sum_fin_of_reset_step_apply_last (fun n h => (outsAt0 m c n h).2.2.2) 16 (fun _ => 0) _
    (fun t h j => first10 m c t h j) (fun t h j => step10 m c t h j) (le_of_eq N_0) t0_15 rfl j, zero_add]
  simp only [branchGain_block]
  unfold branchGain Cert.Reference3Ideal.Read.branchGain
  exact Fin.sum_mul_add_congr fun s k hl => rfl

end Cert.Kernel3Ideal.Value

namespace Cert.Proof

theorem values3 : Cert.algebraic_Kernel3Ideal_Reference3Ideal := by
  intro m g m' g' _ hm
  refine ⟨fun c => Cert.Kernel3Ideal.Value.down m c, fun c => Cert.Kernel3Ideal.Value.gain m c, fun c => Cert.Kernel3Ideal.Value.branch m c,
    fun c => Cert.Kernel3Ideal.Value.branchGain m c, ?_, ?_⟩
  · refine (θ_run _ _ _).mono (fun r h c => ?_) (Cert.Kernel3Ideal.Value.run_blocks m g)
    obtain ⟨h7, h8, h9, h10, hr⟩ := h c
    exact ⟨h7.trans (Cert.Kernel3Ideal.Value.arr7 m c), h8.trans (Cert.Kernel3Ideal.Value.arr8 m c), h9.trans (Cert.Kernel3Ideal.Value.arr9 m c),
      h10.trans (Cert.Kernel3Ideal.Value.arr10 m c), hr⟩
  · refine (θ_run _ _ _).mono (fun r h c => ?_) (Cert.Reference3Ideal.Value.run m' g')
    obtain ⟨e0, e1, e2, e3, e4, e5, e6⟩ := hm c
    obtain ⟨h7, h8, h9, h10, hr⟩ := h c
    refine ⟨h7.trans ?_, h8.trans ?_, h9.trans ?_, h10.trans ?_, hr⟩
    · rw [Cert.Reference3Ideal.Read.val_main_v39_eq, e0, e1, e2, e3, e4]
      funext i
      idx_vars i
      exact Cert.Reference3Ideal.Read.v39_at _ _ _ _ _ _ _
    · rw [Cert.Reference3Ideal.Read.val_main_v22_eq, e0, e1, e2]
      funext i
      idx_vars i
      exact Cert.Reference3Ideal.Read.v22_at _ _ _ _ _
    · rw [Cert.Reference3Ideal.Read.val_main_v75_eq, e0, e1, e2, e3, e4, e5, e6]
      funext i
      idx_vars i
      exact Cert.Reference3Ideal.Read.v75_at _ _ _ _ _ _ _ _ _
    · rw [Cert.Reference3Ideal.Read.val_main_v58_eq, e0, e1, e2, e3, e4, e5]
      funext i
      idx_vars i
      exact Cert.Reference3Ideal.Read.v58_at _ _ _ _ _ _ _ _

end Cert.Proof

end
-- ==== Proof.WGateUpGrad.lean ====
/- The gradient of w_gate_up: the kernel's column blocks put together are the product that the reference computes and transposes. -/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

variable (m : (ℓ : Loc nD τ sig) → Buf (Elt Ideal) ℓ) (c : Dev nD)

/-- The element of the gradient that the reference computes. -/
abbrev grad (i : S5632x1024.Idx) : EReal :=
  Cert.Reference4Ideal.Read.val_main_v6 (F := Ideal) (m ((c.tc : Thread nD τ).loc main_arg0)) (m ((c.tc : Thread nD τ).loc main_arg1)) i

theorem idx : ∀ t : Fin cfg0.N, win0_0.index t = ![0, t.val] ∧ win0_1.index t = ![0, 0] ∧ win0_2.index t = ![t.val, 0] :=
  (by decide +kernel : ∀ t : Fin grid0.N, _)

/-- The row of the gradient that is row `r` of point `t`'s block. -/
def row (t : Fin cfg0.N) (r : Fin 512) : Fin 5632 := ⟨t.val * 512 + r.val, by have := t.isLt; have h : cfg0.N = 11 := N_0; omega⟩

theorem place (t : Fin cfg0.N) (r : Fin 512) (j : Fin 1024) :
    ((win0_2.blk t).view.emb (ix2 r j : S512x1024.Idx) : S5632x1024.Idx) = ix2 (row t r) j := by
  unfold row
  blk_ext [idx t]

theorem block (t : Fin cfg0.N) (r : Fin 512) (j : Fin 1024) :
    k0_pay1 (F := Ideal) (iblk m c 0 t) (iblk m c 1 t) (ix2 r j) = grad m c (ix2 (row t r) j) := by
  unfold grad Cert.Reference4Ideal.Read.val_main_v6 Cert.Reference4Ideal.Read.val_main_v5 Cert.Reference4Ideal.Read.val_main_v4 Cert.Reference4Ideal.Read.val_main_v1 Cert.Reference4Ideal.Read.val_main_v0
  pointwise [k0_pay1]
  refine Finset.sum_congr rfl fun k _ => ?_
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel4Ideal.Value

namespace Cert.Proof

theorem values4 : Cert.algebraic_Kernel4Ideal_Reference4Ideal := by
  intro m g m' g' _ hm
  refine ⟨fun c => Cert.Kernel4Ideal.Value.grad m c, ?_, ?_⟩
  · refine (θ_run _ _ _).mono (fun r h c => ?_) (Cert.Kernel4Ideal.Value.run_blocks m g)
    exact ⟨(h c).1.trans (Cert.Kernel4Ideal.Value.arr2 m c), (h c).2⟩
  · refine (θ_run _ _ _).mono (fun r h c => ?_) (Cert.Reference4Ideal.Value.run m' g')
    obtain ⟨e0, e1⟩ := hm c
    refine ⟨(h c).1.trans ?_, (h c).2⟩
    exact (Cert.Reference4Ideal.Read.val_main_v6_eq _ _).trans (congrArg₂ _ e0 e1)

end Cert.Proof

end
-- ==== Proof.WDownGrad.lean ====
/- The gradient of w_down: the kernel's column blocks put together are the product that the reference computes. -/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ) (c : Dev nD)

/-- The element of the gradient that the reference computes. -/
abbrev grad (i : S2816x1024.Idx) : EReal :=
  Cert.Reference5Ideal.Read.val_main_v5 (F := Ideal) (m ((c.tc : Thread nD τ).loc main_arg0)) (m ((c.tc : Thread nD τ).loc main_arg1)) i

theorem idx : ∀ t : Fin cfg0.N, win0_0.index t = ![0, t.val] ∧ win0_1.index t = ![0, 0] ∧ win0_2.index t = ![t.val, 0] :=
  (by decide +kernel : ∀ t : Fin grid0.N, _)

/-- The row of the gradient that is row `r` of point `t`'s block. -/
def row (t : Fin cfg0.N) (r : Fin 256) : Fin 2816 := ⟨t.val * 256 + r.val, by have := t.isLt; have h : cfg0.N = 11 := N_0; omega⟩

theorem place (t : Fin cfg0.N) (r : Fin 256) (j : Fin 1024) :
    ((win0_2.blk t).view.emb (ix2 r j : S256x1024.Idx) : S2816x1024.Idx) = ix2 (row t r) j := by
  unfold row
  blk_ext [idx t]

theorem block (t : Fin cfg0.N) (r : Fin 256) (j : Fin 1024) :
    k0_pay1 (F := Ideal) (iblk m c 0 t) (iblk m c 1 t) (ix2 r j) = grad m c (ix2 (row t r) j) := by
  unfold grad Cert.Reference5Ideal.Read.val_main_v5 Cert.Reference5Ideal.Read.val_main_v4 Cert.Reference5Ideal.Read.val_main_v1 Cert.Reference5Ideal.Read.val_main_v0
  pointwise [k0_pay1]
  refine Finset.sum_congr rfl fun k _ => ?_
  rw [mul_comm]
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel5Ideal.Value

namespace Cert.Proof

theorem values5 : Cert.algebraic_Kernel5Ideal_Reference5Ideal := by
  intro m g m' g' _ hm
  refine ⟨fun c => Cert.Kernel5Ideal.Value.grad m c, ?_, ?_⟩
  · refine (θ_run _ _ _).mono (fun r h c => ?_) (Cert.Kernel5Ideal.Value.run_blocks m g)
    exact ⟨(h c).1.trans (Cert.Kernel5Ideal.Value.arr2 m c), (h c).2⟩
  · refine (θ_run _ _ _).mono (fun r h c => ?_) (Cert.Reference5Ideal.Value.run m' g')
    obtain ⟨e0, e1⟩ := hm c
    refine ⟨(h c).1.trans ?_, (h c).2⟩
    exact (Cert.Reference5Ideal.Read.val_main_v5_eq _ _).trans (congrArg₂ _ e0 e1)

end Cert.Proof

end
-- ==== Proof.FfnIn.lean ====
/- The product with w_gate_up: the kernel's blocks put together are the product that the reference computes. -/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ) (c : Dev nD)

/-- The element of the product that the reference computes. -/
abbrev out (i : S4096x5632.Idx) : EReal :=
  Cert.Reference6Ideal.Read.val_main_v4 (F := Ideal) (m ((c.tc : Thread nD τ).loc main_arg0)) (m ((c.tc : Thread nD τ).loc main_arg1)) i

theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- The row of the product that is row `r` of point `t`'s block: the points run down the rows of a column of blocks. -/
def row (t : Fin cfg0.N) (r : Fin 512) : Fin 4096 := ⟨t.val % 8 * 512 + r.val, by omega⟩

/-- The column of the product that is column `j` of point `t`'s block. -/
def col (t : Fin cfg0.N) (j : Fin 1408) : Fin 5632 := ⟨t.val / 8 * 1408 + j.val, by have := t.isLt; have h : cfg0.N = 32 := N_0; omega⟩

theorem place (t : Fin cfg0.N) (r : Fin 512) (j : Fin 1408) :
    ((win0_2.blk t).view.emb (ix2 r j : S512x1408.Idx) : S4096x5632.Idx) = ix2 (row t r) (col t j) := by
  unfold row col
  blk_ext [idx t]

theorem block (t : Fin cfg0.N) (r : Fin 512) (j : Fin 1408) :
    k0_pay1 (F := Ideal) (iblk m c 0 t) (iblk m c 1 t) (ix2 r j) = out m c (ix2 (row t r) (col t j)) := by
  unfold out Cert.Reference6Ideal.Read.val_main_v4 Cert.Reference6Ideal.Read.val_main_v3 Cert.Reference6Ideal.Read.val_main_v2 Cert.Reference6Ideal.Read.val_main_v1 Cert.Reference6Ideal.Read.val_main_v0
  pointwise [k0_pay1]
  refine Finset.sum_congr rfl fun k _ => ?_
  unfold row col
  congr 1 <;> blk_ext [iblk, V, idx t]

theorem arr2 : (dats m 0 c).arrAt 2 cfg0.N = out m c := by
  refine (dats m 0 c).arrAt_eq_of_covers 2 _ (by decide +kernel) fun t _ y => ?_
  blk_simp
  rw [after0_2]
  unfold out0_2
  frame_out
  idx_vars y
  exact (block m c t _ _).trans (congrArg (out m c) (place t _ _).symm)

end Cert.Kernel6Ideal.Value

namespace Cert.Proof

theorem values6 : Cert.algebraic_Kernel6Ideal_Reference6Ideal := by
  intro m g m' g' _ hm
  refine ⟨fun c => Cert.Kernel6Ideal.Value.out m c, ?_, ?_⟩
  · refine (θ_run _ _ _).mono (fun r h c => ?_) (Cert.Kernel6Ideal.Value.run_blocks m g)
    exact ⟨(h c).1.trans (Cert.Kernel6Ideal.Value.arr2 m c), (h c).2⟩
  · refine (θ_run _ _ _).mono (fun r h c => ?_) (Cert.Reference6Ideal.Value.run m' g')
    obtain ⟨e0, e1⟩ := hm c
    refine ⟨(h c).1.trans ?_, (h c).2⟩
    exact (Cert.Reference6Ideal.Read.val_main_v4_eq _ _).trans (congrArg₂ _ e0 e1)

end Cert.Proof

end
-- ==== Proof.FfnOut.lean ====
/- The feed-forward block's second half: the gate, the product, the norm of it added to the residual stream, and the norm of that. The
   kernel's row blocks put together are what the reference computes. -/
module

public import proofs.«01_k».proof.Defs
public import proofs.«01_k».proof.Proof.Norm
public import proofs.«01_k».proof.Proof.Gate
public import proofs.«01_k».proof.Proof.Stores
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference7Ideal.Read

open Cert.Reference7Ideal Cert.Reference7Ideal.Gen Cert.Norm Cert.Gate

variable (GU : (⟨S4096x5632, .bf16⟩ : BufTy).Contents (Elt Ideal)) (W : (⟨S2816x1024, .bf16⟩ : BufTy).Contents (Elt Ideal))
  (P : (⟨S1x1024, .f32⟩ : BufTy).Contents (Elt Ideal)) (X : (⟨S4096x1024, .f32⟩ : BufTy).Contents (Elt Ideal))
  (G : (⟨S1x1024, .f32⟩ : BufTy).Contents (Elt Ideal))

/-- The gated values, their product, the residual stream with the product's norm added, and the norm of that. -/
def act (s : Fin 4096) (j : Fin 2816) : EReal := gated (GU (ix2 s (gateCol j))) (GU (ix2 s (upCol j)))
def prod (s : Fin 4096) (j : Fin 1024) : EReal := ∑ k : Fin 2816, act GU s k * W (ix2 k j)
def resid (s : Fin 4096) (j : Fin 1024) : EReal := X (ix2 s j) + prod GU W s j * scale (prod GU W s) * P (ix2 0 j)
def next (s : Fin 4096) (j : Fin 1024) : EReal := resid GU W P X s j * scale (resid GU W P X s) * G (ix2 0 j)

theorem v1_at (s : Fin 4096) (j : Fin 2816) : val_main_v1 GU (ix2 s j) = GU (ix2 s (gateCol j)) := by
  unfold val_main_v1 val_main_v0
  pointwise
  blk_ext [gateCol]

theorem v2_at (s : Fin 4096) (j : Fin 2816) : val_main_v2 GU (ix2 s j) = GU (ix2 s (upCol j)) := by
  unfold val_main_v2 val_main_v0
  pointwise
  blk_ext [upCol]

theorem v4_at (s : Fin 4096) (j : Fin 2816) : val_main_v4 GU (ix2 s j) = act GU s j := by
  unfold val_main_v4 val_main_v3 val_main_call0_v5 val_main_call0_v4 val_main_call0_v3 val_main_call0_v2 val_main_call0_v1 val_main_call0_v0
    val_main_call0_cst val_main_call0_cst_0
  pointwise [v1_at GU, v2_at GU, act, gated, Gate.logistic]

theorem v21_at (s : Fin 4096) (j : Fin 2816) : val_main_v21 GU (ix2 s j) = act GU s j := by
  unfold val_main_v21
  pointwise [v4_at GU]

theorem v6_at (s : Fin 4096) (j : Fin 1024) : val_main_v6 GU W (ix2 s j) = prod GU W s j := by
  unfold val_main_v6 val_main_v5
  pointwise [v4_at GU, prod]

theorem v20_at (s : Fin 4096) (j : Fin 1024) : val_main_v20 GU W (ix2 s j) = prod GU W s j := by
  unfold val_main_v20
  pointwise [v6_at GU W]

theorem v19_at (s : Fin 4096) (j : Fin 1024) : val_main_v19 GU W P X (ix2 s j) = resid GU W P X s j := by
  unfold val_main_v19 val_main_v18 val_main_v17 val_main_v16 val_main_v15 val_main_v14 val_main_v13 val_main_v12 val_main_v11 val_main_v10
    val_main_v9 val_main_v8 val_main_v7 val_main_cst val_main_cst_0 val_main_cst_1
  pointwise [v6_at GU W, resid, scale, power]

theorem v34_at (s : Fin 4096) (j : Fin 1024) : val_main_v34 GU W P X G (ix2 s j) = next GU W P X G s j := by
  unfold val_main_v34 val_main_v33 val_main_v32 val_main_v31 val_main_v30 val_main_v29 val_main_v28 val_main_v27 val_main_v26 val_main_v25
    val_main_v24 val_main_v23 val_main_v22 val_main_cst_2 val_main_cst_3 val_main_cst_4
  pointwise [v19_at GU W P X, next, scale, power]

end Cert.Reference7Ideal.Read

namespace Cert.Kernel7Ideal.Value

open Cert.Kernel7Ideal Cert.Kernel7Ideal.Gen Cert.Norm Cert.Gate Cert.Stores

section

variable (gate up : FVec Ideal S256x640 .bf16) (gate' up' : FVec Ideal S256x256 .bf16)

theorem pay2_at (r : Fin 256) (j : Fin 640) : k0_pay2 (F := Ideal) gate up (ix2 r j) = gated (gate (ix2 r j)) (up (ix2 r j)) := by
  pointwise [k0_pay2, gated, logistic_eq]

theorem pay3_at (r : Fin 256) (j : Fin 640) : k0_pay3 (F := Ideal) gate up (ix2 r j) = gated (gate (ix2 r j)) (up (ix2 r j)) := by
  pointwise [k0_pay3, gated, logistic_eq]

theorem pay5_at (r : Fin 256) (j : Fin 640) : k0_pay5 (F := Ideal) (k0_pay4 gate) up (ix2 r j) = gated (gate (ix2 r j)) (up (ix2 r j)) := by
  pointwise [k0_pay5, k0_pay4, gated, logistic_eq]

theorem pay6_at (r : Fin 256) (j : Fin 640) : k0_pay6 (F := Ideal) gate up (ix2 r j) = gated (gate (ix2 r j)) (up (ix2 r j)) := by
  pointwise [k0_pay6, gated, logistic_eq]

theorem pay10_at (r : Fin 256) (j : Fin 256) :
    k0_pay10 (F := Ideal) (k0_pay7 gate') (k0_pay8 up') (k0_pay9 gate') (ix2 r j) = gated (gate' (ix2 r j)) (up' (ix2 r j)) := by
  pointwise [k0_pay10, k0_pay9, k0_pay8, k0_pay7, gated, logistic_eq]

end

/-- The gated values of a block. -/
def actBlk (gu : FVec Ideal S256x5632 .bf16) (y : S256x2816.Idx) : EReal := gated (gu (ix2 (y 0) (gateCol (y 1)))) (gu (ix2 (y 0) (upCol (y 1))))

section

variable (a : FVec Ideal S256x2816 .bf16) (w : FVec Ideal S2816x1024 .bf16) (x : FVec Ideal S256x1024 .f32) (p g : FVec Ideal S1x1024 .f32)

/-- The other results of a block, from the gated values. -/
def prodBlk (r : Fin 256) (j : Fin 1024) : EReal := ∑ k : Fin 2816, a (ix2 r k) * w (ix2 k j)
def residBlk (r : Fin 256) (j : Fin 1024) : EReal := x (ix2 r j) + prodBlk a w r j * scale (prodBlk a w r) * p (ix2 0 j)
def nextBlk (r : Fin 256) (j : Fin 1024) : EReal := residBlk a w x p r j * scale (residBlk a w x p r) * g (ix2 0 j)

theorem pay11_at (r : Fin 256) (j : Fin 1024) : k0_pay11 (F := Ideal) a w (ix2 r j) = prodBlk a w r j := by
  pointwise [k0_pay11, prodBlk]

theorem pay12_at (r : Fin 256) (j : Fin 1024) : k0_pay12 (F := Ideal) a w (ix2 r j) = prodBlk a w r j := by
  pointwise [k0_pay12, pay11_at a w]

theorem pay13_at (r : Fin 256) (j : Fin 1024) : k0_pay13 (F := Ideal) a w x p (ix2 r j) = residBlk a w x p r j := by
  pointwise [k0_pay13, pay11_at a w, residBlk, scale, power]

theorem pay1_at (r : Fin 256) (j : Fin 1024) :
    k0_pay1 (F := Ideal) (k0_pay13 a w x p) g (k0_pay14 a w x p) (ix2 r j) = nextBlk a w x p g r j := by
  pointwise [k0_pay1, k0_pay14, pay13_at a w x p, nextBlk, scale, power]

end

/-- Column `j` of the chunk that starts at column `o`. -/
def chunk (o : ℕ) {n : ℕ} (h : o + n ≤ 2816) (j : Fin n) : Fin 2816 := ⟨o + j.val, by omega⟩

theorem piece (gu : FVec Ideal S256x5632 .bf16) {gate up : EReal} (r : Fin 256) (j : Fin 2816) {z : S256x2816.Idx}
    (hg : gate = gu (ix2 r (gateCol j))) (hu : up = gu (ix2 r (upCol j))) (hz : z = ix2 r j) : gated gate up = actBlk gu z := by
  rw [hg, hu, hz]
  rfl

variable (m : (ℓ : Loc nD τ sig) → Buf (Elt Ideal) ℓ) (c : Dev nD)

theorem out5 (t : Fin cfg0.N) : (outsAt0 m c t).1 = k0_pay12 (outsAt0 m c t).2.2.1 (iblk m c 1 t) := by
  unfold outsAt0
  frame_out

theorem out6 (t : Fin cfg0.N) : (outsAt0 m c t).2.1 = k0_pay13 (outsAt0 m c t).2.2.1 (iblk m c 1 t) (iblk m c 3 t) (iblk m c 2 t) := by
  unfold outsAt0
  frame_out

theorem out8 (t : Fin cfg0.N) : (outsAt0 m c t).2.2.2 = k0_pay1 (outsAt0 m c t).2.1 (iblk m c 4 t)
    (k0_pay14 (outsAt0 m c t).2.2.1 (iblk m c 1 t) (iblk m c 3 t) (iblk m c 2 t)) := by
  unfold outsAt0
  frame_out

theorem out7 (t : Fin cfg0.N) : (outsAt0 m c t).2.2.1 = actBlk (iblk m c 0 t) := by
  unfold outsAt0
  frame_out
  rw [View.readCov_eq_canon']
  funext y
  idx_vars y
  refine (canon_all (e := .bf16) (actBlk (iblk m c 0 t)) _ _ ?_ ?_).trans ?_
  · refine ⟨fun x => ?_, fun x => ?_, fun x => ?_, fun x => ?_, fun x => ?_, trivial⟩
    all_goals idx_vars x
    · refine (pay10_at _ _ _ _).trans (piece _ x0 (chunk 2560 (by decide) x1) ?_ ?_ ?_)
      · pointwise; blk_ext [gateCol, chunk]
      · pointwise; blk_ext [upCol, chunk]
      · blk_ext [chunk]
    · refine (pay6_at _ _ _ _).trans (piece _ x0 (chunk 1920 (by decide) x1) ?_ ?_ ?_)
      · pointwise; blk_ext [gateCol, chunk]
      · pointwise; blk_ext [upCol, chunk]
      · blk_ext [chunk]
    · refine (pay5_at _ _ _ _).trans (piece _ x0 (chunk 1280 (by decide) x1) ?_ ?_ ?_)
      · pointwise; blk_ext [gateCol, chunk]
      · pointwise; blk_ext [upCol, chunk]
      · blk_ext [chunk]
    · refine (pay3_at _ _ _ _).trans (piece _ x0 (chunk 640 (by decide) x1) ?_ ?_ ?_)
      · pointwise; blk_ext [gateCol, chunk]
      · pointwise; blk_ext [upCol, chunk]
      · blk_ext [chunk]
    · refine (pay2_at _ _ _ _).trans (piece _ x0 (chunk 0 (by decide) x1) ?_ ?_ ?_)
      · pointwise; blk_ext [gateCol, chunk]
      · pointwise; blk_ext [upCol, chunk]
      · blk_ext [chunk]
  · refine View.cover_of_tiledBy (s := S256x2816) _ ![256, 128] ?_ _
    sl_kernel_rfl
  · refine congrArg _ (funext fun a => Fin.ext ?_)
    fin_cases a
    · simp [LoadRect.idx, Rect.unit, Rect.toLoadRect]
    · simp [LoadRect.idx, Rect.unit, Rect.toLoadRect]

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the arrays that is row `r` of point `t`'s blocks. -/
def row (t : Fin cfg0.N) (r : Fin 256) : Fin 4096 := ⟨t.val * 256 + r.val, by have := t.isLt; have h : cfg0.N = 16 := N_0; omega⟩

/-- The arguments as launched. -/
def GU : FVec Ideal S4096x5632 .bf16 := m ((c.tc : Thread nD τ).loc main_arg0)
def W : FVec Ideal S2816x1024 .bf16 := m ((c.tc : Thread nD τ).loc main_arg1)
def P : FVec Ideal S1x1024 .f32 := m ((c.tc : Thread nD τ).loc main_arg2)
def X : FVec Ideal S4096x1024 .f32 := m ((c.tc : Thread nD τ).loc main_arg3)
def G : FVec Ideal S1x1024 .f32 := m ((c.tc : Thread nD τ).loc main_arg4)

theorem block_gu (t : Fin cfg0.N) (r : Fin 256) (j : Fin 5632) :
    (iblk m c 0 t : FVec Ideal S256x5632 .bf16) (ix2 r j) = GU m c (ix2 (row t r) j) := by
  unfold GU row
  blk_ext [iblk, V, idx t]

theorem block_w (t : Fin cfg0.N) : (iblk m c 1 t : FVec Ideal S2816x1024 .bf16) = W m c := by
  funext y
  unfold W
  blk_ext [iblk, V, idx t]

theorem block_p (t : Fin cfg0.N) : (iblk m c 2 t : FVec Ideal S1x1024 .f32) = P m c := by
  funext y
  unfold P
  blk_ext [iblk, V, idx t]

theorem block_x (t : Fin cfg0.N) (r : Fin 256) (j : Fin 1024) :
    (iblk m c 3 t : FVec Ideal S256x1024 .f32) (ix2 r j) = X m c (ix2 (row t r) j) := by
  unfold X row
  blk_ext [iblk, V, idx t]

theorem block_g (t : Fin cfg0.N) : (iblk m c 4 t : FVec Ideal S1x1024 .f32) = G m c := by
  funext y
  unfold G
  blk_ext [iblk, V, idx t]

/-- The results as functions of the arguments. -/
def prod (i : S4096x1024.Idx) : EReal := Cert.Reference7Ideal.Read.prod (GU m c) (W m c) (i 0) (i 1)
def resid (i : S4096x1024.Idx) : EReal := Cert.Reference7Ideal.Read.resid (GU m c) (W m c) (P m c) (X m c) (i 0) (i 1)
def act (i : S4096x2816.Idx) : EReal := Cert.Reference7Ideal.Read.act (GU m c) (i 0) (i 1)
def next (i : S4096x1024.Idx) : EReal := Cert.Reference7Ideal.Read.next (GU m c) (W m c) (P m c) (X m c) (G m c) (i 0) (i 1)

theorem act_block (t : Fin cfg0.N) (r : Fin 256) (j : Fin 2816) : actBlk (iblk m c 0 t) (ix2 r j) = act m c (ix2 (row t r) j) :=
  congrArg₂ gated (block_gu m c t r (gateCol j)) (block_gu m c t r (upCol j))

theorem prod_block (t : Fin cfg0.N) (r : Fin 256) (j : Fin 1024) :
    prodBlk (actBlk (iblk m c 0 t)) (iblk m c 1 t) r j = prod m c (ix2 (row t r) j) := by
  unfold prodBlk
  rw [block_w]
  exact Finset.sum_congr rfl fun k _ => congrArg (fun z : EReal => z * W m c (ix2 k j)) (act_block m c t r k)

theorem resid_block (t : Fin cfg0.N) (r : Fin 256) (j : Fin 1024) :
    residBlk (actBlk (iblk m c 0 t)) (iblk m c 1 t) (iblk m c 3 t) (iblk m c 2 t) r j = resid m c (ix2 (row t r) j) := by
  unfold residBlk
  rw [block_p]
  exact congrArg₂ (· + ·) (block_x m c t r j) (congrArg (fun z : EReal => z * P m c (ix2 0 j))
    (congrArg₂ (· * ·) (prod_block m c t r j) (congrArg scale (funext fun k => prod_block m c t r k))))

theorem next_block (t : Fin cfg0.N) (r : Fin 256) (j : Fin 1024) :
    nextBlk (actBlk (iblk m c 0 t)) (iblk m c 1 t) (iblk m c 3 t) (iblk m c 2 t) (iblk m c 4 t) r j = next m c (ix2 (row t r) j) := by
  unfold nextBlk
  rw [block_g]
  exact congrArg (fun z : EReal => z * G m c (ix2 0 j))
    (congrArg₂ (· * ·) (resid_block m c t r j) (congrArg scale (funext fun k => resid_block m c t r k)))

theorem place5 (t : Fin cfg0.N) (r : Fin 256) (j : Fin 1024) :
    ((win0_5.blk t).view.emb (ix2 r j : S256x1024.Idx) : S4096x1024.Idx) = ix2 (row t r) j := by
  unfold row
  blk_ext [idx t]

theorem place6 (t : Fin cfg0.N) (r : Fin 256) (j : Fin 1024) :
    ((win0_6.blk t).view.emb (ix2 r j : S256x1024.Idx) : S4096x1024.Idx) = ix2 (row t r) j := by
  unfold row
  blk_ext [idx t]

theorem place7 (t : Fin cfg0.N) (r : Fin 256) (j : Fin 2816) :
    ((win0_7.blk t).view.emb (ix2 r j : S256x2816.Idx) : S4096x2816.Idx) = ix2 (row t r) j := by
  unfold row
  blk_ext [idx t]

theorem place8 (t : Fin cfg0.N) (r : Fin 256) (j : Fin 1024) :
    ((win0_8.blk t).view.emb (ix2 r j : S256x1024.Idx) : S4096x1024.Idx) = ix2 (row t r) j := by
  unfold row
  blk_ext [idx t]

theorem arr5 : (dats m 0 c).arrAt 5 cfg0.N = prod m c := by
  refine (dats m 0 c).arrAt_eq_of_covers 5 _ (by decide +kernel) fun t _ y => ?_
  blk_simp
  rw [after0_5, out5, out7]
  idx_vars y
  exact ((pay12_at _ _ _ _).trans (prod_block m c t _ _)).trans (congrArg (prod m c) (place5 t _ _).symm)

theorem arr6 : (dats m 0 c).arrAt 6 cfg0.N = resid m c := by
  refine (dats m 0 c).arrAt_eq_of_covers 6 _ (by decide +kernel) fun t _ y => ?_
  blk_simp
  rw [after0_6, out6, out7]
  idx_vars y
  exact ((pay13_at _ _ _ _ _ _).trans (resid_block m c t _ _)).trans (congrArg (resid m c) (place6 t _ _).symm)

theorem arr7 : (dats m 0 c).arrAt 7 cfg0.N = act m c := by
  refine (dats m 0 c).arrAt_eq_of_covers 7 _ (by decide +kernel) fun t _ y => ?_
  blk_simp
  rw [after0_7, out7]
  idx_vars y
  exact (act_block m c t _ _).trans (congrArg (act m c) (place7 t _ _).symm)

theorem arr8 : (dats m 0 c).arrAt 8 cfg0.N = next m c := by
  refine (dats m 0 c).arrAt_eq_of_covers 8 _ (by decide +kernel) fun t _ y => ?_
  blk_simp
  rw [after0_8, out8, out6, out7]
  idx_vars y
  exact ((pay1_at _ _ _ _ _ _ _).trans (next_block m c t _ _)).trans (congrArg (next m c) (place8 t _ _).symm)

end Cert.Kernel7Ideal.Value

namespace Cert.Proof

theorem values7 : Cert.algebraic_Kernel7Ideal_Reference7Ideal := by
  intro m g m' g' _ hm
  refine ⟨fun c => Cert.Kernel7Ideal.Value.prod m c, fun c => Cert.Kernel7Ideal.Value.resid m c, fun c => Cert.Kernel7Ideal.Value.act m c,
    fun c => Cert.Kernel7Ideal.Value.next m c, ?_, ?_⟩
  · refine (θ_run _ _ _).mono (fun r h c => ?_) (Cert.Kernel7Ideal.Value.run_blocks m g)
    obtain ⟨h5, h6, h7, h8, hr⟩ := h c
    exact ⟨h5.trans (Cert.Kernel7Ideal.Value.arr5 m c), h6.trans (Cert.Kernel7Ideal.Value.arr6 m c), h7.trans (Cert.Kernel7Ideal.Value.arr7 m c),
      h8.trans (Cert.Kernel7Ideal.Value.arr8 m c), hr⟩
  · refine (θ_run _ _ _).mono (fun r h c => ?_) (Cert.Reference7Ideal.Value.run m' g')
    obtain ⟨e0, e1, e2, e3, e4⟩ := hm c
    obtain ⟨h5, h6, h7, h8, hr⟩ := h c
    refine ⟨h5.trans ?_, h6.trans ?_, h7.trans ?_, h8.trans ?_, hr⟩
    · rw [Cert.Reference7Ideal.Read.val_main_v20_eq, e0, e1]
      funext i
      idx_vars i
      exact Cert.Reference7Ideal.Read.v20_at _ _ _ _
    · rw [Cert.Reference7Ideal.Read.val_main_v19_eq, e0, e1, e2, e3]
      funext i
      idx_vars i
      exact Cert.Reference7Ideal.Read.v19_at _ _ _ _ _ _
    · rw [Cert.Reference7Ideal.Read.val_main_v21_eq, e0]
      funext i
      idx_vars i
      exact Cert.Reference7Ideal.Read.v21_at _ _ _
    · rw [Cert.Reference7Ideal.Read.val_main_v34_eq, e0, e1, e2, e3, e4]
      funext i
      idx_vars i
      exact Cert.Reference7Ideal.Read.v34_at _ _ _ _ _ _ _

end Cert.Proof

end
-- ==== Proof.XqProjBwdRef.lean ====
/- The reference's gradient of the cross-attention's query product, read at an index: a row of the gradient is the norm's gradient, and
   each gain's gradient is a sum over the rows. -/
module

public import proofs.«01_k».proof.Proof.Norm
public import proofs.«01_k».proof.Proof.Gen.Reference8Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference8Ideal.Read

open Cert.Reference8Ideal Cert.Reference8Ideal.Gen Cert.Norm

variable (DY : (⟨S4096x1024, .bf16⟩ : BufTy).Contents (Elt Ideal)) (W : (⟨S1024x1024, .bf16⟩ : BufTy).Contents (Elt Ideal))
  (X : (⟨S4096x1024, .f32⟩ : BufTy).Contents (Elt Ideal)) (G : (⟨S1x1024, .f32⟩ : BufTy).Contents (Elt Ideal))
  (DX : (⟨S4096x1024, .f32⟩ : BufTy).Contents (Elt Ideal)) (M : (⟨S4096x1024, .bf16⟩ : BufTy).Contents (Elt Ideal))
  (GB : (⟨S1x1024, .f32⟩ : BufTy).Contents (Elt Ideal))

/-- The gradient of the norm's result. -/
def back (s : Fin 4096) (j : Fin 1024) : EReal := ∑ k : Fin 1024, DY (ix2 s k) * W (ix2 j k)

/-- The gradient of the residual stream below the norm. -/
def down (s : Fin 4096) (j : Fin 1024) : EReal :=
  DX (ix2 s j) + part (fun k => X (ix2 s k)) (fun k => back DY W s k * G (ix2 0 k)) j

/-- The gradient of the branch whose norm was added there. -/
def branch (s : Fin 4096) (j : Fin 1024) : EReal :=
  part (fun k => M (ix2 s k)) (fun k => down DY W X G DX s k * GB (ix2 0 k)) j

/-- The gradients of the two gains. -/
def gain (j : Fin 1024) : EReal := ∑ s, X (ix2 s j) * scale (fun k => X (ix2 s k)) * back DY W s j
def branchGain (j : Fin 1024) : EReal := ∑ s, M (ix2 s j) * scale (fun k => M (ix2 s k)) * down DY W X G DX s j

theorem v7_at (s : Fin 4096) (z : Fin 1) : val_main_v7 X (ix2 s z) = power (fun k => X (ix2 s k)) := by
  unfold val_main_v7 val_main_v5 val_main_v6 val_main_v4 val_main_v3 val_main_v2 val_main_v1 val_main_cst val_main_cst_0 val_main_cst_1
  pointwise [power]

theorem v8_at (s : Fin 4096) (z : Fin 1) : val_main_v8 X (ix2 s z) = scale (fun k => X (ix2 s k)) := by
  unfold val_main_v8
  pointwise [v7_at X, scale]

theorem v18_at (s : Fin 4096) (j : Fin 1024) : val_main_v18 DY W (ix2 s j) = back DY W s j := by
  unfold val_main_v18 val_main_v17 val_main_v0
  pointwise [back]

theorem v23_at (s : Fin 4096) (j : Fin 1024) : val_main_v23 DY W G (ix2 s j) = back DY W s j * G (ix2 0 j) := by
  unfold val_main_v23 val_main_v22
  pointwise [v18_at DY W]

theorem v33_at (s : Fin 4096) : val_main_v33 DY W X G (ix1 s) = slope (fun k => X (ix2 s k)) (fun k => back DY W s k * G (ix2 0 k)) := by
  unfold val_main_v33 val_main_v32 val_main_v31 val_main_v30 val_main_v26 val_main_v25 val_main_v24 val_main_v11 val_main_v10 val_main_v9 val_main_cst_2 val_main_cst_4 val_main_cst_5 val_main_cst_6
  pointwise [v23_at DY W G, v7_at X, v8_at X]
  rw [Fin.sum_univ_one]
  rfl

theorem v38_at (s : Fin 4096) (j : Fin 1024) : val_main_v38 DY W X G DX (ix2 s j) = down DY W X G DX s j := by
  unfold val_main_v38 val_main_v37 val_main_v36 val_main_v35 val_main_v34 val_main_v29 val_main_v28 val_main_v27 down
  rw [← part_eq]
  pointwise [v23_at DY W G, v8_at X, v33_at DY W X G]
  simp only [add_assoc]

theorem v21_at (z : Fin 1) (j : Fin 1024) : val_main_v21 DY W X (ix2 z j) = gain DY W X j := by
  unfold val_main_v21 val_main_v20 val_main_v19 val_main_v13 val_main_v12 val_main_cst_3
  pointwise [v18_at DY W, v8_at X, gain]

theorem v46_at (s : Fin 4096) (z : Fin 1) : val_main_v46 M (ix2 s z) = power (fun k => M (ix2 s k)) := by
  unfold val_main_v46 val_main_v44 val_main_v45 val_main_v43 val_main_v42 val_main_v41 val_main_v40 val_main_v39 val_main_cst_7 val_main_cst_8 val_main_cst_9
  pointwise [power]

theorem v47_at (s : Fin 4096) (z : Fin 1) : val_main_v47 M (ix2 s z) = scale (fun k => M (ix2 s k)) := by
  unfold val_main_v47
  pointwise [v46_at M, scale]

theorem v59_at (s : Fin 4096) (j : Fin 1024) :
    val_main_v59 DY W X G DX GB (ix2 s j) = down DY W X G DX s j * GB (ix2 0 j) := by
  unfold val_main_v59 val_main_v58
  pointwise [v38_at DY W X G DX]

theorem v68_at (s : Fin 4096) : val_main_v68 DY W X G DX M GB (ix1 s)
    = slope (fun k => M (ix2 s k)) (fun k => down DY W X G DX s k * GB (ix2 0 k)) := by
  unfold val_main_v68 val_main_v67 val_main_v66 val_main_v65 val_main_v62 val_main_v61 val_main_v60 val_main_v50 val_main_v49 val_main_v48 val_main_v39 val_main_cst_10 val_main_cst_12 val_main_cst_13 val_main_cst_14
  pointwise [v59_at DY W X G DX GB, v46_at M, v47_at M]
  rw [Fin.sum_univ_one]
  rfl

theorem v74_at (s : Fin 4096) (j : Fin 1024) : val_main_v74 DY W X G DX M GB (ix2 s j) = branch DY W X G DX M GB s j := by
  unfold val_main_v74 val_main_v73 val_main_v72 val_main_v71 val_main_v70 val_main_v69 val_main_v64 val_main_v63 val_main_v39 branch
  rw [← part_eq]
  pointwise [v59_at DY W X G DX GB, v47_at M, v68_at DY W X G DX M GB]

theorem v57_at (z : Fin 1) (j : Fin 1024) : val_main_v57 DY W X G DX M (ix2 z j) = branchGain DY W X G DX M j := by
  unfold val_main_v57 val_main_v56 val_main_v55 val_main_v52 val_main_v51 val_main_v39 val_main_cst_11
  pointwise [v38_at DY W X G DX, v47_at M, branchGain]

end Cert.Reference8Ideal.Read

end
-- ==== Proof.XqProjBwd.lean ====
/- The gradient of the cross-attention's query product: the kernel's row blocks put together, and its sums over the row blocks, are what
   the reference computes. -/
module

public import proofs.«01_k».proof.Defs
public import proofs.«01_k».proof.Proof.XqProjBwdRef
public import proofs.«01_k».proof.Proof.Gen.Kernel8Ideal.Value
public import Idealize.ShloMosaic.Lib.Pipeline.ReadBack

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Cert.Norm

section

variable (dy : FVec Ideal S512x1024 .bf16) (w : FVec Ideal S1024x1024 .bf16) (x : FVec Ideal S512x1024 .f32) (g : FVec Ideal S1x1024 .f32)
  (dx : FVec Ideal S512x1024 .f32) (mm : FVec Ideal S512x1024 .bf16) (gb acc : FVec Ideal S1x1024 .f32)

/-- A block's gradient of the norm's result, of the residual stream below it, and of the branch below that. -/
def backBlk (r : Fin 512) (j : Fin 1024) : EReal := ∑ k : Fin 1024, dy (ix2 r k) * w (ix2 j k)
def downBlk (r : Fin 512) (j : Fin 1024) : EReal :=
  dx (ix2 r j) + part (fun k => x (ix2 r k)) (fun k => backBlk dy w r k * g (ix2 0 k)) j
def branchBlk (r : Fin 512) (j : Fin 1024) : EReal :=
  part (fun k => mm (ix2 r k)) (fun k => downBlk dy w x g dx r k * gb (ix2 0 k)) j

/-- A block's parts of the two gains' gradients. -/
def gainBlk (y : S1x1024.Idx) : EReal := ∑ r, x (ix2 r (y 1)) * scale (fun k => x (ix2 r k)) * backBlk dy w r (y 1)
def branchGainBlk (y : S1x1024.Idx) : EReal := ∑ r, mm (ix2 r (y 1)) * scale (fun k => mm (ix2 r k)) * downBlk dy w x g dx r (y 1)

theorem pay3_at (r : Fin 512) (j : Fin 1024) : k0_pay3 (F := Ideal) dy w (ix2 r j) = backBlk dy w r j := by
  pointwise [k0_pay3, backBlk]

theorem pay4_at (r : Fin 512) (z : Fin 1) : k0_pay4 (F := Ideal) x (ix2 r z) = scale (fun k => x (ix2 r k)) := by
  pointwise [k0_pay4, scale, power]

theorem pay5_at (r : Fin 512) (j : Fin 1024) : k0_pay5 (F := Ideal) x (ix2 r j) = x (ix2 r j) * scale (fun k => x (ix2 r k)) := by
  pointwise [k0_pay5, pay4_at x]

theorem pay6_at (r : Fin 512) (j : Fin 1024) :
    k0_pay6 (F := Ideal) dy w x g (ix2 r j) = part (fun k => x (ix2 r k)) (fun k => backBlk dy w r k * g (ix2 0 k)) j := by
  pointwise [k0_pay6, pay3_at dy w, pay4_at x, pay5_at x, part]

theorem pay7_at (z : Fin 1) (j : Fin 1024) : k0_pay7 (F := Ideal) dy w x acc (ix2 z j) = acc (ix2 z j) + gainBlk dy w x (ix2 z j) := by
  pointwise [k0_pay7, pay3_at dy w, pay5_at x, gainBlk]
  exact congrArg _ (Finset.sum_congr rfl fun r _ => mul_comm _ _)

theorem pay8_at (r : Fin 512) (j : Fin 1024) : k0_pay8 (F := Ideal) (k0_pay6 dy w x g) dx (ix2 r j) = downBlk dy w x g dx r j := by
  pointwise [k0_pay8, pay6_at dy w x g, downBlk]

theorem pay10_at (r : Fin 512) (z : Fin 1) : k0_pay10 (F := Ideal) mm (ix2 r z) = scale (fun k => mm (ix2 r k)) := by
  pointwise [k0_pay10, k0_pay9, scale, power]

theorem pay11_at (r : Fin 512) (j : Fin 1024) : k0_pay11 (F := Ideal) mm (ix2 r j) = mm (ix2 r j) * scale (fun k => mm (ix2 r k)) := by
  pointwise [k0_pay11, k0_pay9, pay10_at mm]

theorem pay12_at (r : Fin 512) (j : Fin 1024) :
    k0_pay12 (F := Ideal) (k0_pay6 dy w x g) dx mm gb (ix2 r j) = branchBlk dy w x g dx mm gb r j := by
  pointwise [k0_pay12, pay8_at dy w x g dx, pay10_at mm, pay11_at mm, branchBlk, part]

theorem pay13_at (z : Fin 1) (j : Fin 1024) : k0_pay13 (F := Ideal) (k0_pay6 dy w x g) dx mm acc (ix2 z j)
    = acc (ix2 z j) + branchGainBlk dy w x g dx mm (ix2 z j) := by
  pointwise [k0_pay13, pay8_at dy w x g dx, pay11_at mm, branchGainBlk]
  exact congrArg _ (Finset.sum_congr rfl fun r _ => mul_comm _ _)

end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] ∧ win0_10.index t = ![0, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

theorem out7 (t : Fin cfg0.N) : (outsAt0 m c t.val t.isLt).1 = k0_pay8 (k0_pay6 (iblk m c 0 t) (iblk m c 1 t) (iblk m c 2 t) (iblk m c 3 t)) (iblk m c 4 t) := by
  by_cases h : t.val % 8 = 0
  · rw [outsAt0_A m c t h]
    frame_out
  · rw [outsAt0_B m c t h]
    frame_out

theorem out9 (t : Fin cfg0.N) : (outsAt0 m c t.val t.isLt).2.2.1
    = k0_pay12 (k0_pay6 (iblk m c 0 t) (iblk m c 1 t) (iblk m c 2 t) (iblk m c 3 t)) (iblk m c 4 t) (iblk m c 5 t) (iblk m c 6 t) := by
  by_cases h : t.val % 8 = 0
  · rw [outsAt0_A m c t h]
    frame_out
  · rw [outsAt0_B m c t h]
    frame_out

theorem first8 (t : Fin cfg0.N) (h : t.val % 8 = 0) (y : S1x1024.Idx) :
    (outsAt0 m c t.val t.isLt).2.1 y = 0 + gainBlk (iblk m c 0 t) (iblk m c 1 t) (iblk m c 2 t) y := by
  rw [outsAt0_A m c t h]
  frame_open
  simp (disch := decide) only [↓ View.readCov_skip, ↓ View.readCov_cons_toLoadRect, ↓ View.readCov_fill]
  frame_out
  idx_vars y
  rw [pay7_at]
  pointwise [k0_pay1]

theorem step8 (t : Fin cfg0.N) (h : ¬ t.val % 8 = 0) (y : S1x1024.Idx) :
    (outsAt0 m c t.val t.isLt).2.1 y = (outsAt0 m c (t.val - 1) (Nat.lt_of_le_of_lt (Nat.sub_le _ _) t.isLt)).2.1 y
      + gainBlk (iblk m c 0 t) (iblk m c 1 t) (iblk m c 2 t) y := by
  rw [outsAt0_B m c t h]
  frame_out
  idx_vars y
  rw [pay7_at]

theorem first10 (t : Fin cfg0.N) (h : t.val % 8 = 0) (y : S1x1024.Idx) :
    (outsAt0 m c t.val t.isLt).2.2.2 y = 0 + branchGainBlk (iblk m c 0 t) (iblk m c 1 t) (iblk m c 2 t) (iblk m c 3 t) (iblk m c 4 t) (iblk m c 5 t) y := by
  rw [outsAt0_A m c t h]
  frame_open
  simp (disch := decide) only [↓ View.readCov_skip, ↓ View.readCov_cons_toLoadRect, ↓ View.readCov_fill]
  frame_out
  idx_vars y
  rw [pay13_at]
  pointwise [k0_pay2]

theorem step10 (t : Fin cfg0.N) (h : ¬ t.val % 8 = 0) (y : S1x1024.Idx) :
    (outsAt0 m c t.val t.isLt).2.2.2 y = (outsAt0 m c (t.val - 1) (Nat.lt_of_le_of_lt (Nat.sub_le _ _) t.isLt)).2.2.2 y
      + branchGainBlk (iblk m c 0 t) (iblk m c 1 t) (iblk m c 2 t) (iblk m c 3 t) (iblk m c 4 t) (iblk m c 5 t) y := by
  rw [outsAt0_B m c t h]
  frame_out
  idx_vars y
  rw [pay13_at]

/-- The arguments as launched. -/
def DY : FVec Ideal S4096x1024 .bf16 := m ((c.tc : Thread nD τ).loc main_arg0)
def W : FVec Ideal S1024x1024 .bf16 := m ((c.tc : Thread nD τ).loc main_arg1)
def X : FVec Ideal S4096x1024 .f32 := m ((c.tc : Thread nD τ).loc main_arg2)
def G : FVec Ideal S1x1024 .f32 := m ((c.tc : Thread nD τ).loc main_arg3)
def DX : FVec Ideal S4096x1024 .f32 := m ((c.tc : Thread nD τ).loc main_arg4)
def M : FVec Ideal S4096x1024 .bf16 := m ((c.tc : Thread nD τ).loc main_arg5)
def GB : FVec Ideal S1x1024 .f32 := m ((c.tc : Thread nD τ).loc main_arg6)

theorem block_dy (t : Fin cfg0.N) (r : Fin 512) (j : Fin 1024) :
    (iblk m c 0 t : FVec Ideal S512x1024 .bf16) (ix2 r j) = DY m c (ix2 (row t r) j) := by
  unfold DY row
  blk_ext [iblk, V, idx t]

theorem block_w (t : Fin cfg0.N) : (iblk m c 1 t : FVec Ideal S1024x1024 .bf16) = W m c := by
  funext y
  unfold W
  blk_ext [iblk, V, idx t]

theorem block_x (t : Fin cfg0.N) (r : Fin 512) (j : Fin 1024) :
    (iblk m c 2 t : FVec Ideal S512x1024 .f32) (ix2 r j) = X m c (ix2 (row t r) j) := by
  unfold X row
  blk_ext [iblk, V, idx t]

theorem block_g (t : Fin cfg0.N) : (iblk m c 3 t : FVec Ideal S1x1024 .f32) = G m c := by
  funext y
  unfold G
  blk_ext [iblk, V, idx t]

theorem block_dx (t : Fin cfg0.N) (r : Fin 512) (j : Fin 1024) :
    (iblk m c 4 t : FVec Ideal S512x1024 .f32) (ix2 r j) = DX m c (ix2 (row t r) j) := by
  unfold DX row
  blk_ext [iblk, V, idx t]

theorem block_m (t : Fin cfg0.N) (r : Fin 512) (j : Fin 1024) :
    (iblk m c 5 t : FVec Ideal S512x1024 .bf16) (ix2 r j) = M m c (ix2 (row t r) j) := by
  unfold M row
  blk_ext [iblk, V, idx t]

theorem block_gb (t : Fin cfg0.N) : (iblk m c 6 t : FVec Ideal S1x1024 .f32) = GB m c := by
  funext y
  unfold GB
  blk_ext [iblk, V, idx t]

/-- The results as functions of the arguments. -/
def back (s : Fin 4096) (j : Fin 1024) : EReal := Cert.Reference8Ideal.Read.back (DY m c) (W m c) s j
def down (i : S4096x1024.Idx) : EReal := Cert.Reference8Ideal.Read.down (DY m c) (W m c) (X m c) (G m c) (DX m c) (i 0) (i 1)
def branch (i : S4096x1024.Idx) : EReal :=
  Cert.Reference8Ideal.Read.branch (DY m c) (W m c) (X m c) (G m c) (DX m c) (M m c) (GB m c) (i 0) (i 1)
def gain (i : S1x1024.Idx) : EReal := Cert.Reference8Ideal.Read.gain (DY m c) (W m c) (X m c) (i 1)
def branchGain (i : S1x1024.Idx) : EReal :=
  Cert.Reference8Ideal.Read.branchGain (DY m c) (W m c) (X m c) (G m c) (DX m c) (M m c) (i 1)

theorem back_block (t : Fin cfg0.N) (r : Fin 512) (j : Fin 1024) :
    backBlk (iblk m c 0 t) (iblk m c 1 t) r j = back m c (row t r) j := by
  unfold backBlk
  rw [block_w]
  exact Finset.sum_congr rfl fun k _ => congrArg (fun z : EReal => z * W m c (ix2 j k)) (block_dy m c t r k)

theorem down_block (t : Fin cfg0.N) (r : Fin 512) (j : Fin 1024) :
    downBlk (iblk m c 0 t) (iblk m c 1 t) (iblk m c 2 t) (iblk m c 3 t) (iblk m c 4 t) r j = down m c (ix2 (row t r) j) := by
  unfold downBlk
  rw [block_g]
  exact congrArg₂ (· + ·) (block_dx m c t r j) (congrFun (congrArg₂ part (funext fun k => block_x m c t r k)
    (funext fun k => congrArg (· * _) (back_block m c t r k))) j)

theorem branch_block (t : Fin cfg0.N) (r : Fin 512) (j : Fin 1024) :
    branchBlk (iblk m c 0 t) (iblk m c 1 t) (iblk m c 2 t) (iblk m c 3 t) (iblk m c 4 t) (iblk m c 5 t) (iblk m c 6 t) r j
      = branch m c (ix2 (row t r) j) := by
  unfold branchBlk
  rw [block_gb]
  exact congrFun (congrArg₂ part (funext fun k => block_m m c t r k) (funext fun k => congrArg (· * _) (down_block m c t r k))) j

theorem gain_block (t : Fin cfg0.N) (y : S1x1024.Idx) : gainBlk (iblk m c 0 t) (iblk m c 1 t) (iblk m c 2 t) y
    = ∑ r, X m c (ix2 (row t r) (y 1)) * scale (fun k => X m c (ix2 (row t r) k)) * back m c (row t r) (y 1) :=
  Finset.sum_congr rfl fun r _ => congrArg₂ (· * ·) (congrArg₂ (· * ·) (block_x m c t r (y 1)) (congrArg scale (funext fun k => block_x m c t r k)))
    (back_block m c t r (y 1))

theorem branchGain_block (t : Fin cfg0.N) (y : S1x1024.Idx) :
    branchGainBlk (iblk m c 0 t) (iblk m c 1 t) (iblk m c 2 t) (iblk m c 3 t) (iblk m c 4 t) (iblk m c 5 t) y
      = ∑ r, M m c (ix2 (row t r) (y 1)) * scale (fun k => M m c (ix2 (row t r) k)) * down m c (ix2 (row t r) (y 1)) :=
  Finset.sum_congr rfl fun r _ => congrArg₂ (· * ·) (congrArg₂ (· * ·) (block_m m c t r (y 1)) (congrArg scale (funext fun k => block_m m c t r k)))
    (down_block m c t r (y 1))

theorem place7 (t : Fin cfg0.N) (r : Fin 512) (j : Fin 1024) :
    ((win0_7.blk t).view.emb (ix2 r j : S512x1024.Idx) : S4096x1024.Idx) = ix2 (row t r) j := by
  unfold row
  blk_ext [idx t]

theorem place9 (t : Fin cfg0.N) (r : Fin 512) (j : Fin 1024) :
    ((win0_9.blk t).view.emb (ix2 r j : S512x1024.Idx) : S4096x1024.Idx) = ix2 (row t r) j := by
  unfold row
  blk_ext [idx t]

theorem arr7 : (dats m 0 c).arrAt 7 cfg0.N = down m c := by
  refine (dats m 0 c).arrAt_eq_of_covers 7 _ (by decide +kernel) fun t _ y => ?_
  blk_simp
  rw [after0_7, out7]
  idx_vars y
  exact ((pay8_at _ _ _ _ _ _ _).trans (down_block m c t _ _)).trans (congrArg (down m c) (place7 t _ _).symm)

theorem arr9 : (dats m 0 c).arrAt 9 cfg0.N = branch m c := by
  refine (dats m 0 c).arrAt_eq_of_covers 9 _ (by decide +kernel) fun t _ y => ?_
  blk_simp
  rw [after0_9, out9]
  idx_vars y
  exact ((pay12_at _ _ _ _ _ _ _ _ _).trans (branch_block m c t _ _)).trans (congrArg (branch m c) (place9 t _ _).symm)

theorem arr8 : (dats m 0 c).arrAt 8 cfg0.N = gain m c := by
  refine (dats m 0 c).arrAt_eq_of_after_last 8 t0_7 (by decide +kernel) (gain m c) fun j => ?_
  blk_simp
  rw [after0_8, Pipeline.eq_sum_fin_of_reset_step_apply_last (fun n h => (outsAt0 m c n h).2.1) 8 (fun _ => 0) _
    (fun t h j => first8 m c t h j) (fun t h j => step8 m c t h j) (le_of_eq N_0) t0_7 rfl j, zero_add]
  simp only [gain_block]
  unfold gain Cert.Reference8Ideal.Read.gain
  exact Fin.sum_mul_add_congr fun s k hl => rfl

theorem arr10 : (dats m 0 c).arrAt 10 cfg0.N = branchGain m c := by
  refine (dats m 0 c).arrAt_eq_of_after_last 10 t0_7 (by decide +kernel) (branchGain m c) fun j => ?_
  blk_simp
  rw [after0_10, Pipeline.eq_sum_fin_of_reset_step_apply_last (fun n h => (outsAt0 m c n h).2.2.2) 8 (fun _ => 0) _
    (fun t h j => first10 m c t h j) (fun t h j => step10 m c t h j) (le_of_eq N_0) t0_7 rfl j, zero_add]
  simp only [branchGain_block]
  unfold branchGain Cert.Reference8Ideal.Read.branchGain
  exact Fin.sum_mul_add_congr fun s k hl => rfl

end Cert.Kernel8Ideal.Value

namespace Cert.Proof

theorem values8 : Cert.algebraic_Kernel8Ideal_Reference8Ideal := by
  intro m g m' g' _ hm
  refine ⟨fun c => Cert.Kernel8Ideal.Value.down m c, fun c => Cert.Kernel8Ideal.Value.gain m c, fun c => Cert.Kernel8Ideal.Value.branch m c,
    fun c => Cert.Kernel8Ideal.Value.branchGain m c, ?_, ?_⟩
  · refine (θ_run _ _ _).mono (fun r h c => ?_) (Cert.Kernel8Ideal.Value.run_blocks m g)
    obtain ⟨h7, h8, h9, h10, hr⟩ := h c
    exact ⟨h7.trans (Cert.Kernel8Ideal.Value.arr7 m c), h8.trans (Cert.Kernel8Ideal.Value.arr8 m c), h9.trans (Cert.Kernel8Ideal.Value.arr9 m c),
      h10.trans (Cert.Kernel8Ideal.Value.arr10 m c), hr⟩
  · refine (θ_run _ _ _).mono (fun r h c => ?_) (Cert.Reference8Ideal.Value.run m' g')
    obtain ⟨e0, e1, e2, e3, e4, e5, e6⟩ := hm c
    obtain ⟨h7, h8, h9, h10, hr⟩ := h c
    refine ⟨h7.trans ?_, h8.trans ?_, h9.trans ?_, h10.trans ?_, hr⟩
    · rw [Cert.Reference8Ideal.Read.val_main_v38_eq, e0, e1, e2, e3, e4]
      funext i
      idx_vars i
      exact Cert.Reference8Ideal.Read.v38_at _ _ _ _ _ _ _
    · rw [Cert.Reference8Ideal.Read.val_main_v21_eq, e0, e1, e2]
      funext i
      idx_vars i
      exact Cert.Reference8Ideal.Read.v21_at _ _ _ _ _
    · rw [Cert.Reference8Ideal.Read.val_main_v74_eq, e0, e1, e2, e3, e4, e5, e6]
      funext i
      idx_vars i
      exact Cert.Reference8Ideal.Read.v74_at _ _ _ _ _ _ _ _ _
    · rw [Cert.Reference8Ideal.Read.val_main_v57_eq, e0, e1, e2, e3, e4, e5]
      funext i
      idx_vars i
      exact Cert.Reference8Ideal.Read.v57_at _ _ _ _ _ _ _ _

end Cert.Proof

end
-- ==== Proof.InProjBwdRef.lean ====
/- The reference's gradient of the mixer's first product, read at an index: a row of the gradient is the norm's gradient, and
   each gain's gradient is a sum over the rows. -/
module

public import proofs.«01_k».proof.Proof.Norm
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference9Ideal.Read

open Cert.Reference9Ideal Cert.Reference9Ideal.Gen Cert.Norm

variable (DY : (⟨S4096x1536, .bf16⟩ : BufTy).Contents (Elt Ideal)) (W : (⟨S1536x1024, .bf16⟩ : BufTy).Contents (Elt Ideal))
  (X : (⟨S4096x1024, .f32⟩ : BufTy).Contents (Elt Ideal)) (G : (⟨S1x1024, .f32⟩ : BufTy).Contents (Elt Ideal))
  (DX : (⟨S4096x1024, .f32⟩ : BufTy).Contents (Elt Ideal)) (M : (⟨S4096x1024, .bf16⟩ : BufTy).Contents (Elt Ideal))
  (GB : (⟨S1x1024, .f32⟩ : BufTy).Contents (Elt Ideal))

/-- The gradient of the norm's result. -/
def back (s : Fin 4096) (j : Fin 1024) : EReal := ∑ k : Fin 1536, DY (ix2 s k) * W (ix2 k j)

/-- The gradient of the residual stream below the norm. -/
def down (s : Fin 4096) (j : Fin 1024) : EReal :=
  DX (ix2 s j) + part (fun k => X (ix2 s k)) (fun k => back DY W s k * G (ix2 0 k)) j

/-- The gradient of the branch whose norm was added there. -/
def branch (s : Fin 4096) (j : Fin 1024) : EReal :=
  part (fun k => M (ix2 s k)) (fun k => down DY W X G DX s k * GB (ix2 0 k)) j

/-- The gradients of the two gains. -/
def gain (j : Fin 1024) : EReal := ∑ s, X (ix2 s j) * scale (fun k => X (ix2 s k)) * back DY W s j
def branchGain (j : Fin 1024) : EReal := ∑ s, M (ix2 s j) * scale (fun k => M (ix2 s k)) * down DY W X G DX s j

theorem v8_at (s : Fin 4096) (z : Fin 1) : val_main_v8 X (ix2 s z) = power (fun k => X (ix2 s k)) := by
  unfold val_main_v8 val_main_v6 val_main_v7 val_main_v5 val_main_v4 val_main_v3 val_main_v2 val_main_cst val_main_cst_0 val_main_cst_1
  pointwise [power]

theorem v9_at (s : Fin 4096) (z : Fin 1) : val_main_v9 X (ix2 s z) = scale (fun k => X (ix2 s k)) := by
  unfold val_main_v9
  pointwise [v8_at X, scale]

theorem v19_at (s : Fin 4096) (j : Fin 1024) : val_main_v19 DY W (ix2 s j) = back DY W s j := by
  unfold val_main_v19 val_main_v18 val_main_v1 val_main_v0
  pointwise [back]

theorem v24_at (s : Fin 4096) (j : Fin 1024) : val_main_v24 DY W G (ix2 s j) = back DY W s j * G (ix2 0 j) := by
  unfold val_main_v24 val_main_v23
  pointwise [v19_at DY W]

theorem v34_at (s : Fin 4096) : val_main_v34 DY W X G (ix1 s) = slope (fun k => X (ix2 s k)) (fun k => back DY W s k * G (ix2 0 k)) := by
  unfold val_main_v34 val_main_v33 val_main_v32 val_main_v31 val_main_v27 val_main_v26 val_main_v25 val_main_v12 val_main_v11 val_main_v10 val_main_cst_2 val_main_cst_4 val_main_cst_5 val_main_cst_6
  pointwise [v24_at DY W G, v8_at X, v9_at X]
  rw [Fin.sum_univ_one]
  rfl

theorem v39_at (s : Fin 4096) (j : Fin 1024) : val_main_v39 DY W X G DX (ix2 s j) = down DY W X G DX s j := by
  unfold val_main_v39 val_main_v38 val_main_v37 val_main_v36 val_main_v35 val_main_v30 val_main_v29 val_main_v28 down
  rw [← part_eq]
  pointwise [v24_at DY W G, v9_at X, v34_at DY W X G]
  simp only [add_assoc]

theorem v22_at (z : Fin 1) (j : Fin 1024) : val_main_v22 DY W X (ix2 z j) = gain DY W X j := by
  unfold val_main_v22 val_main_v21 val_main_v20 val_main_v14 val_main_v13 val_main_cst_3
  pointwise [v19_at DY W, v9_at X, gain]

theorem v47_at (s : Fin 4096) (z : Fin 1) : val_main_v47 M (ix2 s z) = power (fun k => M (ix2 s k)) := by
  unfold val_main_v47 val_main_v45 val_main_v46 val_main_v44 val_main_v43 val_main_v42 val_main_v41 val_main_v40 val_main_cst_7 val_main_cst_8 val_main_cst_9
  pointwise [power]

theorem v48_at (s : Fin 4096) (z : Fin 1) : val_main_v48 M (ix2 s z) = scale (fun k => M (ix2 s k)) := by
  unfold val_main_v48
  pointwise [v47_at M, scale]

theorem v60_at (s : Fin 4096) (j : Fin 1024) :
    val_main_v60 DY W X G DX GB (ix2 s j) = down DY W X G DX s j * GB (ix2 0 j) := by
  unfold val_main_v60 val_main_v59
  pointwise [v39_at DY W X G DX]

theorem v69_at (s : Fin 4096) : val_main_v69 DY W X G DX M GB (ix1 s)
    = slope (fun k => M (ix2 s k)) (fun k => down DY W X G DX s k * GB (ix2 0 k)) := by
  unfold val_main_v69 val_main_v68 val_main_v67 val_main_v66 val_main_v63 val_main_v62 val_main_v61 val_main_v51 val_main_v50 val_main_v49 val_main_v40 val_main_cst_10 val_main_cst_12 val_main_cst_13 val_main_cst_14
  pointwise [v60_at DY W X G DX GB, v47_at M, v48_at M]
  rw [Fin.sum_univ_one]
  rfl

theorem v75_at (s : Fin 4096) (j : Fin 1024) : val_main_v75 DY W X G DX M GB (ix2 s j) = branch DY W X G DX M GB s j := by
  unfold val_main_v75 val_main_v74 val_main_v73 val_main_v72 val_main_v71 val_main_v70 val_main_v65 val_main_v64 val_main_v40 branch
  rw [← part_eq]
  pointwise [v60_at DY W X G DX GB, v48_at M, v69_at DY W X G DX M GB]

theorem v58_at (z : Fin 1) (j : Fin 1024) : val_main_v58 DY W X G DX M (ix2 z j) = branchGain DY W X G DX M j := by
  unfold val_main_v58 val_main_v57 val_main_v56 val_main_v53 val_main_v52 val_main_v40 val_main_cst_11
  pointwise [v39_at DY W X G DX, v48_at M, branchGain]

end Cert.Reference9Ideal.Read

end
-- ==== Proof.InProjBwd.lean ====
/- The gradient of the mixer's first product: the kernel's row blocks put together, and its sums over the row blocks, are what
   the reference computes. -/
module

public import proofs.«01_k».proof.Defs
public import proofs.«01_k».proof.Proof.InProjBwdRef
public import proofs.«01_k».proof.Proof.Gen.Kernel9Ideal.Value
public import Idealize.ShloMosaic.Lib.Pipeline.ReadBack

@[expose] public section

set_option maxRecDepth 16384

noncomputable section

open Idealize.ShloMosaic Idealize.ShloMosaic.TcCoe Idealize.SL.Sem

namespace Cert.Kernel9Ideal.Value

open Cert.Kernel9Ideal Cert.Kernel9Ideal.Gen Cert.Norm

section

variable (dy : FVec Ideal S512x1536 .bf16) (w : FVec Ideal S1536x1024 .bf16) (x : FVec Ideal S512x1024 .f32) (g : FVec Ideal S1x1024 .f32)
  (dx : FVec Ideal S512x1024 .f32) (mm : FVec Ideal S512x1024 .bf16) (gb acc : FVec Ideal S1x1024 .f32)

/-- A block's gradient of the norm's result, of the residual stream below it, and of the branch below that. -/
def backBlk (r : Fin 512) (j : Fin 1024) : EReal := ∑ k : Fin 1536, dy (ix2 r k) * w (ix2 k j)
def downBlk (r : Fin 512) (j : Fin 1024) : EReal :=
  dx (ix2 r j) + part (fun k => x (ix2 r k)) (fun k => backBlk dy w r k * g (ix2 0 k)) j
def branchBlk (r : Fin 512) (j : Fin 1024) : EReal :=
  part (fun k => mm (ix2 r k)) (fun k => downBlk dy w x g dx r k * gb (ix2 0 k)) j

/-- A block's parts of the two gains' gradients. -/
def gainBlk (y : S1x1024.Idx) : EReal := ∑ r, x (ix2 r (y 1)) * scale (fun k => x (ix2 r k)) * backBlk dy w r (y 1)
def branchGainBlk (y : S1x1024.Idx) : EReal := ∑ r, mm (ix2 r (y 1)) * scale (fun k => mm (ix2 r k)) * downBlk dy w x g dx r (y 1)

theorem pay3_at (r : Fin 512) (j : Fin 1024) : k0_pay3 (F := Ideal) dy w (ix2 r j) = backBlk dy w r j := by
  pointwise [k0_pay3, backBlk]

theorem pay4_at (r : Fin 512) (z : Fin 1) : k0_pay4 (F := Ideal) x (ix2 r z) = scale (fun k => x (ix2 r k)) := by
  pointwise [k0_pay4, scale, power]

theorem pay5_at (r : Fin 512) (j : Fin 1024) : k0_pay5 (F := Ideal) x (ix2 r j) = x (ix2 r j) * scale (fun k => x (ix2 r k)) := by
  pointwise [k0_pay5, pay4_at x]

theorem pay6_at (r : Fin 512) (j : Fin 1024) :
    k0_pay6 (F := Ideal) dy w x g (ix2 r j) = part (fun k => x (ix2 r k)) (fun k => backBlk dy w r k * g (ix2 0 k)) j := by
  pointwise [k0_pay6, pay3_at dy w, pay4_at x, pay5_at x, part]

theorem pay7_at (z : Fin 1) (j : Fin 1024) : k0_pay7 (F := Ideal) dy w x acc (ix2 z j) = acc (ix2 z j) + gainBlk dy w x (ix2 z j) := by
  pointwise [k0_pay7, pay3_at dy w, pay5_at x, gainBlk]
  exact congrArg _ (Finset.sum_congr rfl fun r _ => mul_comm _ _)

theorem pay8_at (r : Fin 512) (j : Fin 1024) : k0_pay8 (F := Ideal) (k0_pay6 dy w x g) dx (ix2 r j) = downBlk dy w x g dx r j := by
  pointwise [k0_pay8, pay6_at dy w x g, downBlk]

theorem pay10_at (r : Fin 512) (z : Fin 1) : k0_pay10 (F := Ideal) mm (ix2 r z) = scale (fun k => mm (ix2 r k)) := by
  pointwise [k0_pay10, k0_pay9, scale, power]

theorem pay11_at (r : Fin 512) (j : Fin 1024) : k0_pay11 (F := Ideal) mm (ix2 r j) = mm (ix2 r j) * scale (fun k => mm (ix2 r k)) := by
  pointwise [k0_pay11, k0_pay9, pay10_at mm]

theorem pay12_at (r : Fin 512) (j : Fin 1024) :
    k0_pay12 (F := Ideal) (k0_pay6 dy w x g) dx mm gb (ix2 r j) = branchBlk dy w x g dx mm gb r j := by
  pointwise [k0_pay12, pay8_at dy w x g dx, pay10_at mm, pay11_at mm, branchBlk, part]

theorem pay13_at (z : Fin 1) (j : Fin 1024) : k0_pay13 (F := Ideal) (k0_pay6 dy w x g) dx mm acc (ix2 z j)
    = acc (ix2 z j) + branchGainBlk dy w x g dx mm (ix2 z j) := by
  pointwise [k0_pay13, pay8_at dy w x g dx, pay11_at mm, branchGainBlk]
  exact congrArg _ (Finset.sum_congr rfl fun r _ => mul_comm _ _)

end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] ∧ win0_10.index t = ![0, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

theorem out7 (t : Fin cfg0.N) : (outsAt0 m c t.val t.isLt).1 = k0_pay8 (k0_pay6 (iblk m c 0 t) (iblk m c 1 t) (iblk m c 2 t) (iblk m c 3 t)) (iblk m c 4 t) := by
  by_cases h : t.val % 8 = 0
  · rw [outsAt0_A m c t h]
    frame_out
  · rw [outsAt0_B m c t h]
    frame_out

theorem out9 (t : Fin cfg0.N) : (outsAt0 m c t.val t.isLt).2.2.1
    = k0_pay12 (k0_pay6 (iblk m c 0 t) (iblk m c 1 t) (iblk m c 2 t) (iblk m c 3 t)) (iblk m c 4 t) (iblk m c 5 t) (iblk m c 6 t) := by
  by_cases h : t.val % 8 = 0
  · rw [outsAt0_A m c t h]
    frame_out
  · rw [outsAt0_B m c t h]
    frame_out

theorem first8 (t : Fin cfg0.N) (h : t.val % 8 = 0) (y : S1x1024.Idx) :
    (outsAt0 m c t.val t.isLt).2.1 y = 0 + gainBlk (iblk m c 0 t) (iblk m c 1 t) (iblk m c 2 t) y := by
  rw [outsAt0_A m c t h]
  frame_open
  simp (disch := decide) only [↓ View.readCov_skip, ↓ View.readCov_cons_toLoadRect, ↓ View.readCov_fill]
  frame_out
  idx_vars y
  rw [pay7_at]
  pointwise [k0_pay1]

theorem step8 (t : Fin cfg0.N) (h : ¬ t.val % 8 = 0) (y : S1x1024.Idx) :
    (outsAt0 m c t.val t.isLt).2.1 y = (outsAt0 m c (t.val - 1) (Nat.lt_of_le_of_lt (Nat.sub_le _ _) t.isLt)).2.1 y
      + gainBlk (iblk m c 0 t) (iblk m c 1 t) (iblk m c 2 t) y := by
  rw [outsAt0_B m c t h]
  frame_out
  idx_vars y
  rw [pay7_at]

theorem first10 (t : Fin cfg0.N) (h : t.val % 8 = 0) (y : S1x1024.Idx) :
    (outsAt0 m c t.val t.isLt).2.2.2 y = 0 + branchGainBlk (iblk m c 0 t) (iblk m c 1 t) (iblk m c 2 t) (iblk m c 3 t) (iblk m c 4 t) (iblk m c 5 t) y := by
  rw [outsAt0_A m c t h]
  frame_open
  simp (disch := decide) only [↓ View.readCov_skip, ↓ View.readCov_cons_toLoadRect, ↓ View.readCov_fill]
  frame_out
  idx_vars y
  rw [pay13_at]
  pointwise [k0_pay2]

theorem step10 (t : Fin cfg0.N) (h : ¬ t.val % 8 = 0) (y : S1x1024.Idx) :
    (outsAt0 m c t.val t.isLt).2.2.2 y = (outsAt0 m c (t.val - 1) (Nat.lt_of_le_of_lt (Nat.sub_le _ _) t.isLt)).2.2.2 y
      + branchGainBlk (iblk m c 0 t) (iblk m c 1 t) (iblk m c 2 t) (iblk m c 3 t) (iblk m c 4 t) (iblk m c 5 t) y := by
  rw [outsAt0_B m c t h]
  frame_out
  idx_vars y
  rw [pay13_at]

/-- The arguments as launched. -/
def DY : FVec Ideal S4096x1536 .bf16 := m ((c.tc : Thread nD τ).loc main_arg0)
def W : FVec Ideal S1536x1024 .bf16 := m ((c.tc : Thread nD τ).loc main_arg1)
def X : FVec Ideal S4096x1024 .f32 := m ((c.tc : Thread nD τ).loc main_arg2)
def G : FVec Ideal S1x1024 .f32 := m ((c.tc : Thread nD τ).loc main_arg3)
def DX : FVec Ideal S4096x1024 .f32 := m ((c.tc : Thread nD τ).loc main_arg4)
def M : FVec Ideal S4096x1024 .bf16 := m ((c.tc : Thread nD τ).loc main_arg5)
def GB : FVec Ideal S1x1024 .f32 := m ((c.tc : Thread nD τ).loc main_arg6)

theorem block_dy (t : Fin cfg0.N) (r : Fin 512) (j : Fin 1536) :
    (iblk m c 0 t : FVec Ideal S512x1536 .bf16) (ix2 r j) = DY m c (ix2 (row t r) j) := by
  unfold DY row
  blk_ext [iblk, V, idx t]

theorem block_w (t : Fin cfg0.N) : (iblk m c 1 t : FVec Ideal S1536x1024 .bf16) = W m c := by
  funext y
  unfold W
  blk_ext [iblk, V, idx t]

theorem block_x (t : Fin cfg0.N) (r : Fin 512) (j : Fin 1024) :
    (iblk m c 2 t : FVec Ideal S512x1024 .f32) (ix2 r j) = X m c (ix2 (row t r) j) := by
  unfold X row
  blk_ext [iblk, V, idx t]

theorem block_g (t : Fin cfg0.N) : (iblk m c 3 t : FVec Ideal S1x1024 .f32) = G m c := by
  funext y
  unfold G
  blk_ext [iblk, V, idx t]

theorem block_dx (t : Fin cfg0.N) (r : Fin 512) (j : Fin 1024) :
    (iblk m c 4 t : FVec Ideal S512x1024 .f32) (ix2 r j) = DX m c (ix2 (row t r) j) := by
  unfold DX row
  blk_ext [iblk, V, idx t]

theorem block_m (t : Fin cfg0.N) (r : Fin 512) (j : Fin 1024) :
    (iblk m c 5 t : FVec Ideal S512x1024 .bf16) (ix2 r j) = M m c (ix2 (row t r) j) := by
  unfold M row
  blk_ext [iblk, V, idx t]

theorem block_gb (t : Fin cfg0.N) : (iblk m c 6 t : FVec Ideal S1x1024 .f32) = GB m c := by
  funext y
  unfold GB
  blk_ext [iblk, V, idx t]

/-- The results as functions of the arguments. -/
def back (s : Fin 4096) (j : Fin 1024) : EReal := Cert.Reference9Ideal.Read.back (DY m c) (W m c) s j
def down (i : S4096x1024.Idx) : EReal := Cert.Reference9Ideal.Read.down (DY m c) (W m c) (X m c) (G m c) (DX m c) (i 0) (i 1)
def branch (i : S4096x1024.Idx) : EReal :=
  Cert.Reference9Ideal.Read.branch (DY m c) (W m c) (X m c) (G m c) (DX m c) (M m c) (GB m c) (i 0) (i 1)
def gain (i : S1x1024.Idx) : EReal := Cert.Reference9Ideal.Read.gain (DY m c) (W m c) (X m c) (i 1)
def branchGain (i : S1x1024.Idx) : EReal :=
  Cert.Reference9Ideal.Read.branchGain (DY m c) (W m c) (X m c) (G m c) (DX m c) (M m c) (i 1)

theorem back_block (t : Fin cfg0.N) (r : Fin 512) (j : Fin 1024) :
    backBlk (iblk m c 0 t) (iblk m c 1 t) r j = back m c (row t r) j := by
  unfold backBlk
  rw [block_w]
  exact Finset.sum_congr rfl fun k _ => congrArg (fun z : EReal => z * W m c (ix2 k j)) (block_dy m c t r k)

theorem down_block (t : Fin cfg0.N) (r : Fin 512) (j : Fin 1024) :
    downBlk (iblk m c 0 t) (iblk m c 1 t) (iblk m c 2 t) (iblk m c 3 t) (iblk m c 4 t) r j = down m c (ix2 (row t r) j) := by
  unfold downBlk
  rw [block_g]
  exact congrArg₂ (· + ·) (block_dx m c t r j) (congrFun (congrArg₂ part (funext fun k => block_x m c t r k)
    (funext fun k => congrArg (· * _) (back_block m c t r k))) j)

theorem branch_block (t : Fin cfg0.N) (r : Fin 512) (j : Fin 1024) :
    branchBlk (iblk m c 0 t) (iblk m c 1 t) (iblk m c 2 t) (iblk m c 3 t) (iblk m c 4 t) (iblk m c 5 t) (iblk m c 6 t) r j
      = branch m c (ix2 (row t r) j) := by
  unfold branchBlk
  rw [block_gb]
  exact congrFun (congrArg₂ part (funext fun k => block_m m c t r k) (funext fun k => congrArg (· * _) (down_block m c t r k))) j

theorem gain_block (t : Fin cfg0.N) (y : S1x1024.Idx) : gainBlk (iblk m c 0 t) (iblk m c 1 t) (iblk m c 2 t) y
    = ∑ r, X m c (ix2 (row t r) (y 1)) * scale (fun k => X m c (ix2 (row t r) k)) * back m c (row t r) (y 1) :=
  Finset.sum_congr rfl fun r _ => congrArg₂ (· * ·) (congrArg₂ (· * ·) (block_x m c t r (y 1)) (congrArg scale (funext fun k => block_x m c t r k)))
    (back_block m c t r (y 1))

theorem branchGain_block (t : Fin cfg0.N) (y : S1x1024.Idx) :
    branchGainBlk (iblk m c 0 t) (iblk m c 1 t) (iblk m c 2 t) (iblk m c 3 t) (iblk m c 4 t) (iblk m c 5 t) y
      = ∑ r, M m c (ix2 (row t r) (y 1)) * scale (fun k => M m c (ix2 (row t r) k)) * down m c (ix2 (row t r) (y 1)) :=
  Finset.sum_congr rfl fun r _ => congrArg₂ (· * ·) (congrArg₂ (· * ·) (block_m m c t r (y 1)) (congrArg scale (funext fun k => block_m m c t r k)))
    (down_block m c t r (y 1))

theorem place7 (t : Fin cfg0.N) (r : Fin 512) (j : Fin 1024) :
    ((win0_7.blk t).view.emb (ix2 r j : S512x1024.Idx) : S4096x1024.Idx) = ix2 (row t r) j := by
  unfold row
  blk_ext [idx t]

theorem place9 (t : Fin cfg0.N) (r : Fin 512) (j : Fin 1024) :
    ((win0_9.blk t).view.emb (ix2 r j : S512x1024.Idx) : S4096x1024.Idx) = ix2 (row t r) j := by
  unfold row
  blk_ext [idx t]

theorem arr7 : (dats m 0 c).arrAt 7 cfg0.N = down m c := by
  refine (dats m 0 c).arrAt_eq_of_covers 7 _ (by decide +kernel) fun t _ y => ?_
  blk_simp
  rw [after0_7, out7]
  idx_vars y
  exact ((pay8_at _ _ _ _ _ _ _).trans (down_block m c t _ _)).trans (congrArg (down m c) (place7 t _ _).symm)

theorem arr9 : (dats m 0 c).arrAt 9 cfg0.N = branch m c := by
  refine (dats m 0 c).arrAt_eq_of_covers 9 _ (by decide +kernel) fun t _ y => ?_
  blk_simp
  rw [after0_9, out9]
  idx_vars y
  exact ((pay12_at _ _ _ _ _ _ _ _ _).trans (branch_block m c t _ _)).trans (congrArg (branch m c) (place9 t _ _).symm)

theorem arr8 : (dats m 0 c).arrAt 8 cfg0.N = gain m c := by
  refine (dats m 0 c).arrAt_eq_of_after_last 8 t0_7 (by decide +kernel) (gain m c) fun j => ?_
  blk_simp
  rw [after0_8, Pipeline.eq_sum_fin_of_reset_step_apply_last (fun n h => (outsAt0 m c n h).2.1) 8 (fun _ => 0) _
    (fun t h j => first8 m c t h j) (fun t h j => step8 m c t h j) (le_of_eq N_0) t0_7 rfl j, zero_add]
  simp only [gain_block]
  unfold gain Cert.Reference9Ideal.Read.gain
  exact Fin.sum_mul_add_congr fun s k hl => rfl

theorem arr10 : (dats m 0 c).arrAt 10 cfg0.N = branchGain m c := by
  refine (dats m 0 c).arrAt_eq_of_after_last 10 t0_7 (by decide +kernel) (branchGain m c) fun j => ?_
  blk_simp
  rw [after0_10, Pipeline.eq_sum_fin_of_reset_step_apply_last (fun n h => (outsAt0 m c n h).2.2.2) 8 (fun _ => 0) _
    (fun t h j => first10 m c t h j) (fun t h j => step10 m c t h j) (le_of_eq N_0) t0_7 rfl j, zero_add]
  simp only [branchGain_block]
  unfold branchGain Cert.Reference9Ideal.Read.branchGain
  exact Fin.sum_mul_add_congr fun s k hl => rfl

end Cert.Kernel9Ideal.Value

namespace Cert.Proof

theorem values9 : Cert.algebraic_Kernel9Ideal_Reference9Ideal := by
  intro m g m' g' _ hm
  refine ⟨fun c => Cert.Kernel9Ideal.Value.down m c, fun c => Cert.Kernel9Ideal.Value.gain m c, fun c => Cert.Kernel9Ideal.Value.branch m c,
    fun c => Cert.Kernel9Ideal.Value.branchGain m c, ?_, ?_⟩
  · refine (θ_run _ _ _).mono (fun r h c => ?_) (Cert.Kernel9Ideal.Value.run_blocks m g)
    obtain ⟨h7, h8, h9, h10, hr⟩ := h c
    exact ⟨h7.trans (Cert.Kernel9Ideal.Value.arr7 m c), h8.trans (Cert.Kernel9Ideal.Value.arr8 m c), h9.trans (Cert.Kernel9Ideal.Value.arr9 m c),
      h10.trans (Cert.Kernel9Ideal.Value.arr10 m c), hr⟩
  · refine (θ_run _ _ _).mono (fun r h c => ?_) (Cert.Reference9Ideal.Value.run m' g')
    obtain ⟨e0, e1, e2, e3, e4, e5, e6⟩ := hm c
    obtain ⟨h7, h8, h9, h10, hr⟩ := h c
    refine ⟨h7.trans ?_, h8.trans ?_, h9.trans ?_, h10.trans ?_, hr⟩
    · rw [Cert.Reference9Ideal.Read.val_main_v39_eq, e0, e1, e2, e3, e4]
      funext i
      idx_vars i
      exact Cert.Reference9Ideal.Read.v39_at _ _ _ _ _ _ _
    · rw [Cert.Reference9Ideal.Read.val_main_v22_eq, e0, e1, e2]
      funext i
      idx_vars i
      exact Cert.Reference9Ideal.Read.v22_at _ _ _ _ _
    · rw [Cert.Reference9Ideal.Read.val_main_v75_eq, e0, e1, e2, e3, e4, e5, e6]
      funext i
      idx_vars i
      exact Cert.Reference9Ideal.Read.v75_at _ _ _ _ _ _ _ _ _
    · rw [Cert.Reference9Ideal.Read.val_main_v58_eq, e0, e1, e2, e3, e4, e5]
      funext i
      idx_vars i
      exact Cert.Reference9Ideal.Read.v58_at _ _ _ _ _ _ _ _

end Cert.Proof

end
-- ==== Proof.SquareGrad.lean ====
/- The gradient of a square weight: the kernel's column blocks put together are the product that the reference computes. -/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel10Ideal.Value

open Cert.Kernel10Ideal Cert.Kernel10Ideal.Gen

variable (m : (ℓ : Loc nD τ sig) → Buf (Elt Ideal) ℓ) (c : Dev nD)

/-- The element of the gradient that the reference computes. -/
abbrev grad (i : S1024x1024.Idx) : EReal :=
  Cert.Reference10Ideal.Read.val_main_v5 (F := Ideal) (m ((c.tc : Thread nD τ).loc main_arg0)) (m ((c.tc : Thread nD τ).loc main_arg1)) i

theorem idx : ∀ t : Fin cfg0.N, win0_0.index t = ![0, t.val] ∧ win0_1.index t = ![0, 0] ∧ win0_2.index t = ![t.val, 0] :=
  (by decide +kernel : ∀ t : Fin grid0.N, _)

/-- The row of the gradient that is row `r` of point `t`'s block. -/
def row (t : Fin cfg0.N) (r : Fin 256) : Fin 1024 := ⟨t.val * 256 + r.val, by have := t.isLt; have h : cfg0.N = 4 := N_0; omega⟩

theorem place (t : Fin cfg0.N) (r : Fin 256) (j : Fin 1024) :
    ((win0_2.blk t).view.emb (ix2 r j : S256x1024.Idx) : S1024x1024.Idx) = ix2 (row t r) j := by
  unfold row
  blk_ext [idx t]

theorem block (t : Fin cfg0.N) (r : Fin 256) (j : Fin 1024) :
    k0_pay1 (F := Ideal) (iblk m c 0 t) (iblk m c 1 t) (ix2 r j) = grad m c (ix2 (row t r) j) := by
  unfold grad Cert.Reference10Ideal.Read.val_main_v5 Cert.Reference10Ideal.Read.val_main_v4 Cert.Reference10Ideal.Read.val_main_v1 Cert.Reference10Ideal.Read.val_main_v0
  pointwise [k0_pay1]
  refine Finset.sum_congr rfl fun k _ => ?_
  rw [mul_comm]
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel10Ideal.Value

namespace Cert.Proof

theorem values10 : Cert.algebraic_Kernel10Ideal_Reference10Ideal := by
  intro m g m' g' _ hm
  refine ⟨fun c => Cert.Kernel10Ideal.Value.grad m c, ?_, ?_⟩
  · refine (θ_run _ _ _).mono (fun r h c => ?_) (Cert.Kernel10Ideal.Value.run_blocks m g)
    exact ⟨(h c).1.trans (Cert.Kernel10Ideal.Value.arr2 m c), (h c).2⟩
  · refine (θ_run _ _ _).mono (fun r h c => ?_) (Cert.Reference10Ideal.Value.run m' g')
    obtain ⟨e0, e1⟩ := hm c
    refine ⟨(h c).1.trans ?_, (h c).2⟩
    exact (Cert.Reference10Ideal.Read.val_main_v5_eq _ _).trans (congrArg₂ _ e0 e1)

end Cert.Proof

end
-- ==== Proof.WInGrad.lean ====
/- The gradient of w_in: the kernel's column blocks put together are the product that the reference computes and transposes. -/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel11Ideal.Value

open Cert.Kernel11Ideal Cert.Kernel11Ideal.Gen

variable (m : (ℓ : Loc nD τ sig) → Buf (Elt Ideal) ℓ) (c : Dev nD)

/-- The element of the gradient that the reference computes. -/
abbrev grad (i : S1536x1024.Idx) : EReal :=
  Cert.Reference11Ideal.Read.val_main_v6 (F := Ideal) (m ((c.tc : Thread nD τ).loc main_arg0)) (m ((c.tc : Thread nD τ).loc main_arg1)) i

theorem idx : ∀ t : Fin cfg0.N, win0_0.index t = ![0, t.val] ∧ win0_1.index t = ![0, 0] ∧ win0_2.index t = ![t.val, 0] :=
  (by decide +kernel : ∀ t : Fin grid0.N, _)

/-- The row of the gradient that is row `r` of point `t`'s block. -/
def row (t : Fin cfg0.N) (r : Fin 256) : Fin 1536 := ⟨t.val * 256 + r.val, by have := t.isLt; have h : cfg0.N = 6 := N_0; omega⟩

theorem place (t : Fin cfg0.N) (r : Fin 256) (j : Fin 1024) :
    ((win0_2.blk t).view.emb (ix2 r j : S256x1024.Idx) : S1536x1024.Idx) = ix2 (row t r) j := by
  unfold row
  blk_ext [idx t]

theorem block (t : Fin cfg0.N) (r : Fin 256) (j : Fin 1024) :
    k0_pay1 (F := Ideal) (iblk m c 0 t) (iblk m c 1 t) (ix2 r j) = grad m c (ix2 (row t r) j) := by
  unfold grad Cert.Reference11Ideal.Read.val_main_v6 Cert.Reference11Ideal.Read.val_main_v5 Cert.Reference11Ideal.Read.val_main_v4 Cert.Reference11Ideal.Read.val_main_v1 Cert.Reference11Ideal.Read.val_main_v0
  pointwise [k0_pay1]
  refine Finset.sum_congr rfl fun k _ => ?_
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel11Ideal.Value

namespace Cert.Proof

theorem values11 : Cert.algebraic_Kernel11Ideal_Reference11Ideal := by
  intro m g m' g' _ hm
  refine ⟨fun c => Cert.Kernel11Ideal.Value.grad m c, ?_, ?_⟩
  · refine (θ_run _ _ _).mono (fun r h c => ?_) (Cert.Kernel11Ideal.Value.run_blocks m g)
    exact ⟨(h c).1.trans (Cert.Kernel11Ideal.Value.arr2 m c), (h c).2⟩
  · refine (θ_run _ _ _).mono (fun r h c => ?_) (Cert.Reference11Ideal.Value.run m' g')
    obtain ⟨e0, e1⟩ := hm c
    refine ⟨(h c).1.trans ?_, (h c).2⟩
    exact (Cert.Reference11Ideal.Read.val_main_v6_eq _ _).trans (congrArg₂ _ e0 e1)

end Cert.Proof

end
-- ==== Proof.OutBwd.lean ====
/- The gradient of a product's left factor: the kernel's row blocks put together are what the reference computes. -/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

variable (m : (ℓ : Loc nD τ sig) → Buf (Elt Ideal) ℓ) (c : Dev nD)

/-- The element of the gradient that the reference computes. -/
abbrev grad (i : S4096x1024.Idx) : EReal :=
  Cert.Reference12Ideal.Read.val_main_v5 (F := Ideal) (m ((c.tc : Thread nD τ).loc main_arg0)) (m ((c.tc : Thread nD τ).loc main_arg1)) i

theorem idx : ∀ t : Fin cfg0.N, win0_0.index t = ![t.val, 0] ∧ win0_1.index t = ![0, 0] ∧ win0_2.index t = ![t.val, 0] :=
  (by decide +kernel : ∀ t : Fin grid0.N, _)

/-- The row of the gradient that is row `r` of point `t`'s block. -/
def row (t : Fin cfg0.N) (r : Fin 512) : Fin 4096 := ⟨t.val * 512 + r.val, by have := t.isLt; have h : cfg0.N = 8 := N_0; omega⟩

theorem place (t : Fin cfg0.N) (r : Fin 512) (j : Fin 1024) :
    ((win0_2.blk t).view.emb (ix2 r j : S512x1024.Idx) : S4096x1024.Idx) = ix2 (row t r) j := by
  unfold row
  blk_ext [idx t]

theorem block (t : Fin cfg0.N) (r : Fin 512) (j : Fin 1024) :
    k0_pay1 (F := Ideal) (iblk m c 0 t) (iblk m c 1 t) (ix2 r j) = grad m c (ix2 (row t r) j) := by
  unfold grad Cert.Reference12Ideal.Read.val_main_v5 Cert.Reference12Ideal.Read.val_main_v4 Cert.Reference12Ideal.Read.val_main_v1 Cert.Reference12Ideal.Read.val_main_v0
  pointwise [k0_pay1]
  refine Finset.sum_congr rfl fun k _ => ?_
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel12Ideal.Value

namespace Cert.Proof

theorem values12 : Cert.algebraic_Kernel12Ideal_Reference12Ideal := by
  intro m g m' g' _ hm
  refine ⟨fun c => Cert.Kernel12Ideal.Value.grad m c, ?_, ?_⟩
  · refine (θ_run _ _ _).mono (fun r h c => ?_) (Cert.Kernel12Ideal.Value.run_blocks m g)
    exact ⟨(h c).1.trans (Cert.Kernel12Ideal.Value.arr2 m c), (h c).2⟩
  · refine (θ_run _ _ _).mono (fun r h c => ?_) (Cert.Reference12Ideal.Value.run m' g')
    obtain ⟨e0, e1⟩ := hm c
    refine ⟨(h c).1.trans ?_, (h c).2⟩
    exact (Cert.Reference12Ideal.Read.val_main_v5_eq _ _).trans (congrArg₂ _ e0 e1)

end Cert.Proof

end
-- ==== Proof.MixOut.lean ====
/- The mixer's output product, the norm of it added to the residual stream, and the norm of that: the kernel's row blocks put together are
   what the reference computes. -/
module

public import proofs.«01_k».proof.Defs
public import proofs.«01_k».proof.Proof.Norm
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference13Ideal.Read

open Cert.Reference13Ideal Cert.Reference13Ideal.Gen Cert.Norm

variable (A : (⟨S4096x1024, .bf16⟩ : BufTy).Contents (Elt Ideal)) (W : (⟨S1024x1024, .bf16⟩ : BufTy).Contents (Elt Ideal))
  (P : (⟨S1x1024, .f32⟩ : BufTy).Contents (Elt Ideal)) (X : (⟨S4096x1024, .f32⟩ : BufTy).Contents (Elt Ideal))
  (G : (⟨S1x1024, .f32⟩ : BufTy).Contents (Elt Ideal))

/-- The product, the residual stream with the product's norm added, and the norm of that. -/
def prod (s : Fin 4096) (j : Fin 1024) : EReal := ∑ k : Fin 1024, A (ix2 s k) * W (ix2 k j)
def resid (s : Fin 4096) (j : Fin 1024) : EReal := X (ix2 s j) + prod A W s j * scale (prod A W s) * P (ix2 0 j)
def next (s : Fin 4096) (j : Fin 1024) : EReal := resid A W P X s j * scale (resid A W P X s) * G (ix2 0 j)

theorem v2_at (s : Fin 4096) (j : Fin 1024) : val_main_v2 A W (ix2 s j) = prod A W s j := by
  unfold val_main_v2 val_main_v1 val_main_v0
  pointwise [prod]

theorem v16_at (s : Fin 4096) (j : Fin 1024) : val_main_v16 A W (ix2 s j) = prod A W s j := by
  unfold val_main_v16
  pointwise [v2_at A W]

theorem v15_at (s : Fin 4096) (j : Fin 1024) : val_main_v15 A W P X (ix2 s j) = resid A W P X s j := by
  unfold val_main_v15 val_main_v14 val_main_v13 val_main_v12 val_main_v11 val_main_v10 val_main_v9 val_main_v8 val_main_v7 val_main_v6
    val_main_v5 val_main_v4 val_main_v3 val_main_cst val_main_cst_0 val_main_cst_1
  pointwise [v2_at A W, resid, scale, power]

theorem v29_at (s : Fin 4096) (j : Fin 1024) : val_main_v29 A W P X G (ix2 s j) = next A W P X G s j := by
  unfold val_main_v29 val_main_v28 val_main_v27 val_main_v26 val_main_v25 val_main_v24 val_main_v23 val_main_v22 val_main_v21 val_main_v20
    val_main_v19 val_main_v18 val_main_v17 val_main_cst_2 val_main_cst_3 val_main_cst_4
  pointwise [v15_at A W P X, next, scale, power]

end Cert.Reference13Ideal.Read

namespace Cert.Kernel13Ideal.Value

open Cert.Kernel13Ideal Cert.Kernel13Ideal.Gen Cert.Norm

section

variable (a : FVec Ideal S512x1024 .bf16) (w : FVec Ideal S1024x1024 .bf16) (x : FVec Ideal S512x1024 .f32) (p g : FVec Ideal S1x1024 .f32)

/-- The three results on a block. -/
def prodBlk (r : Fin 512) (j : Fin 1024) : EReal := ∑ k : Fin 1024, a (ix2 r k) * w (ix2 k j)
def residBlk (r : Fin 512) (j : Fin 1024) : EReal := x (ix2 r j) + prodBlk a w r j * scale (prodBlk a w r) * p (ix2 0 j)
def nextBlk (r : Fin 512) (j : Fin 1024) : EReal := residBlk a w x p r j * scale (residBlk a w x p r) * g (ix2 0 j)

theorem pay1_at (r : Fin 512) (j : Fin 1024) : k0_pay1 (F := Ideal) a w (ix2 r j) = prodBlk a w r j := by
  pointwise [k0_pay1, prodBlk]

theorem pay2_at (r : Fin 512) (j : Fin 1024) : k0_pay2 (F := Ideal) a w (ix2 r j) = prodBlk a w r j := by
  pointwise [k0_pay2, pay1_at a w]

theorem pay3_at (r : Fin 512) (j : Fin 1024) : k0_pay3 (F := Ideal) a w x p (ix2 r j) = residBlk a w x p r j := by
  pointwise [k0_pay3, pay1_at a w, residBlk, scale, power]

theorem pay4_at (r : Fin 512) (j : Fin 1024) : k0_pay4 (F := Ideal) a w x p g (ix2 r j) = nextBlk a w x p g r j := by
  pointwise [k0_pay4, pay3_at a w x p, nextBlk, scale, power]

end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

/-- The arguments as launched. -/
def A : FVec Ideal S4096x1024 .bf16 := m ((c.tc : Thread nD τ).loc main_arg0)
def W : FVec Ideal S1024x1024 .bf16 := m ((c.tc : Thread nD τ).loc main_arg1)
def P : FVec Ideal S1x1024 .f32 := m ((c.tc : Thread nD τ).loc main_arg2)
def X : FVec Ideal S4096x1024 .f32 := m ((c.tc : Thread nD τ).loc main_arg3)
def G : FVec Ideal S1x1024 .f32 := m ((c.tc : Thread nD τ).loc main_arg4)

theorem block_a (t : Fin cfg0.N) (r : Fin 512) (j : Fin 1024) :
    (iblk m c 0 t : FVec Ideal S512x1024 .bf16) (ix2 r j) = A m c (ix2 (row t r) j) := by
  unfold A row
  blk_ext [iblk, V, idx t]

theorem block_w (t : Fin cfg0.N) : (iblk m c 1 t : FVec Ideal S1024x1024 .bf16) = W m c := by
  funext y
  unfold W
  blk_ext [iblk, V, idx t]

theorem block_p (t : Fin cfg0.N) : (iblk m c 2 t : FVec Ideal S1x1024 .f32) = P m c := by
  funext y
  unfold P
  blk_ext [iblk, V, idx t]

theorem block_x (t : Fin cfg0.N) (r : Fin 512) (j : Fin 1024) :
    (iblk m c 3 t : FVec Ideal S512x1024 .f32) (ix2 r j) = X m c (ix2 (row t r) j) := by
  unfold X row
  blk_ext [iblk, V, idx t]

theorem block_g (t : Fin cfg0.N) : (iblk m c 4 t : FVec Ideal S1x1024 .f32) = G m c := by
  funext y
  unfold G
  blk_ext [iblk, V, idx t]

/-- The results as functions of the arguments. -/
def prod (i : S4096x1024.Idx) : EReal := Cert.Reference13Ideal.Read.prod (A m c) (W m c) (i 0) (i 1)
def resid (i : S4096x1024.Idx) : EReal := Cert.Reference13Ideal.Read.resid (A m c) (W m c) (P m c) (X m c) (i 0) (i 1)
def next (i : S4096x1024.Idx) : EReal := Cert.Reference13Ideal.Read.next (A m c) (W m c) (P m c) (X m c) (G m c) (i 0) (i 1)

theorem prod_block (t : Fin cfg0.N) (r : Fin 512) (j : Fin 1024) : prodBlk (iblk m c 0 t) (iblk m c 1 t) r j = prod m c (ix2 (row t r) j) := by
  unfold prodBlk
  rw [block_w]
  exact Finset.sum_congr rfl fun k _ => congrArg (fun z : EReal => z * W m c (ix2 k j)) (block_a m c t r k)

theorem resid_block (t : Fin cfg0.N) (r : Fin 512) (j : Fin 1024) :
    residBlk (iblk m c 0 t) (iblk m c 1 t) (iblk m c 3 t) (iblk m c 2 t) r j = resid m c (ix2 (row t r) j) := by
  unfold residBlk
  rw [block_p]
  exact congrArg₂ (· + ·) (block_x m c t r j) (congrArg (fun z : EReal => z * P m c (ix2 0 j))
    (congrArg₂ (· * ·) (prod_block m c t r j) (congrArg scale (funext fun k => prod_block m c t r k))))

theorem next_block (t : Fin cfg0.N) (r : Fin 512) (j : Fin 1024) :
    nextBlk (iblk m c 0 t) (iblk m c 1 t) (iblk m c 3 t) (iblk m c 2 t) (iblk m c 4 t) r j = next m c (ix2 (row t r) j) := by
  unfold nextBlk
  rw [block_g]
  exact congrArg (fun z : EReal => z * G m c (ix2 0 j))
    (congrArg₂ (· * ·) (resid_block m c t r j) (congrArg scale (funext fun k => resid_block m c t r k)))

theorem place5 (t : Fin cfg0.N) (r : Fin 512) (j : Fin 1024) :
    ((win0_5.blk t).view.emb (ix2 r j : S512x1024.Idx) : S4096x1024.Idx) = ix2 (row t r) j := by
  unfold row
  blk_ext [idx t]

theorem place6 (t : Fin cfg0.N) (r : Fin 512) (j : Fin 1024) :
    ((win0_6.blk t).view.emb (ix2 r j : S512x1024.Idx) : S4096x1024.Idx) = ix2 (row t r) j := by
  unfold row
  blk_ext [idx t]

theorem place7 (t : Fin cfg0.N) (r : Fin 512) (j : Fin 1024) :
    ((win0_7.blk t).view.emb (ix2 r j : S512x1024.Idx) : S4096x1024.Idx) = ix2 (row t r) j := by
  unfold row
  blk_ext [idx t]

theorem arr5 : (dats m 0 c).arrAt 5 cfg0.N = prod m c := by
  refine (dats m 0 c).arrAt_eq_of_covers 5 _ (by decide +kernel) fun t _ y => ?_
  blk_simp
  rw [after0_5]
  unfold out0_5
  frame_out
  idx_vars y
  exact ((pay2_at _ _ _ _).trans (prod_block m c t _ _)).trans (congrArg (prod m c) (place5 t _ _).symm)

theorem arr6 : (dats m 0 c).arrAt 6 cfg0.N = resid m c := by
  refine (dats m 0 c).arrAt_eq_of_covers 6 _ (by decide +kernel) fun t _ y => ?_
  blk_simp
  rw [after0_6]
  unfold out0_6
  frame_out
  idx_vars y
  exact ((pay3_at _ _ _ _ _ _).trans (resid_block m c t _ _)).trans (congrArg (resid m c) (place6 t _ _).symm)

theorem arr7 : (dats m 0 c).arrAt 7 cfg0.N = next m c := by
  refine (dats m 0 c).arrAt_eq_of_covers 7 _ (by decide +kernel) fun t _ y => ?_
  blk_simp
  rw [after0_7]
  unfold out0_7
  frame_out
  idx_vars y
  exact ((pay4_at _ _ _ _ _ _ _).trans (next_block m c t _ _)).trans (congrArg (next m c) (place7 t _ _).symm)

end Cert.Kernel13Ideal.Value

namespace Cert.Proof

theorem values13 : Cert.algebraic_Kernel13Ideal_Reference13Ideal := by
  intro m g m' g' _ hm
  refine ⟨fun c => Cert.Kernel13Ideal.Value.prod m c, fun c => Cert.Kernel13Ideal.Value.resid m c, fun c => Cert.Kernel13Ideal.Value.next m c,
    ?_, ?_⟩
  · refine (θ_run _ _ _).mono (fun r h c => ?_) (Cert.Kernel13Ideal.Value.run_blocks m g)
    obtain ⟨h5, h6, h7, hr⟩ := h c
    exact ⟨h5.trans (Cert.Kernel13Ideal.Value.arr5 m c), h6.trans (Cert.Kernel13Ideal.Value.arr6 m c), h7.trans (Cert.Kernel13Ideal.Value.arr7 m c),
      hr⟩
  · refine (θ_run _ _ _).mono (fun r h c => ?_) (Cert.Reference13Ideal.Value.run m' g')
    obtain ⟨e0, e1, e2, e3, e4⟩ := hm c
    obtain ⟨h5, h6, h7, hr⟩ := h c
    refine ⟨h5.trans ?_, h6.trans ?_, h7.trans ?_, hr⟩
    · rw [Cert.Reference13Ideal.Read.val_main_v16_eq, e0, e1]
      funext i
      idx_vars i
      exact Cert.Reference13Ideal.Read.v16_at _ _ _ _
    · rw [Cert.Reference13Ideal.Read.val_main_v15_eq, e0, e1, e2, e3]
      funext i
      idx_vars i
      exact Cert.Reference13Ideal.Read.v15_at _ _ _ _ _ _
    · rw [Cert.Reference13Ideal.Read.val_main_v29_eq, e0, e1, e2, e3, e4]
      funext i
      idx_vars i
      exact Cert.Reference13Ideal.Read.v29_at _ _ _ _ _ _ _

end Cert.Proof

end
-- ==== Proof.InProj.lean ====
/- The product with w_in: the kernel's blocks put together are the product that the reference computes. -/
module

public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel14Ideal.Value

open Cert.Kernel14Ideal Cert.Kernel14Ideal.Gen

variable (m : (ℓ : Loc nD τ sig) → Buf (Elt Ideal) ℓ) (c : Dev nD)

/-- The element of the product that the reference computes. -/
abbrev out (i : S4096x1536.Idx) : EReal :=
  Cert.Reference14Ideal.Read.val_main_v4 (F := Ideal) (m ((c.tc : Thread nD τ).loc main_arg0)) (m ((c.tc : Thread nD τ).loc main_arg1)) i

theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- The row of the product that is row `r` of point `t`'s block: the points run down the rows of a column of blocks. -/
def row (t : Fin cfg0.N) (r : Fin 512) : Fin 4096 := ⟨t.val % 8 * 512 + r.val, by omega⟩

/-- The column of the product that is column `j` of point `t`'s block. -/
def col (t : Fin cfg0.N) (j : Fin 768) : Fin 1536 := ⟨t.val / 8 * 768 + j.val, by have := t.isLt; have h : cfg0.N = 16 := N_0; omega⟩

theorem place (t : Fin cfg0.N) (r : Fin 512) (j : Fin 768) :
    ((win0_2.blk t).view.emb (ix2 r j : S512x768.Idx) : S4096x1536.Idx) = ix2 (row t r) (col t j) := by
  unfold row col
  blk_ext [idx t]

theorem block (t : Fin cfg0.N) (r : Fin 512) (j : Fin 768) :
    k0_pay1 (F := Ideal) (iblk m c 0 t) (iblk m c 1 t) (ix2 r j) = out m c (ix2 (row t r) (col t j)) := by
  unfold out Cert.Reference14Ideal.Read.val_main_v4 Cert.Reference14Ideal.Read.val_main_v3 Cert.Reference14Ideal.Read.val_main_v2 Cert.Reference14Ideal.Read.val_main_v1 Cert.Reference14Ideal.Read.val_main_v0
  pointwise [k0_pay1]
  refine Finset.sum_congr rfl fun k _ => ?_
  unfold row col
  congr 1 <;> blk_ext [iblk, V, idx t]

theorem arr2 : (dats m 0 c).arrAt 2 cfg0.N = out m c := by
  refine (dats m 0 c).arrAt_eq_of_covers 2 _ (by decide +kernel) fun t _ y => ?_
  blk_simp
  rw [after0_2]
  unfold out0_2
  frame_out
  idx_vars y
  exact (block m c t _ _).trans (congrArg (out m c) (place t _ _).symm)

end Cert.Kernel14Ideal.Value

namespace Cert.Proof

theorem values14 : Cert.algebraic_Kernel14Ideal_Reference14Ideal := by
  intro m g m' g' _ hm
  refine ⟨fun c => Cert.Kernel14Ideal.Value.out m c, ?_, ?_⟩
  · refine (θ_run _ _ _).mono (fun r h c => ?_) (Cert.Kernel14Ideal.Value.run_blocks m g)
    exact ⟨(h c).1.trans (Cert.Kernel14Ideal.Value.arr2 m c), (h c).2⟩
  · refine (θ_run _ _ _).mono (fun r h c => ?_) (Cert.Reference14Ideal.Value.run m' g')
    obtain ⟨e0, e1⟩ := hm c
    refine ⟨(h c).1.trans ?_, (h c).2⟩
    exact (Cert.Reference14Ideal.Read.val_main_v4_eq _ _).trans (congrArg₂ _ e0 e1)

end Cert.Proof

end
-- ==== Proof.XqProj.lean ====
/- The product with w_xq: the kernel's row blocks put together are the product that the reference computes. -/
module

public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel15Ideal.Value

open Cert.Kernel15Ideal Cert.Kernel15Ideal.Gen

variable (m : (ℓ : Loc nD τ sig) → Buf (Elt Ideal) ℓ) (c : Dev nD)

/-- The element of the product that the reference computes. -/
abbrev out (i : S4096x1024.Idx) : EReal :=
  Cert.Reference15Ideal.Read.val_main_v3 (F := Ideal) (m ((c.tc : Thread nD τ).loc main_arg0)) (m ((c.tc : Thread nD τ).loc main_arg1)) i

theorem idx : ∀ t : Fin cfg0.N, win0_0.index t = ![t.val, 0] ∧ win0_1.index t = ![0, 0] ∧ win0_2.index t = ![t.val, 0] :=
  (by decide +kernel : ∀ t : Fin grid0.N, _)

/-- The row of the product that is row `r` of point `t`'s block. -/
def row (t : Fin cfg0.N) (r : Fin 512) : Fin 4096 := ⟨t.val * 512 + r.val, by have := t.isLt; have h : cfg0.N = 8 := N_0; omega⟩

theorem place (t : Fin cfg0.N) (r : Fin 512) (j : Fin 1024) :
    ((win0_2.blk t).view.emb (ix2 r j : S512x1024.Idx) : S4096x1024.Idx) = ix2 (row t r) j := by
  unfold row
  blk_ext [idx t]

theorem block (t : Fin cfg0.N) (r : Fin 512) (j : Fin 1024) :
    k0_pay1 (F := Ideal) (iblk m c 0 t) (iblk m c 1 t) (ix2 r j) = out m c (ix2 (row t r) j) := by
  unfold out Cert.Reference15Ideal.Read.val_main_v3 Cert.Reference15Ideal.Read.val_main_v2 Cert.Reference15Ideal.Read.val_main_v1 Cert.Reference15Ideal.Read.val_main_v0
  pointwise [k0_pay1]
  refine Finset.sum_congr rfl fun k _ => ?_
  unfold row
  congr 1 <;> blk_ext [iblk, V, idx t]

theorem arr2 : (dats m 0 c).arrAt 2 cfg0.N = out m c := by
  refine (dats m 0 c).arrAt_eq_of_covers 2 _ (by decide +kernel) fun t _ y => ?_
  blk_simp
  rw [after0_2]
  unfold out0_2
  frame_out
  idx_vars y
  exact (block m c t _ _).trans (congrArg (out m c) (place t _ _).symm)

end Cert.Kernel15Ideal.Value

namespace Cert.Proof

theorem values15 : Cert.algebraic_Kernel15Ideal_Reference15Ideal := by
  intro m g m' g' _ hm
  refine ⟨fun c => Cert.Kernel15Ideal.Value.out m c, ?_, ?_⟩
  · refine (θ_run _ _ _).mono (fun r h c => ?_) (Cert.Kernel15Ideal.Value.run_blocks m g)
    exact ⟨(h c).1.trans (Cert.Kernel15Ideal.Value.arr2 m c), (h c).2⟩
  · refine (θ_run _ _ _).mono (fun r h c => ?_) (Cert.Reference15Ideal.Value.run m' g')
    obtain ⟨e0, e1⟩ := hm c
    refine ⟨(h c).1.trans ?_, (h c).2⟩
    exact (Cert.Reference15Ideal.Read.val_main_v3_eq _ _).trans (congrArg₂ _ e0 e1)

end Cert.Proof

end
-- ==== Proof.FirstInProjBwd.lean ====
/- The gradient of the step's first norm and product, through which the gradient of the step's input comes: the kernel's row blocks put
   together, and its sum over the row blocks, are what the reference computes. -/
module

public import proofs.«01_k».proof.Defs
public import proofs.«01_k».proof.Proof.Norm
public import proofs.«01_k».proof.Proof.Gen.Reference16Ideal.Read
public import proofs.«01_k».proof.Proof.Gen.Kernel16Ideal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference16Ideal.Read

open Cert.Reference16Ideal Cert.Reference16Ideal.Gen Cert.Norm

variable (DY : (⟨S4096x1536, .bf16⟩ : BufTy).Contents (Elt Ideal)) (W : (⟨S1536x1024, .bf16⟩ : BufTy).Contents (Elt Ideal))
  (X : (⟨S4096x1024, .f32⟩ : BufTy).Contents (Elt Ideal)) (G : (⟨S1x1024, .f32⟩ : BufTy).Contents (Elt Ideal))
  (DX : (⟨S4096x1024, .f32⟩ : BufTy).Contents (Elt Ideal))

/-- The gradient of the norm's result. -/
def back (s : Fin 4096) (j : Fin 1024) : EReal := ∑ k : Fin 1536, DY (ix2 s k) * W (ix2 k j)

/-- The gradient of the residual stream below the norm. -/
def down (s : Fin 4096) (j : Fin 1024) : EReal :=
  DX (ix2 s j) + part (fun k => X (ix2 s k)) (fun k => back DY W s k * G (ix2 0 k)) j

/-- The gradient of the gain. -/
def gain (j : Fin 1024) : EReal := ∑ s, X (ix2 s j) * scale (fun k => X (ix2 s k)) * back DY W s j

theorem v8_at (s : Fin 4096) (z : Fin 1) : val_main_v8 X (ix2 s z) = power (fun k => X (ix2 s k)) := by
  unfold val_main_v8 val_main_v6 val_main_v7 val_main_v5 val_main_v4 val_main_v3 val_main_v2 val_main_cst val_main_cst_0 val_main_cst_1
  pointwise [power]

theorem v9_at (s : Fin 4096) (z : Fin 1) : val_main_v9 X (ix2 s z) = scale (fun k => X (ix2 s k)) := by
  unfold val_main_v9
  pointwise [v8_at X, scale]

theorem v19_at (s : Fin 4096) (j : Fin 1024) : val_main_v19 DY W (ix2 s j) = back DY W s j := by
  unfold val_main_v19 val_main_v18 val_main_v1 val_main_v0
  pointwise [back]

theorem v24_at (s : Fin 4096) (j : Fin 1024) : val_main_v24 DY W G (ix2 s j) = back DY W s j * G (ix2 0 j) := by
  unfold val_main_v24 val_main_v23
  pointwise [v19_at DY W]

theorem v34_at (s : Fin 4096) : val_main_v34 DY W X G (ix1 s) = slope (fun k => X (ix2 s k)) (fun k => back DY W s k * G (ix2 0 k)) := by
  unfold val_main_v34 val_main_v33 val_main_v32 val_main_v31 val_main_v27 val_main_v26 val_main_v25 val_main_v12 val_main_v11 val_main_v10 val_main_cst_2 val_main_cst_4 val_main_cst_5 val_main_cst_6
  pointwise [v24_at DY W G, v8_at X, v9_at X]
  rw [Fin.sum_univ_one]
  rfl

theorem v39_at (s : Fin 4096) (j : Fin 1024) : val_main_v39 DY W X G DX (ix2 s j) = down DY W X G DX s j := by
  unfold val_main_v39 val_main_v38 val_main_v37 val_main_v36 val_main_v35 val_main_v30 val_main_v29 val_main_v28 down
  rw [← part_eq]
  pointwise [v24_at DY W G, v9_at X, v34_at DY W X G]
  simp only [add_assoc]

theorem v22_at (z : Fin 1) (j : Fin 1024) : val_main_v22 DY W X (ix2 z j) = gain DY W X j := by
  unfold val_main_v22 val_main_v21 val_main_v20 val_main_v14 val_main_v13 val_main_cst_3
  pointwise [v19_at DY W, v9_at X, gain]

end Cert.Reference16Ideal.Read

namespace Cert.Kernel16Ideal.Value

open Cert.Kernel16Ideal Cert.Kernel16Ideal.Gen Cert.Norm

section

variable (dy : FVec Ideal S512x1536 .bf16) (w : FVec Ideal S1536x1024 .bf16) (x : FVec Ideal S512x1024 .f32) (g : FVec Ideal S1x1024 .f32)
  (dx : FVec Ideal S512x1024 .f32) (acc : FVec Ideal S1x1024 .f32)

/-- A block's gradient of the norm's result, of the residual stream below it, and of the branch below that. -/
def backBlk (r : Fin 512) (j : Fin 1024) : EReal := ∑ k : Fin 1536, dy (ix2 r k) * w (ix2 k j)
def downBlk (r : Fin 512) (j : Fin 1024) : EReal :=
  dx (ix2 r j) + part (fun k => x (ix2 r k)) (fun k => backBlk dy w r k * g (ix2 0 k)) j

/-- A block's parts of the two gains' gradients. -/
def gainBlk (y : S1x1024.Idx) : EReal := ∑ r, x (ix2 r (y 1)) * scale (fun k => x (ix2 r k)) * backBlk dy w r (y 1)

theorem pay3_at (r : Fin 512) (j : Fin 1024) : k0_pay3 (F := Ideal) dy w (ix2 r j) = backBlk dy w r j := by
  pointwise [k0_pay3, backBlk]

theorem pay4_at (r : Fin 512) (z : Fin 1) : k0_pay4 (F := Ideal) x (ix2 r z) = scale (fun k => x (ix2 r k)) := by
  pointwise [k0_pay4, scale, power]

theorem pay5_at (r : Fin 512) (j : Fin 1024) : k0_pay5 (F := Ideal) x (ix2 r j) = x (ix2 r j) * scale (fun k => x (ix2 r k)) := by
  pointwise [k0_pay5, pay4_at x]

theorem pay6_at (r : Fin 512) (j : Fin 1024) :
    k0_pay6 (F := Ideal) dy w x g (ix2 r j) = part (fun k => x (ix2 r k)) (fun k => backBlk dy w r k * g (ix2 0 k)) j := by
  pointwise [k0_pay6, pay3_at dy w, pay4_at x, pay5_at x, part]

theorem pay7_at (z : Fin 1) (j : Fin 1024) : k0_pay7 (F := Ideal) dy w x acc (ix2 z j) = acc (ix2 z j) + gainBlk dy w x (ix2 z j) := by
  pointwise [k0_pay7, pay3_at dy w, pay5_at x, gainBlk]
  exact congrArg _ (Finset.sum_congr rfl fun r _ => mul_comm _ _)

theorem pay1_at (r : Fin 512) (j : Fin 1024) : k0_pay1 (F := Ideal) (k0_pay6 dy w x g) dx (ix2 r j) = downBlk dy w x g dx r j := by
  pointwise [k0_pay1, pay6_at dy w x g, downBlk]

end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

theorem out5 (t : Fin cfg0.N) : (outsAt0 m c t.val t.isLt).1 = k0_pay1 (k0_pay6 (iblk m c 0 t) (iblk m c 1 t) (iblk m c 2 t) (iblk m c 3 t)) (iblk m c 4 t) := by
  by_cases h : t.val % 8 = 0
  · rw [outsAt0_A m c t h]
    frame_out
  · rw [outsAt0_B m c t h]
    frame_out

theorem first6 (t : Fin cfg0.N) (h : t.val % 8 = 0) (y : S1x1024.Idx) :
    (outsAt0 m c t.val t.isLt).2 y = 0 + gainBlk (iblk m c 0 t) (iblk m c 1 t) (iblk m c 2 t) y := by
  rw [outsAt0_A m c t h]
  frame_open
  simp (disch := decide) only [↓ View.readCov_skip, ↓ View.readCov_cons_toLoadRect, ↓ View.readCov_fill]
  frame_out
  idx_vars y
  rw [pay7_at]
  pointwise [k0_pay2]

theorem step6 (t : Fin cfg0.N) (h : ¬ t.val % 8 = 0) (y : S1x1024.Idx) :
    (outsAt0 m c t.val t.isLt).2 y = (outsAt0 m c (t.val - 1) (Nat.lt_of_le_of_lt (Nat.sub_le _ _) t.isLt)).2 y
      + gainBlk (iblk m c 0 t) (iblk m c 1 t) (iblk m c 2 t) y := by
  rw [outsAt0_B m c t h]
  frame_out
  idx_vars y
  rw [pay7_at]

/-- The arguments as launched. -/
def DY : FVec Ideal S4096x1536 .bf16 := m ((c.tc : Thread nD τ).loc main_arg0)
def W : FVec Ideal S1536x1024 .bf16 := m ((c.tc : Thread nD τ).loc main_arg1)
def X : FVec Ideal S4096x1024 .f32 := m ((c.tc : Thread nD τ).loc main_arg2)
def G : FVec Ideal S1x1024 .f32 := m ((c.tc : Thread nD τ).loc main_arg3)
def DX : FVec Ideal S4096x1024 .f32 := m ((c.tc : Thread nD τ).loc main_arg4)

theorem block_dy (t : Fin cfg0.N) (r : Fin 512) (j : Fin 1536) :
    (iblk m c 0 t : FVec Ideal S512x1536 .bf16) (ix2 r j) = DY m c (ix2 (row t r) j) := by
  unfold DY row
  blk_ext [iblk, V, idx t]

theorem block_w (t : Fin cfg0.N) : (iblk m c 1 t : FVec Ideal S1536x1024 .bf16) = W m c := by
  funext y
  unfold W
  blk_ext [iblk, V, idx t]

theorem block_x (t : Fin cfg0.N) (r : Fin 512) (j : Fin 1024) :
    (iblk m c 2 t : FVec Ideal S512x1024 .f32) (ix2 r j) = X m c (ix2 (row t r) j) := by
  unfold X row
  blk_ext [iblk, V, idx t]

theorem block_g (t : Fin cfg0.N) : (iblk m c 3 t : FVec Ideal S1x1024 .f32) = G m c := by
  funext y
  unfold G
  blk_ext [iblk, V, idx t]

theorem block_dx (t : Fin cfg0.N) (r : Fin 512) (j : Fin 1024) :
    (iblk m c 4 t : FVec Ideal S512x1024 .f32) (ix2 r j) = DX m c (ix2 (row t r) j) := by
  unfold DX row
  blk_ext [iblk, V, idx t]

/-- The results as functions of the arguments. -/
def back (s : Fin 4096) (j : Fin 1024) : EReal := Cert.Reference16Ideal.Read.back (DY m c) (W m c) s j
def down (i : S4096x1024.Idx) : EReal := Cert.Reference16Ideal.Read.down (DY m c) (W m c) (X m c) (G m c) (DX m c) (i 0) (i 1)
def gain (i : S1x1024.Idx) : EReal := Cert.Reference16Ideal.Read.gain (DY m c) (W m c) (X m c) (i 1)

theorem back_block (t : Fin cfg0.N) (r : Fin 512) (j : Fin 1024) :
    backBlk (iblk m c 0 t) (iblk m c 1 t) r j = back m c (row t r) j := by
  unfold backBlk
  rw [block_w]
  exact Finset.sum_congr rfl fun k _ => congrArg (fun z : EReal => z * W m c (ix2 k j)) (block_dy m c t r k)

theorem down_block (t : Fin cfg0.N) (r : Fin 512) (j : Fin 1024) :
    downBlk (iblk m c 0 t) (iblk m c 1 t) (iblk m c 2 t) (iblk m c 3 t) (iblk m c 4 t) r j = down m c (ix2 (row t r) j) := by
  unfold downBlk
  rw [block_g]
  exact congrArg₂ (· + ·) (block_dx m c t r j) (congrFun (congrArg₂ part (funext fun k => block_x m c t r k)
    (funext fun k => congrArg (· * _) (back_block m c t r k))) j)

theorem gain_block (t : Fin cfg0.N) (y : S1x1024.Idx) : gainBlk (iblk m c 0 t) (iblk m c 1 t) (iblk m c 2 t) y
    = ∑ r, X m c (ix2 (row t r) (y 1)) * scale (fun k => X m c (ix2 (row t r) k)) * back m c (row t r) (y 1) :=
  Finset.sum_congr rfl fun r _ => congrArg₂ (· * ·) (congrArg₂ (· * ·) (block_x m c t r (y 1)) (congrArg scale (funext fun k => block_x m c t r k)))
    (back_block m c t r (y 1))

theorem place5 (t : Fin cfg0.N) (r : Fin 512) (j : Fin 1024) :
    ((win0_5.blk t).view.emb (ix2 r j : S512x1024.Idx) : S4096x1024.Idx) = ix2 (row t r) j := by
  unfold row
  blk_ext [idx t]

theorem arr5 : (dats m 0 c).arrAt 5 cfg0.N = down m c := by
  refine (dats m 0 c).arrAt_eq_of_covers 5 _ (by decide +kernel) fun t _ y => ?_
  blk_simp
  rw [after0_5, out5]
  idx_vars y
  exact ((pay1_at _ _ _ _ _ _ _).trans (down_block m c t _ _)).trans (congrArg (down m c) (place5 t _ _).symm)

theorem arr6 : (dats m 0 c).arrAt 6 cfg0.N = gain m c := by
  refine (dats m 0 c).arrAt_eq_of_after_last 6 t0_7 (by decide +kernel) (gain m c) fun j => ?_
  blk_simp
  rw [after0_6, Pipeline.eq_sum_fin_of_reset_step_apply_last (fun n h => (outsAt0 m c n h).2) 8 (fun _ => 0) _
    (fun t h j => first6 m c t h j) (fun t h j => step6 m c t h j) (le_of_eq N_0) t0_7 rfl j, zero_add]
  simp only [gain_block]
  unfold gain Cert.Reference16Ideal.Read.gain
  exact Fin.sum_mul_add_congr fun s k hl => rfl

end Cert.Kernel16Ideal.Value

namespace Cert.Proof

theorem values16 : Cert.algebraic_Kernel16Ideal_Reference16Ideal := by
  intro m g m' g' _ hm
  refine ⟨fun c => Cert.Kernel16Ideal.Value.down m c, fun c => Cert.Kernel16Ideal.Value.gain m c, ?_, ?_⟩
  · refine (θ_run _ _ _).mono (fun r h c => ?_) (Cert.Kernel16Ideal.Value.run_blocks m g)
    obtain ⟨h5, h6, hr⟩ := h c
    exact ⟨h5.trans (Cert.Kernel16Ideal.Value.arr5 m c), h6.trans (Cert.Kernel16Ideal.Value.arr6 m c), hr⟩
  · refine (θ_run _ _ _).mono (fun r h c => ?_) (Cert.Reference16Ideal.Value.run m' g')
    obtain ⟨e0, e1, e2, e3, e4⟩ := hm c
    obtain ⟨h5, h6, hr⟩ := h c
    refine ⟨h5.trans ?_, h6.trans ?_, hr⟩
    · rw [Cert.Reference16Ideal.Read.val_main_v39_eq, e0, e1, e2, e3, e4]
      funext i
      idx_vars i
      exact Cert.Reference16Ideal.Read.v39_at _ _ _ _ _ _ _
    · rw [Cert.Reference16Ideal.Read.val_main_v22_eq, e0, e1, e2]
      funext i
      idx_vars i
      exact Cert.Reference16Ideal.Read.v22_at _ _ _ _ _

end Cert.Proof

end
-- ==== Proof.Loss.lean ====
/- The loss and the gradients it starts with: the loss itself, its gradient in the step's result, and that gradient through the last norm.
   The kernel goes through the rows in blocks; its blocks and its sums over the blocks are what the reference computes. -/
module

public import proofs.«01_k».proof.Defs
public import proofs.«01_k».proof.Proof.Norm
public import proofs.«01_k».proof.Proof.Gen.Reference17Ideal.Read
public import proofs.«01_k».proof.Proof.Gen.Kernel17Ideal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Loss

open Cert.Norm Cert.Sums

/-- The factor that the kernel multiplies a difference with, and the one that it multiplies the sum of the squares with. -/
abbrev perRow : EReal := Ideal.ofBits .f32 0x3A800000#32
abbrev halfPerRow : EReal := Ideal.ofBits .f32 0x3A000000#32

theorem perRow_real : perRow = ((1 / 1024 : ℝ) : EReal) := by
  simp [perRow, Ideal.ofBits, Ideal.ieee, -EReal.coe_mul]; norm_num

theorem halfPerRow_real : halfPerRow = ((1 / 2048 : ℝ) : EReal) := by
  simp [halfPerRow, Ideal.ofBits, Ideal.ieee, -EReal.coe_mul]; norm_num

theorem half_real : Ideal.ofBits .f32 0x3F000000#32 = ((1 / 2 : ℝ) : EReal) := by
  simp [Ideal.ofBits, Ideal.ieee, -EReal.coe_mul]; norm_num

theorem one_real : Ideal.ofBits .f32 0x3F800000#32 = ((1 : ℝ) : EReal) := by
  simp [Ideal.ofBits, Ideal.ieee, -EReal.coe_mul]; norm_num

theorem two_real : Ideal.ofBits .f32 0x40000000#32 = ((2 : ℝ) : EReal) := by
  simp [Ideal.ofBits, Ideal.ieee, -EReal.coe_mul]; norm_num

/-- The derivative of half the mean square, as the derivative's rule writes it and as the kernel does. -/
theorem slope_eq (d : EReal) : Ideal.div (Ideal.ofBits .f32 0x3F000000#32 * Ideal.ofBits .f32 0x3F800000#32) width
    * (Ideal.ofBits .f32 0x40000000#32 * d) = d * perRow := by
  rw [half_real, one_real, two_real, width_real, perRow_real, Ideal.div_coe (by norm_num), ← mul_assoc, ← EReal.coe_mul, ← EReal.coe_mul,
    ← EReal.coe_mul, mul_comm d]
  exact congrArg (fun r : ℝ => (r : EReal) * d) (by norm_num)

/-- Half the sum of the rows' means is the sum of the columns' sums, scaled. -/
theorem mean_eq (y : Fin 4096 → Fin 1024 → EReal) : Ideal.ofBits .f32 0x3F000000#32 * ∑ s, Ideal.div (∑ j, y s j) width
    = (∑ j, ∑ s, y s j) * halfPerRow := by
  rw [half_real, halfPerRow_real, width_real, Finset.sum_comm, mul_comm _ ((1 / 2048 : ℝ) : EReal), mul_sum_real _ (by norm_num),
    mul_sum_real _ (by norm_num)]
  refine Finset.sum_congr rfl fun s _ => ?_
  rw [Ideal.div_coe (by norm_num), mul_comm _ ((1 / 1024 : ℝ) : EReal), ← mul_assoc, ← EReal.coe_mul]
  exact congrArg (fun r : ℝ => (r : EReal) * _) (by norm_num)

end Cert.Loss

namespace Cert.Reference17Ideal.Read

open Cert.Reference17Ideal Cert.Reference17Ideal.Gen Cert.Norm Cert.Loss

variable (Y T : (⟨S4096x1024, .f32⟩ : BufTy).Contents (Elt Ideal)) (M : (⟨S4096x1024, .bf16⟩ : BufTy).Contents (Elt Ideal))
  (G : (⟨S1x1024, .f32⟩ : BufTy).Contents (Elt Ideal))

/-- The loss, the gradient of the step's result, the gradient below the norm, and the gradient of the gain. -/
def loss : EReal := (∑ j : Fin 1024, ∑ s : Fin 4096, (Y (ix2 s j) - T (ix2 s j)) * (Y (ix2 s j) - T (ix2 s j))) * halfPerRow
def grad (s : Fin 4096) (j : Fin 1024) : EReal := (Y (ix2 s j) - T (ix2 s j)) * perRow
def down (s : Fin 4096) (j : Fin 1024) : EReal := part (fun k => M (ix2 s k)) (fun k => grad Y T s k * G (ix2 0 k)) j
def gain (j : Fin 1024) : EReal := ∑ s, grad Y T s j * (M (ix2 s j) * scale (fun k => M (ix2 s k)))

theorem v50_at (z : Fin 1) (j : Fin 128) : val_main_v50 Y T (ix2 z j) = loss Y T := by
  unfold val_main_v50 val_main_v8 val_main_v7 val_main_v6 val_main_v5 val_main_v4 val_main_v1 val_main_v0 val_main_cst_3 val_main_cst_2
    val_main_cst_1 val_main_cst_0 loss
  rw [← mean_eq]
  pointwise

theorem v14_at (s : Fin 4096) (j : Fin 1024) : val_main_v14 Y T (ix2 s j) = grad Y T s j := by
  unfold val_main_v14 val_main_v13 val_main_v12 val_main_v11 val_main_v10 val_main_v9 val_main_v3 val_main_v2 val_main_v0 val_main_cst_6
    val_main_cst_5 val_main_cst_4 val_main_cst grad
  rw [← slope_eq]
  pointwise

theorem v22_at (s : Fin 4096) (z : Fin 1) : val_main_v22 M (ix2 s z) = power (fun k => M (ix2 s k)) := by
  unfold val_main_v22 val_main_v21 val_main_v20 val_main_v19 val_main_v18 val_main_v17 val_main_v16 val_main_v15 val_main_cst_9 val_main_cst_8
    val_main_cst_7
  pointwise [power]

theorem v23_at (s : Fin 4096) (z : Fin 1) : val_main_v23 M (ix2 s z) = scale (fun k => M (ix2 s k)) := by
  unfold val_main_v23
  pointwise [v22_at M, scale]

theorem v35_at (s : Fin 4096) (j : Fin 1024) : val_main_v35 Y T G (ix2 s j) = grad Y T s j * G (ix2 0 j) := by
  unfold val_main_v35 val_main_v34
  pointwise [v14_at Y T]

theorem v44_at (s : Fin 4096) : val_main_v44 Y T M G (ix1 s) = slope (fun k => M (ix2 s k)) (fun k => grad Y T s k * G (ix2 0 k)) := by
  unfold val_main_v44 val_main_v43 val_main_v42 val_main_v41 val_main_v38 val_main_v37 val_main_v36 val_main_v26 val_main_v25 val_main_v24
    val_main_v15 val_main_cst_10 val_main_cst_12 val_main_cst_13 val_main_cst_14
  pointwise [v35_at Y T G, v22_at M, v23_at M]
  rw [Fin.sum_univ_one]
  rfl

theorem v51_at (s : Fin 4096) (j : Fin 1024) : val_main_v51 Y T M G (ix2 s j) = down Y T M G s j := by
  unfold val_main_v51 val_main_v49 val_main_v48 val_main_v47 val_main_v46 val_main_v45 val_main_v40 val_main_v39 val_main_v15 down
  rw [← part_eq]
  pointwise [v35_at Y T G, v23_at M, v44_at Y T M G]

theorem v33_at (z : Fin 1) (j : Fin 1024) : val_main_v33 Y T M (ix2 z j) = gain Y T M j := by
  unfold val_main_v33 val_main_v32 val_main_v31 val_main_v28 val_main_v27 val_main_v15 val_main_cst_11
  pointwise [v14_at Y T, v23_at M, gain]
  exact Finset.sum_congr rfl fun s _ => mul_comm _ _

end Cert.Reference17Ideal.Read

namespace Cert.Kernel17Ideal.Value

open Cert.Kernel17Ideal Cert.Kernel17Ideal.Gen Cert.Norm Cert.Loss

section

variable (a b : FVec Ideal S512x1024 .f32) (f : FVec Ideal S512x1024 .bf16) (g : FVec Ideal S1x1024 .f32) (acc : FVec Ideal S1x1024 .f32)

/-- The same of a block, and its part of the columns' sums of squares. -/
def diffBlk (r : Fin 512) (j : Fin 1024) : EReal := a (ix2 r j) - b (ix2 r j)
def gradBlk (r : Fin 512) (j : Fin 1024) : EReal := diffBlk a b r j * perRow
def downBlk (r : Fin 512) (j : Fin 1024) : EReal := part (fun k => f (ix2 r k)) (fun k => gradBlk a b r k * g (ix2 0 k)) j
def gainBlk (y : S1x1024.Idx) : EReal := ∑ r, gradBlk a b r (y 1) * (f (ix2 r (y 1)) * scale (fun k => f (ix2 r k)))
def squaresBlk (y : S1x1024.Idx) : EReal := ∑ r, diffBlk a b r (y 1) * diffBlk a b r (y 1)

theorem pay7_at (r : Fin 512) (j : Fin 1024) : k0_pay7 (F := Ideal) a b (ix2 r j) = gradBlk a b r j := by
  pointwise [k0_pay7, k0_pay6, gradBlk, diffBlk]

theorem pay9_at (r : Fin 512) (z : Fin 1) : k0_pay9 (F := Ideal) f (ix2 r z) = scale (fun k => f (ix2 r k)) := by
  pointwise [k0_pay9, k0_pay8, scale, power]

theorem pay10_at (r : Fin 512) (j : Fin 1024) : k0_pay10 (F := Ideal) f (ix2 r j) = f (ix2 r j) * scale (fun k => f (ix2 r k)) := by
  pointwise [k0_pay10, k0_pay8, pay9_at f]

theorem pay12_at (r : Fin 512) (j : Fin 1024) : k0_pay12 (F := Ideal) a b f g (ix2 r j) = downBlk a b f g r j := by
  pointwise [k0_pay12, pay7_at a b, pay9_at f, pay10_at f, downBlk, part]

theorem pay1_at (z : Fin 1) (j : Fin 1024) : k0_pay1 (F := Ideal) (k0_pay11 a b f) acc (ix2 z j) = acc (ix2 z j) + gainBlk a b f (ix2 z j) := by
  pointwise [k0_pay1, k0_pay11, pay7_at a b, pay10_at f, gainBlk]

theorem pay2_at (z : Fin 1) (j : Fin 1024) : k0_pay2 (F := Ideal) (k0_pay6 a b) acc (ix2 z j) = acc (ix2 z j) + squaresBlk a b (ix2 z j) := by
  pointwise [k0_pay2, k0_pay6, squaresBlk, diffBlk]

theorem pay3_at (z : Fin 1) (j : Fin 128) : k0_pay3 (F := Ideal) acc (ix2 z j) = (∑ k : Fin 1024, acc (ix2 0 k)) * halfPerRow := by
  pointwise [k0_pay3]

end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

theorem out5 (t : Fin cfg0.N) : (outsAt0 m c t.val t.isLt).2.1 = k0_pay7 (iblk m c 0 t) (iblk m c 1 t) := by
  by_cases h : t.val % 8 = 0
  · rw [outsAt0_A m c t h (by omega)]
    frame_out
  · by_cases h' : t.val % 8 = 7
    · rw [outsAt0_C m c t h h']
      frame_out
    · rw [outsAt0_B m c t h h']
      frame_out

theorem out6 (t : Fin cfg0.N) : (outsAt0 m c t.val t.isLt).2.2.1 = k0_pay12 (iblk m c 0 t) (iblk m c 1 t) (iblk m c 2 t) (iblk m c 3 t) := by
  by_cases h : t.val % 8 = 0
  · rw [outsAt0_A m c t h (by omega)]
    frame_out
  · by_cases h' : t.val % 8 = 7
    · rw [outsAt0_C m c t h h']
      frame_out
    · rw [outsAt0_B m c t h h']
      frame_out

theorem first7 (t : Fin cfg0.N) (h : t.val % 8 = 0) (y : S1x1024.Idx) :
    (outsAt0 m c t.val t.isLt).2.2.2.1 y = 0 + gainBlk (iblk m c 0 t) (iblk m c 1 t) (iblk m c 2 t) y := by
  rw [outsAt0_A m c t h (by omega)]
  frame_open
  simp (disch := decide) only [↓ View.readCov_skip, ↓ View.readCov_cons_toLoadRect, ↓ View.readCov_fill]
  frame_out
  idx_vars y
  rw [pay1_at]
  pointwise [k0_pay5]

theorem step7 (t : Fin cfg0.N) (h : ¬ t.val % 8 = 0) (y : S1x1024.Idx) :
    (outsAt0 m c t.val t.isLt).2.2.2.1 y = (outsAt0 m c (t.val - 1) (Nat.lt_of_le_of_lt (Nat.sub_le _ _) t.isLt)).2.2.2.1 y
      + gainBlk (iblk m c 0 t) (iblk m c 1 t) (iblk m c 2 t) y := by
  by_cases h' : t.val % 8 = 7
  · rw [outsAt0_C m c t h h']
    frame_out
    idx_vars y
    rw [pay1_at]
  · rw [outsAt0_B m c t h h']
    frame_out
    idx_vars y
    rw [pay1_at]

/-! The sums of squares, which the kernel keeps from point to point. -/

theorem first8 (t : Fin cfg0.N) (h : t.val % 8 = 0) (y : S1x1024.Idx) :
    (outsAt0 m c t.val t.isLt).2.2.2.2 y = 0 + squaresBlk (iblk m c 0 t) (iblk m c 1 t) y := by
  rw [outsAt0_A m c t h (by omega)]
  frame_open
  simp (disch := decide) only [↓ View.readCov_skip, ↓ View.readCov_cons_toLoadRect, ↓ View.readCov_fill]
  frame_out
  idx_vars y
  rw [pay2_at]
  pointwise [k0_pay4]

theorem step8 (t : Fin cfg0.N) (h : ¬ t.val % 8 = 0) (y : S1x1024.Idx) :
    (outsAt0 m c t.val t.isLt).2.2.2.2 y = (outsAt0 m c (t.val - 1) (Nat.lt_of_le_of_lt (Nat.sub_le _ _) t.isLt)).2.2.2.2 y
      + squaresBlk (iblk m c 0 t) (iblk m c 1 t) y := by
  by_cases h' : t.val % 8 = 7
  · rw [outsAt0_C m c t h h']
    frame_out
    idx_vars y
    rw [pay2_at]
    exact congrArg (· + _) (congrFun ((Memref.isWhole_whole _).read_unread _) _)
  · rw [outsAt0_B m c t h h']
    frame_out
    idx_vars y
    rw [pay2_at]
    exact congrArg (· + _) (congrFun ((Memref.isWhole_whole _).read_unread _) _)

theorem out4 (t : Fin cfg0.N) (h : ¬ t.val % 8 = 0) (h' : t.val % 8 = 7) :
    (outsAt0 m c t.val t.isLt).1 = k0_pay3 (outsAt0 m c t.val t.isLt).2.2.2.2 := by
  rw [outsAt0_C m c t h h']
  frame_out

/-- The arguments as launched. -/
def Y : FVec Ideal S4096x1024 .f32 := m ((c.tc : Thread nD τ).loc main_arg0)
def T : FVec Ideal S4096x1024 .f32 := m ((c.tc : Thread nD τ).loc main_arg1)
def M : FVec Ideal S4096x1024 .bf16 := m ((c.tc : Thread nD τ).loc main_arg2)
def G : FVec Ideal S1x1024 .f32 := m ((c.tc : Thread nD τ).loc main_arg3)

theorem block_y (t : Fin cfg0.N) (r : Fin 512) (j : Fin 1024) :
    (iblk m c 0 t : FVec Ideal S512x1024 .f32) (ix2 r j) = Y m c (ix2 (row t r) j) := by
  unfold Y row
  blk_ext [iblk, V, idx t]

theorem block_t (t : Fin cfg0.N) (r : Fin 512) (j : Fin 1024) :
    (iblk m c 1 t : FVec Ideal S512x1024 .f32) (ix2 r j) = T m c (ix2 (row t r) j) := by
  unfold T row
  blk_ext [iblk, V, idx t]

theorem block_m (t : Fin cfg0.N) (r : Fin 512) (j : Fin 1024) :
    (iblk m c 2 t : FVec Ideal S512x1024 .bf16) (ix2 r j) = M m c (ix2 (row t r) j) := by
  unfold M row
  blk_ext [iblk, V, idx t]

theorem block_g (t : Fin cfg0.N) : (iblk m c 3 t : FVec Ideal S1x1024 .f32) = G m c := by
  funext y
  unfold G
  blk_ext [iblk, V, idx t]

/-- The results as functions of the arguments. -/
def loss (i : S1x128.Idx) : EReal := Cert.Reference17Ideal.Read.loss (Y m c) (T m c)
def grad (i : S4096x1024.Idx) : EReal := Cert.Reference17Ideal.Read.grad (Y m c) (T m c) (i 0) (i 1)
def down (i : S4096x1024.Idx) : EReal := Cert.Reference17Ideal.Read.down (Y m c) (T m c) (M m c) (G m c) (i 0) (i 1)
def gain (i : S1x1024.Idx) : EReal := Cert.Reference17Ideal.Read.gain (Y m c) (T m c) (M m c) (i 1)

theorem diff_block (t : Fin cfg0.N) (r : Fin 512) (j : Fin 1024) :
    diffBlk (iblk m c 0 t) (iblk m c 1 t) r j = Y m c (ix2 (row t r) j) - T m c (ix2 (row t r) j) :=
  congrArg₂ (fun u v : EReal => u - v) (block_y m c t r j) (block_t m c t r j)

theorem grad_block (t : Fin cfg0.N) (r : Fin 512) (j : Fin 1024) :
    gradBlk (iblk m c 0 t) (iblk m c 1 t) r j = grad m c (ix2 (row t r) j) :=
  congrArg (fun z : EReal => z * perRow) (diff_block m c t r j)

theorem down_block (t : Fin cfg0.N) (r : Fin 512) (j : Fin 1024) :
    downBlk (iblk m c 0 t) (iblk m c 1 t) (iblk m c 2 t) (iblk m c 3 t) r j = down m c (ix2 (row t r) j) := by
  unfold downBlk
  rw [block_g]
  exact congrFun (congrArg₂ part (funext fun k => block_m m c t r k) (funext fun k => congrArg (· * _) (grad_block m c t r k))) j

theorem gain_block (t : Fin cfg0.N) (y : S1x1024.Idx) : gainBlk (iblk m c 0 t) (iblk m c 1 t) (iblk m c 2 t) y
    = ∑ r, grad m c (ix2 (row t r) (y 1)) * (M m c (ix2 (row t r) (y 1)) * scale (fun k => M m c (ix2 (row t r) k))) :=
  Finset.sum_congr rfl fun r _ => congrArg₂ (· * ·) (grad_block m c t r (y 1))
    (congrArg₂ (· * ·) (block_m m c t r (y 1)) (congrArg scale (funext fun k => block_m m c t r k)))

theorem squares_block (t : Fin cfg0.N) (y : S1x1024.Idx) : squaresBlk (iblk m c 0 t) (iblk m c 1 t) y
    = ∑ r, (Y m c (ix2 (row t r) (y 1)) - T m c (ix2 (row t r) (y 1))) * (Y m c (ix2 (row t r) (y 1)) - T m c (ix2 (row t r) (y 1))) :=
  Finset.sum_congr rfl fun r _ => congrArg₂ (· * ·) (diff_block m c t r (y 1)) (diff_block m c t r (y 1))

/-- After the last point the kernel holds the columns' sums of squares. -/
theorem squares (y : S1x1024.Idx) : (outsAt0 m c t0_7.val t0_7.isLt).2.2.2.2 y
    = ∑ s : Fin 4096, (Y m c (ix2 s (y 1)) - T m c (ix2 s (y 1))) * (Y m c (ix2 s (y 1)) - T m c (ix2 s (y 1))) := by
  rw [Pipeline.eq_sum_fin_of_reset_step_apply_last (fun n h => (outsAt0 m c n h).2.2.2.2) 8 (fun _ => 0) _
    (fun t h j => first8 m c t h j) (fun t h j => step8 m c t h j) (le_of_eq N_0) t0_7 rfl y, zero_add]
  simp only [squares_block]
  exact Fin.sum_mul_add_congr fun s k hl => rfl

theorem place5 (t : Fin cfg0.N) (r : Fin 512) (j : Fin 1024) :
    ((win0_5.blk t).view.emb (ix2 r j : S512x1024.Idx) : S4096x1024.Idx) = ix2 (row t r) j := by
  unfold row
  blk_ext [idx t]

theorem place6 (t : Fin cfg0.N) (r : Fin 512) (j : Fin 1024) :
    ((win0_6.blk t).view.emb (ix2 r j : S512x1024.Idx) : S4096x1024.Idx) = ix2 (row t r) j := by
  unfold row
  blk_ext [idx t]

theorem arr4 : (dats m 0 c).arrAt 4 cfg0.N = loss m c := by
  refine (dats m 0 c).arrAt_eq_of_after_last 4 t0_7 (by decide +kernel) (loss m c) fun j => ?_
  blk_simp
  rw [after0_4, out4 m c t0_7 (by decide) (by decide)]
  idx_vars j
  refine (pay3_at _ _ _).trans ?_
  unfold loss Cert.Reference17Ideal.Read.loss
  exact congrArg (fun z : EReal => z * halfPerRow) (Finset.sum_congr rfl fun k _ => squares m c (ix2 0 k))

theorem arr5 : (dats m 0 c).arrAt 5 cfg0.N = grad m c := by
  refine (dats m 0 c).arrAt_eq_of_covers 5 _ (by decide +kernel) fun t _ y => ?_
  blk_simp
  rw [after0_5, out5]
  idx_vars y
  exact ((pay7_at _ _ _ _).trans (grad_block m c t _ _)).trans (congrArg (grad m c) (place5 t _ _).symm)

theorem arr6 : (dats m 0 c).arrAt 6 cfg0.N = down m c := by
  refine (dats m 0 c).arrAt_eq_of_covers 6 _ (by decide +kernel) fun t _ y => ?_
  blk_simp
  rw [after0_6, out6]
  idx_vars y
  exact ((pay12_at _ _ _ _ _ _).trans (down_block m c t _ _)).trans (congrArg (down m c) (place6 t _ _).symm)

theorem arr7 : (dats m 0 c).arrAt 7 cfg0.N = gain m c := by
  refine (dats m 0 c).arrAt_eq_of_after_last 7 t0_7 (by decide +kernel) (gain m c) fun j => ?_
  blk_simp
  rw [after0_7, Pipeline.eq_sum_fin_of_reset_step_apply_last (fun n h => (outsAt0 m c n h).2.2.2.1) 8 (fun _ => 0) _
    (fun t h j => first7 m c t h j) (fun t h j => step7 m c t h j) (le_of_eq N_0) t0_7 rfl j, zero_add]
  simp only [gain_block]
  unfold gain Cert.Reference17Ideal.Read.gain
  exact Fin.sum_mul_add_congr fun s k hl => rfl

end Cert.Kernel17Ideal.Value

namespace Cert.Proof

theorem values17 : Cert.algebraic_Kernel17Ideal_Reference17Ideal := by
  intro m g m' g' _ hm
  refine ⟨fun c => Cert.Kernel17Ideal.Value.loss m c, fun c => Cert.Kernel17Ideal.Value.grad m c, fun c => Cert.Kernel17Ideal.Value.down m c,
    fun c => Cert.Kernel17Ideal.Value.gain m c, ?_, ?_⟩
  · refine (θ_run _ _ _).mono (fun r h c => ?_) (Cert.Kernel17Ideal.Value.run_blocks m g)
    obtain ⟨h4, h5, h6, h7, hr⟩ := h c
    exact ⟨h4.trans (Cert.Kernel17Ideal.Value.arr4 m c), h5.trans (Cert.Kernel17Ideal.Value.arr5 m c),
      h6.trans (Cert.Kernel17Ideal.Value.arr6 m c), h7.trans (Cert.Kernel17Ideal.Value.arr7 m c), hr⟩
  · refine (θ_run _ _ _).mono (fun r h c => ?_) (Cert.Reference17Ideal.Value.run m' g')
    obtain ⟨e0, e1, e2, e3⟩ := hm c
    obtain ⟨h4, h5, h6, h7, hr⟩ := h c
    refine ⟨h4.trans ?_, h5.trans ?_, h6.trans ?_, h7.trans ?_, hr⟩
    · rw [Cert.Reference17Ideal.Read.val_main_v50_eq, e0, e1]
      funext i
      idx_vars i
      exact Cert.Reference17Ideal.Read.v50_at _ _ _ _
    · rw [Cert.Reference17Ideal.Read.val_main_v14_eq, e0, e1]
      funext i
      idx_vars i
      exact Cert.Reference17Ideal.Read.v14_at _ _ _ _
    · rw [Cert.Reference17Ideal.Read.val_main_v51_eq, e0, e1, e2, e3]
      funext i
      idx_vars i
      exact Cert.Reference17Ideal.Read.v51_at _ _ _ _ _ _
    · rw [Cert.Reference17Ideal.Read.val_main_v33_eq, e0, e1, e2]
      funext i
      idx_vars i
      exact Cert.Reference17Ideal.Read.v33_at _ _ _ _ _

end Cert.Proof

end
-- ==== Proof.Adam.lean ====
/- One weight's step of the optimiser, over extended reals. -/
module

public import Idealize.ShloMosaic.Lib.IdealHost

@[expose] public section

noncomputable section

open Idealize.ShloMosaic

namespace Cert.Adam

/-- The two moments after the step, for the gradient `g`. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)

/-- What the step adds to the weight. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

end Cert.Adam

end
-- ==== Proof.SmallUpdate.lean ====
/- The small weights' step: the eight devices' packed parts are summed in their order, and the optimiser's step is taken with
   the sum. The kernel does it in two blocks of 1400 rows. -/
module

public import proofs.«01_k».proof.Defs
public import proofs.«01_k».proof.Proof.Adam
public import proofs.«01_k».proof.Proof.Gen.Kernel18Ideal.Value
public import proofs.«01_k».proof.Proof.Gen.Reference18Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel18Ideal.Value

open Cert.Kernel18Ideal Cert.Kernel18Ideal.Gen Cert.Adam

theorem sum_at (p0 p1 p2 p3 p4 p5 p6 p7 : FVec Ideal S1x1400x128 .f32) (r : Fin 1400) (j : Fin 128) :
    k0_pay4 (F := Ideal) p0 p1 p2 p3 p4 p5 p6 p7 (ix2 r j) = p0 (ix3 0 r j) + p1 (ix3 0 r j) + p2 (ix3 0 r j) + p3 (ix3 0 r j)
      + p4 (ix3 0 r j) + p5 (ix3 0 r j) + p6 (ix3 0 r j) + p7 (ix3 0 r j) := by
  pointwise [k0_pay4]

theorem first_at (g m : FVec Ideal S1400x128 .f32) (y : S1400x128.Idx) : k0_pay1 (F := Ideal) g m y = first (g y) (m y) := rfl
theorem second_at (g v : FVec Ideal S1400x128 .f32) (y : S1400x128.Idx) : k0_pay2 (F := Ideal) g v y = second (g y) (v y) := rfl
theorem delta_at (g w m v : FVec Ideal S1400x128 .f32) (y : S1400x128.Idx) :
    k0_pay3 (F := Ideal) g w m v y = delta (w y) (g y) (m y) (v y) := rfl

variable (m : (ℓ : Loc nD τ sig) → Buf (Elt Ideal) ℓ) (c : Dev nD)

/-- The arguments as launched: the devices' parts, the weights, and the two moments. -/
def P : FVec Ideal S8x2800x128 .f32 := m ((c.tc : Thread nD τ).loc main_arg0)
def W : FVec Ideal S2800x128 .f32 := m ((c.tc : Thread nD τ).loc main_arg1)
def M : FVec Ideal S2800x128 .f32 := m ((c.tc : Thread nD τ).loc main_arg2)
def N : FVec Ideal S2800x128 .f32 := m ((c.tc : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that is row `r` of a point's block. -/
def row (t : Fin cfg0.N) (r : Fin 1400) : Fin 2800 := ⟨t.val * 1400 + r.val, by have := t.isLt; have h : cfg0.N = 2 := N_0; omega⟩

/-- The sum of the eight parts, as a function of the arguments. -/
def total (i : S2800x128.Idx) : EReal := ∑ k : Fin 8, P m c (ix3 k (i 0) (i 1))
def moved (i : S2800x128.Idx) : EReal := delta (W m c i) (total m c i) (M m c i) (N m c i)
def newM (i : S2800x128.Idx) : EReal := first (total m c i) (M m c i)
def newV (i : S2800x128.Idx) : EReal := second (total m c i) (N m c i)

theorem blocks (t : Fin cfg0.N) (r : Fin 1400) (j : Fin 128) :
    (iblk m c 1 t : FVec Ideal S1400x128 .f32) (ix2 r j) = W m c (ix2 (row t r) j)
    ∧ (iblk m c 2 t : FVec Ideal S1400x128 .f32) (ix2 r j) = M m c (ix2 (row t r) j)
    ∧ (iblk m c 3 t : FVec Ideal S1400x128 .f32) (ix2 r j) = N m c (ix2 (row t r) j) := by
  unfold W M N row
  refine ⟨?_, ?_, ?_⟩ <;> blk_ext [iblk, V, idx t]

theorem part (t : Fin cfg0.N) (k : Fin 8) (r : Fin 1400) (j : Fin 128) :
    (iblk m c 0 t : FVec Ideal S8x1400x128 .f32) (ix3 k r j) = P m c (ix3 k (row t r) j) := by
  unfold P row
  blk_ext [iblk, V, idx t]

theorem summed (t : Fin cfg0.N) (r : Fin 1400) (j : Fin 128) :
    k0_pay5 (F := Ideal) (iblk m c 0 t) (iblk m c 1 t) (iblk m c 2 t) (iblk m c 3 t) (ix2 r j)
    = total m c (ix2 (row t r) j) := by
  unfold k0_pay5 total
  rw [sum_at, Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Eq.trans ?_ (part m c t _ r j) <;> refine congrArg (iblk m c 0 t : FVec Ideal S8x1400x128 .f32) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem places (t : Fin cfg0.N) (r : Fin 1400) (j : Fin 128) :
    ((win0_4.blk t).view.emb (ix2 r j : S1400x128.Idx) : S2800x128.Idx) = ix2 (row t r) j
    ∧ ((win0_5.blk t).view.emb (ix2 r j : S1400x128.Idx) : S2800x128.Idx) = ix2 (row t r) j
    ∧ ((win0_6.blk t).view.emb (ix2 r j : S1400x128.Idx) : S2800x128.Idx) = ix2 (row t r) j
    ∧ ((win0_7.blk t).view.emb (ix2 r j : S1400x128.Idx) : S2800x128.Idx) = ix2 (row t r) j := by
  unfold row
  refine ⟨?_, ?_, ?_, ?_⟩ <;> blk_ext [idx t]

theorem arr4 : (dats m 0 c).arrAt 4 cfg0.N = total m c := by
  refine (dats m 0 c).arrAt_eq_of_covers 4 _ (by decide +kernel) fun t _ y => ?_
  blk_simp
  rw [after0_4]
  unfold out0_4
  frame_out
  idx_vars y
  exact (summed m c t y0 y1).trans (congrArg (total m c) (places t y0 y1).1.symm)

theorem arr5 : (dats m 0 c).arrAt 5 cfg0.N = moved m c := by
  refine (dats m 0 c).arrAt_eq_of_covers 5 _ (by decide +kernel) fun t _ y => ?_
  blk_simp
  rw [after0_5]
  unfold out0_5
  frame_out
  idx_vars y
  obtain ⟨h1, h2, h3⟩ := blocks m c t y0 y1
  rw [delta_at, summed, h1, h2, h3]
  exact congrArg (moved m c) (places t y0 y1).2.1.symm

theorem arr6 : (dats m 0 c).arrAt 6 cfg0.N = newM m c := by
  refine (dats m 0 c).arrAt_eq_of_covers 6 _ (by decide +kernel) fun t _ y => ?_
  blk_simp
  rw [after0_6]
  unfold out0_6
  frame_out
  idx_vars y
  obtain ⟨-, h2, -⟩ := blocks m c t y0 y1
  rw [first_at, summed, h2]
  exact congrArg (newM m c) (places t y0 y1).2.2.1.symm

theorem arr7 : (dats m 0 c).arrAt 7 cfg0.N = newV m c := by
  refine (dats m 0 c).arrAt_eq_of_covers 7 _ (by decide +kernel) fun t _ y => ?_
  blk_simp
  rw [after0_7]
  unfold out0_7
  frame_out
  idx_vars y
  obtain ⟨-, -, h3⟩ := blocks m c t y0 y1
  rw [second_at, summed, h3]
  exact congrArg (newV m c) (places t y0 y1).2.2.2.symm

end Cert.Kernel18Ideal.Value

namespace Cert.Reference18Ideal.Read

open Cert.Reference18Ideal Cert.Reference18Ideal.Gen Cert.Adam

variable (P : (⟨S8x2800x128, .f32⟩ : BufTy).Contents (Elt Ideal)) (W M N : (⟨S2800x128, .f32⟩ : BufTy).Contents (Elt Ideal))

theorem total_at (i : S2800x128.Idx) : val_main_v0 (F := Ideal) P i = ∑ k : Fin 8, (P : FVec Ideal S8x2800x128 .f32) (ix3 k (i 0) (i 1)) := by
  rw [val_main_v0_apply]
  refine (congrArg (· + _) (show val_main_cst (F := Ideal) (Shape.Idx.first h_S_) = 0 from Ideal.ofBits_zero .f32)).trans ?_
  rw [zero_add]
  refine Finset.sum_congr rfl fun k _ => congrArg P ?_
  idx_vars i
  blk_ext []

theorem moved_at (i : S2800x128.Idx) : val_main_v24 P W M N i = delta (W i) (val_main_v0 P i) (M i) (N i) := rfl
theorem newM_at (i : S2800x128.Idx) : val_main_v5 P M i = first (val_main_v0 P i) (M i) := rfl
theorem newV_at (i : S2800x128.Idx) : val_main_v11 P N i = second (val_main_v0 P i) (N i) := rfl

end Cert.Reference18Ideal.Read

namespace Cert.Proof

theorem values18 : Cert.algebraic_Kernel18Ideal_Reference18Ideal := by
  intro m g m' g' _ hm
  refine ⟨fun c => Cert.Kernel18Ideal.Value.total m c, fun c => Cert.Kernel18Ideal.Value.moved m c, fun c => Cert.Kernel18Ideal.Value.newM m c,
    fun c => Cert.Kernel18Ideal.Value.newV m c, ?_, ?_⟩
  · refine (θ_run _ _ _).mono (fun r h c => ?_) (Cert.Kernel18Ideal.Value.run_blocks m g)
    obtain ⟨h4, h5, h6, h7, hr⟩ := h c
    exact ⟨h4.trans (Cert.Kernel18Ideal.Value.arr4 m c), h5.trans (Cert.Kernel18Ideal.Value.arr5 m c), h6.trans (Cert.Kernel18Ideal.Value.arr6 m c),
      h7.trans (Cert.Kernel18Ideal.Value.arr7 m c), hr⟩
  · refine (θ_run _ _ _).mono (fun r h c => ?_) (Cert.Reference18Ideal.Value.run m' g')
    obtain ⟨e0, e1, e2, e3⟩ := hm c
    obtain ⟨h4, h5, h6, h7, hr⟩ := h c
    refine ⟨h4.trans ?_, h5.trans ?_, h6.trans ?_, h7.trans ?_, hr⟩
    · rw [Cert.Reference18Ideal.Read.val_main_v0_eq, e0]
      exact funext (Cert.Reference18Ideal.Read.total_at _)
    · rw [Cert.Reference18Ideal.Read.val_main_v24_eq, e0, e1, e2, e3]
      exact funext fun i => (Cert.Reference18Ideal.Read.moved_at _ _ _ _ i).trans (congrArg (fun s => Cert.Adam.delta _ s _ _) (Cert.Reference18Ideal.Read.total_at _ i))
    · rw [Cert.Reference18Ideal.Read.val_main_v5_eq, e0, e2]
      exact funext fun i => (Cert.Reference18Ideal.Read.newM_at _ _ i).trans (congrArg (fun s => Cert.Adam.first s _) (Cert.Reference18Ideal.Read.total_at _ i))
    · rw [Cert.Reference18Ideal.Read.val_main_v11_eq, e0, e3]
      exact funext fun i => (Cert.Reference18Ideal.Read.newV_at _ _ i).trans (congrArg (fun s => Cert.Adam.second s _) (Cert.Reference18Ideal.Read.total_at _ i))

end Cert.Proof

end
-- ==== Proof.Adam19.lean ====
/- The optimiser's step for a weight of which a device holds 128 rows per layer: the kernel's blocks put together are the step that the
   reference takes at each element. -/
module

public import proofs.«01_k».proof.Defs
public import proofs.«01_k».proof.Proof.Adam
public import proofs.«01_k».proof.Proof.Gen.Kernel19Ideal.Value
public import proofs.«01_k».proof.Proof.Gen.Reference19Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel19Ideal.Value

open Cert.Kernel19Ideal Cert.Kernel19Ideal.Gen Cert.Adam

theorem delta_at (w g m v : FVec Ideal S1x128x1024 .f32) (r : Fin 128) (j : Fin 1024) : k0_pay1 (F := Ideal) (k0_pay7 w g m v) (ix3 0 r j)
    = delta (w (ix3 0 r j)) (g (ix3 0 r j)) (m (ix3 0 r j)) (v (ix3 0 r j)) := by
  pointwise [k0_pay1, k0_pay7, k0_pay5, k0_pay6, k0_pay4, delta, first, second]

theorem first_at (g m : FVec Ideal S1x128x1024 .f32) (r : Fin 128) (j : Fin 1024) : k0_pay2 (F := Ideal) (k0_pay5 g m) (ix3 0 r j)
    = first (g (ix3 0 r j)) (m (ix3 0 r j)) := by
  pointwise [k0_pay2, k0_pay5, k0_pay4, first]

theorem second_at (g v : FVec Ideal S1x128x1024 .f32) (r : Fin 128) (j : Fin 1024) : k0_pay3 (F := Ideal) (k0_pay6 g v) (ix3 0 r j)
    = second (g (ix3 0 r j)) (v (ix3 0 r j)) := by
  pointwise [k0_pay3, k0_pay6, k0_pay4, second]

variable (m : (ℓ : Loc nD τ sig) → Buf (Elt Ideal) ℓ) (c : Dev nD)

/-- The arguments as launched: weight, gradient, and the two moments. -/
def W : FVec Ideal S4x128x1024 .f32 := m ((c.tc : Thread nD τ).loc main_arg0)
def G : FVec Ideal S4x128x1024 .f32 := m ((c.tc : Thread nD τ).loc main_arg1)
def M : FVec Ideal S4x128x1024 .f32 := m ((c.tc : Thread nD τ).loc main_arg2)
def N : FVec Ideal S4x128x1024 .f32 := m ((c.tc : Thread nD τ).loc main_arg3)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point, and the row of the arrays that is row `r` of the point's block. -/
def layer (t : Fin cfg0.N) : Fin 4 := ⟨t.val, by have := t.isLt; have h : cfg0.N = 4 := N_0; omega⟩
def row (_ : Fin cfg0.N) (r : Fin 128) : Fin 128 := r

/-- The four arguments' blocks of a point, and the places of the results' blocks. -/
theorem blocks (t : Fin cfg0.N) (r : Fin 128) (j : Fin 1024) :
    (iblk m c 0 t : FVec Ideal S1x128x1024 .f32) (ix3 0 r j) = W m c (ix3 (layer t) (row t r) j)
    ∧ (iblk m c 1 t : FVec Ideal S1x128x1024 .f32) (ix3 0 r j) = G m c (ix3 (layer t) (row t r) j)
    ∧ (iblk m c 2 t : FVec Ideal S1x128x1024 .f32) (ix3 0 r j) = M m c (ix3 (layer t) (row t r) j)
    ∧ (iblk m c 3 t : FVec Ideal S1x128x1024 .f32) (ix3 0 r j) = N m c (ix3 (layer t) (row t r) j) := by
  unfold W G M N layer row
  refine ⟨?_, ?_, ?_, ?_⟩ <;> blk_ext [iblk, V, idx t]

theorem places (t : Fin cfg0.N) (r : Fin 128) (j : Fin 1024) :
    ((win0_4.blk t).view.emb (ix3 0 r j : S1x128x1024.Idx) : S4x128x1024.Idx) = ix3 (layer t) (row t r) j
    ∧ ((win0_5.blk t).view.emb (ix3 0 r j : S1x128x1024.Idx) : S4x128x1024.Idx) = ix3 (layer t) (row t r) j
    ∧ ((win0_6.blk t).view.emb (ix3 0 r j : S1x128x1024.Idx) : S4x128x1024.Idx) = ix3 (layer t) (row t r) j := by
  unfold layer row
  refine ⟨?_, ?_, ?_⟩ <;> blk_ext [idx t]

/-- The results as functions of the arguments. -/
def moved (i : S4x128x1024.Idx) : EReal := delta (W m c i) (G m c i) (M m c i) (N m c i)
def newM (i : S4x128x1024.Idx) : EReal := first (G m c i) (M m c i)
def newV (i : S4x128x1024.Idx) : EReal := second (G m c i) (N m c i)

theorem arr4 : (dats m 0 c).arrAt 4 cfg0.N = moved m c := by
  refine (dats m 0 c).arrAt_eq_of_covers 4 _ (by decide +kernel) fun t _ y => ?_
  blk_simp
  rw [after0_4]
  unfold out0_4
  frame_out
  idx_vars y
  obtain rfl : y0 = 0 := Subsingleton.elim _ _
  obtain ⟨h0, h1, h2, h3⟩ := blocks m c t y1 y2
  rw [delta_at, h0, h1, h2, h3]
  exact congrArg (moved m c) (places t y1 y2).1.symm

theorem arr5 : (dats m 0 c).arrAt 5 cfg0.N = newM m c := by
  refine (dats m 0 c).arrAt_eq_of_covers 5 _ (by decide +kernel) fun t _ y => ?_
  blk_simp
  rw [after0_5]
  unfold out0_5
  frame_out
  idx_vars y
  obtain rfl : y0 = 0 := Subsingleton.elim _ _
  obtain ⟨-, h1, h2, -⟩ := blocks m c t y1 y2
  rw [first_at, h1, h2]
  exact congrArg (newM m c) (places t y1 y2).2.1.symm

theorem arr6 : (dats m 0 c).arrAt 6 cfg0.N = newV m c := by
  refine (dats m 0 c).arrAt_eq_of_covers 6 _ (by decide +kernel) fun t _ y => ?_
  blk_simp
  rw [after0_6]
  unfold out0_6
  frame_out
  idx_vars y
  obtain rfl : y0 = 0 := Subsingleton.elim _ _
  obtain ⟨-, h1, -, h3⟩ := blocks m c t y1 y2
  rw [second_at, h1, h3]
  exact congrArg (newV m c) (places t y1 y2).2.2.symm

end Cert.Kernel19Ideal.Value

namespace Cert.Reference19Ideal.Read

open Cert.Reference19Ideal Cert.Reference19Ideal.Gen Cert.Adam

variable (W G M N : (⟨S4x128x1024, .f32⟩ : BufTy).Contents (Elt Ideal))

theorem moved_at (i : S4x128x1024.Idx) : val_main_v23 W G M N i = delta (W i) (G i) (M i) (N i) := rfl
theorem newM_at (i : S4x128x1024.Idx) : val_main_v4 G M i = first (G i) (M i) := rfl
theorem newV_at (i : S4x128x1024.Idx) : val_main_v10 G N i = second (G i) (N i) := rfl

end Cert.Reference19Ideal.Read

namespace Cert.Proof

theorem values19 : Cert.algebraic_Kernel19Ideal_Reference19Ideal := by
  intro m g m' g' _ hm
  refine ⟨fun c => Cert.Kernel19Ideal.Value.moved m c, fun c => Cert.Kernel19Ideal.Value.newM m c, fun c => Cert.Kernel19Ideal.Value.newV m c, ?_, ?_⟩
  · refine (θ_run _ _ _).mono (fun r h c => ?_) (Cert.Kernel19Ideal.Value.run_blocks m g)
    obtain ⟨h4, h5, h6, hr⟩ := h c
    exact ⟨h4.trans (Cert.Kernel19Ideal.Value.arr4 m c), h5.trans (Cert.Kernel19Ideal.Value.arr5 m c), h6.trans (Cert.Kernel19Ideal.Value.arr6 m c), hr⟩
  · refine (θ_run _ _ _).mono (fun r h c => ?_) (Cert.Reference19Ideal.Value.run m' g')
    obtain ⟨e0, e1, e2, e3⟩ := hm c
    obtain ⟨h4, h5, h6, hr⟩ := h c
    refine ⟨h4.trans ?_, h5.trans ?_, h6.trans ?_, hr⟩
    · rw [Cert.Reference19Ideal.Read.val_main_v23_eq, e0, e1, e2, e3]
      exact funext (Cert.Reference19Ideal.Read.moved_at _ _ _ _)
    · rw [Cert.Reference19Ideal.Read.val_main_v4_eq, e1, e2]
      exact funext (Cert.Reference19Ideal.Read.newM_at _ _)
    · rw [Cert.Reference19Ideal.Read.val_main_v10_eq, e1, e3]
      exact funext (Cert.Reference19Ideal.Read.newV_at _ _)

end Cert.Proof

end
-- ==== Proof.Adam20.lean ====
/- The optimiser's step for a weight of which a device holds 192 rows per layer: the kernel's blocks put together are the step that the
   reference takes at each element. -/
module

public import proofs.«01_k».proof.Defs
public import proofs.«01_k».proof.Proof.Adam
public import proofs.«01_k».proof.Proof.Gen.Kernel20Ideal.Value
public import proofs.«01_k».proof.Proof.Gen.Reference20Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel20Ideal.Value

open Cert.Kernel20Ideal Cert.Kernel20Ideal.Gen Cert.Adam

theorem delta_at (w g m v : FVec Ideal S1x192x1024 .f32) (r : Fin 192) (j : Fin 1024) : k0_pay1 (F := Ideal) (k0_pay7 w g m v) (ix3 0 r j)
    = delta (w (ix3 0 r j)) (g (ix3 0 r j)) (m (ix3 0 r j)) (v (ix3 0 r j)) := by
  pointwise [k0_pay1, k0_pay7, k0_pay5, k0_pay6, k0_pay4, delta, first, second]

theorem first_at (g m : FVec Ideal S1x192x1024 .f32) (r : Fin 192) (j : Fin 1024) : k0_pay2 (F := Ideal) (k0_pay5 g m) (ix3 0 r j)
    = first (g (ix3 0 r j)) (m (ix3 0 r j)) := by
  pointwise [k0_pay2, k0_pay5, k0_pay4, first]

theorem second_at (g v : FVec Ideal S1x192x1024 .f32) (r : Fin 192) (j : Fin 1024) : k0_pay3 (F := Ideal) (k0_pay6 g v) (ix3 0 r j)
    = second (g (ix3 0 r j)) (v (ix3 0 r j)) := by
  pointwise [k0_pay3, k0_pay6, k0_pay4, second]

variable (m : (ℓ : Loc nD τ sig) → Buf (Elt Ideal) ℓ) (c : Dev nD)

/-- The arguments as launched: weight, gradient, and the two moments. -/
def W : FVec Ideal S4x192x1024 .f32 := m ((c.tc : Thread nD τ).loc main_arg0)
def G : FVec Ideal S4x192x1024 .f32 := m ((c.tc : Thread nD τ).loc main_arg1)
def M : FVec Ideal S4x192x1024 .f32 := m ((c.tc : Thread nD τ).loc main_arg2)
def N : FVec Ideal S4x192x1024 .f32 := m ((c.tc : Thread nD τ).loc main_arg3)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point, and the row of the arrays that is row `r` of the point's block. -/
def layer (t : Fin cfg0.N) : Fin 4 := ⟨t.val, by have := t.isLt; have h : cfg0.N = 4 := N_0; omega⟩
def row (_ : Fin cfg0.N) (r : Fin 192) : Fin 192 := r

/-- The four arguments' blocks of a point, and the places of the results' blocks. -/
theorem blocks (t : Fin cfg0.N) (r : Fin 192) (j : Fin 1024) :
    (iblk m c 0 t : FVec Ideal S1x192x1024 .f32) (ix3 0 r j) = W m c (ix3 (layer t) (row t r) j)
    ∧ (iblk m c 1 t : FVec Ideal S1x192x1024 .f32) (ix3 0 r j) = G m c (ix3 (layer t) (row t r) j)
    ∧ (iblk m c 2 t : FVec Ideal S1x192x1024 .f32) (ix3 0 r j) = M m c (ix3 (layer t) (row t r) j)
    ∧ (iblk m c 3 t : FVec Ideal S1x192x1024 .f32) (ix3 0 r j) = N m c (ix3 (layer t) (row t r) j) := by
  unfold W G M N layer row
  refine ⟨?_, ?_, ?_, ?_⟩ <;> blk_ext [iblk, V, idx t]

theorem places (t : Fin cfg0.N) (r : Fin 192) (j : Fin 1024) :
    ((win0_4.blk t).view.emb (ix3 0 r j : S1x192x1024.Idx) : S4x192x1024.Idx) = ix3 (layer t) (row t r) j
    ∧ ((win0_5.blk t).view.emb (ix3 0 r j : S1x192x1024.Idx) : S4x192x1024.Idx) = ix3 (layer t) (row t r) j
    ∧ ((win0_6.blk t).view.emb (ix3 0 r j : S1x192x1024.Idx) : S4x192x1024.Idx) = ix3 (layer t) (row t r) j := by
  unfold layer row
  refine ⟨?_, ?_, ?_⟩ <;> blk_ext [idx t]

/-- The results as functions of the arguments. -/
def moved (i : S4x192x1024.Idx) : EReal := delta (W m c i) (G m c i) (M m c i) (N m c i)
def newM (i : S4x192x1024.Idx) : EReal := first (G m c i) (M m c i)
def newV (i : S4x192x1024.Idx) : EReal := second (G m c i) (N m c i)

theorem arr4 : (dats m 0 c).arrAt 4 cfg0.N = moved m c := by
  refine (dats m 0 c).arrAt_eq_of_covers 4 _ (by decide +kernel) fun t _ y => ?_
  blk_simp
  rw [after0_4]
  unfold out0_4
  frame_out
  idx_vars y
  obtain rfl : y0 = 0 := Subsingleton.elim _ _
  obtain ⟨h0, h1, h2, h3⟩ := blocks m c t y1 y2
  rw [delta_at, h0, h1, h2, h3]
  exact congrArg (moved m c) (places t y1 y2).1.symm

theorem arr5 : (dats m 0 c).arrAt 5 cfg0.N = newM m c := by
  refine (dats m 0 c).arrAt_eq_of_covers 5 _ (by decide +kernel) fun t _ y => ?_
  blk_simp
  rw [after0_5]
  unfold out0_5
  frame_out
  idx_vars y
  obtain rfl : y0 = 0 := Subsingleton.elim _ _
  obtain ⟨-, h1, h2, -⟩ := blocks m c t y1 y2
  rw [first_at, h1, h2]
  exact congrArg (newM m c) (places t y1 y2).2.1.symm

theorem arr6 : (dats m 0 c).arrAt 6 cfg0.N = newV m c := by
  refine (dats m 0 c).arrAt_eq_of_covers 6 _ (by decide +kernel) fun t _ y => ?_
  blk_simp
  rw [after0_6]
  unfold out0_6
  frame_out
  idx_vars y
  obtain rfl : y0 = 0 := Subsingleton.elim _ _
  obtain ⟨-, h1, -, h3⟩ := blocks m c t y1 y2
  rw [second_at, h1, h3]
  exact congrArg (newV m c) (places t y1 y2).2.2.symm

end Cert.Kernel20Ideal.Value

namespace Cert.Reference20Ideal.Read

open Cert.Reference20Ideal Cert.Reference20Ideal.Gen Cert.Adam

variable (W G M N : (⟨S4x192x1024, .f32⟩ : BufTy).Contents (Elt Ideal))

theorem moved_at (i : S4x192x1024.Idx) : val_main_v23 W G M N i = delta (W i) (G i) (M i) (N i) := rfl
theorem newM_at (i : S4x192x1024.Idx) : val_main_v4 G M i = first (G i) (M i) := rfl
theorem newV_at (i : S4x192x1024.Idx) : val_main_v10 G N i = second (G i) (N i) := rfl

end Cert.Reference20Ideal.Read

namespace Cert.Proof

theorem values20 : Cert.algebraic_Kernel20Ideal_Reference20Ideal := by
  intro m g m' g' _ hm
  refine ⟨fun c => Cert.Kernel20Ideal.Value.moved m c, fun c => Cert.Kernel20Ideal.Value.newM m c, fun c => Cert.Kernel20Ideal.Value.newV m c, ?_, ?_⟩
  · refine (θ_run _ _ _).mono (fun r h c => ?_) (Cert.Kernel20Ideal.Value.run_blocks m g)
    obtain ⟨h4, h5, h6, hr⟩ := h c
    exact ⟨h4.trans (Cert.Kernel20Ideal.Value.arr4 m c), h5.trans (Cert.Kernel20Ideal.Value.arr5 m c), h6.trans (Cert.Kernel20Ideal.Value.arr6 m c), hr⟩
  · refine (θ_run _ _ _).mono (fun r h c => ?_) (Cert.Reference20Ideal.Value.run m' g')
    obtain ⟨e0, e1, e2, e3⟩ := hm c
    obtain ⟨h4, h5, h6, hr⟩ := h c
    refine ⟨h4.trans ?_, h5.trans ?_, h6.trans ?_, hr⟩
    · rw [Cert.Reference20Ideal.Read.val_main_v23_eq, e0, e1, e2, e3]
      exact funext (Cert.Reference20Ideal.Read.moved_at _ _ _ _)
    · rw [Cert.Reference20Ideal.Read.val_main_v4_eq, e1, e2]
      exact funext (Cert.Reference20Ideal.Read.newM_at _ _)
    · rw [Cert.Reference20Ideal.Read.val_main_v10_eq, e1, e3]
      exact funext (Cert.Reference20Ideal.Read.newV_at _ _)

end Cert.Proof

end
-- ==== Proof.Adam21.lean ====
/- The optimiser's step for a weight of which a device holds 256 rows per layer: the kernel's blocks put together are the step that the
   reference takes at each element. -/
module

public import proofs.«01_k».proof.Defs
public import proofs.«01_k».proof.Proof.Adam
public import proofs.«01_k».proof.Proof.Gen.Kernel21Ideal.Value
public import proofs.«01_k».proof.Proof.Gen.Reference21Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel21Ideal.Value

open Cert.Kernel21Ideal Cert.Kernel21Ideal.Gen Cert.Adam

theorem delta_at (w g m v : FVec Ideal S1x256x1024 .f32) (r : Fin 256) (j : Fin 1024) : k0_pay1 (F := Ideal) (k0_pay7 w g m v) (ix3 0 r j)
    = delta (w (ix3 0 r j)) (g (ix3 0 r j)) (m (ix3 0 r j)) (v (ix3 0 r j)) := by
  pointwise [k0_pay1, k0_pay7, k0_pay5, k0_pay6, k0_pay4, delta, first, second]

theorem first_at (g m : FVec Ideal S1x256x1024 .f32) (r : Fin 256) (j : Fin 1024) : k0_pay2 (F := Ideal) (k0_pay5 g m) (ix3 0 r j)
    = first (g (ix3 0 r j)) (m (ix3 0 r j)) := by
  pointwise [k0_pay2, k0_pay5, k0_pay4, first]

theorem second_at (g v : FVec Ideal S1x256x1024 .f32) (r : Fin 256) (j : Fin 1024) : k0_pay3 (F := Ideal) (k0_pay6 g v) (ix3 0 r j)
    = second (g (ix3 0 r j)) (v (ix3 0 r j)) := by
  pointwise [k0_pay3, k0_pay6, k0_pay4, second]

variable (m : (ℓ : Loc nD τ sig) → Buf (Elt Ideal) ℓ) (c : Dev nD)

/-- The arguments as launched: weight, gradient, and the two moments. -/
def W : FVec Ideal S4x256x1024 .f32 := m ((c.tc : Thread nD τ).loc main_arg0)
def G : FVec Ideal S4x256x1024 .f32 := m ((c.tc : Thread nD τ).loc main_arg1)
def M : FVec Ideal S4x256x1024 .f32 := m ((c.tc : Thread nD τ).loc main_arg2)
def N : FVec Ideal S4x256x1024 .f32 := m ((c.tc : Thread nD τ).loc main_arg3)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point, and the row of the arrays that is row `r` of the point's block. -/
def layer (t : Fin cfg0.N) : Fin 4 := ⟨t.val, by have := t.isLt; have h : cfg0.N = 4 := N_0; omega⟩
def row (_ : Fin cfg0.N) (r : Fin 256) : Fin 256 := r

/-- The four arguments' blocks of a point, and the places of the results' blocks. -/
theorem blocks (t : Fin cfg0.N) (r : Fin 256) (j : Fin 1024) :
    (iblk m c 0 t : FVec Ideal S1x256x1024 .f32) (ix3 0 r j) = W m c (ix3 (layer t) (row t r) j)
    ∧ (iblk m c 1 t : FVec Ideal S1x256x1024 .f32) (ix3 0 r j) = G m c (ix3 (layer t) (row t r) j)
    ∧ (iblk m c 2 t : FVec Ideal S1x256x1024 .f32) (ix3 0 r j) = M m c (ix3 (layer t) (row t r) j)
    ∧ (iblk m c 3 t : FVec Ideal S1x256x1024 .f32) (ix3 0 r j) = N m c (ix3 (layer t) (row t r) j) := by
  unfold W G M N layer row
  refine ⟨?_, ?_, ?_, ?_⟩ <;> blk_ext [iblk, V, idx t]

theorem places (t : Fin cfg0.N) (r : Fin 256) (j : Fin 1024) :
    ((win0_4.blk t).view.emb (ix3 0 r j : S1x256x1024.Idx) : S4x256x1024.Idx) = ix3 (layer t) (row t r) j
    ∧ ((win0_5.blk t).view.emb (ix3 0 r j : S1x256x1024.Idx) : S4x256x1024.Idx) = ix3 (layer t) (row t r) j
    ∧ ((win0_6.blk t).view.emb (ix3 0 r j : S1x256x1024.Idx) : S4x256x1024.Idx) = ix3 (layer t) (row t r) j := by
  unfold layer row
  refine ⟨?_, ?_, ?_⟩ <;> blk_ext [idx t]

/-- The results as functions of the arguments. -/
def moved (i : S4x256x1024.Idx) : EReal := delta (W m c i) (G m c i) (M m c i) (N m c i)
def newM (i : S4x256x1024.Idx) : EReal := first (G m c i) (M m c i)
def newV (i : S4x256x1024.Idx) : EReal := second (G m c i) (N m c i)

theorem arr4 : (dats m 0 c).arrAt 4 cfg0.N = moved m c := by
  refine (dats m 0 c).arrAt_eq_of_covers 4 _ (by decide +kernel) fun t _ y => ?_
  blk_simp
  rw [after0_4]
  unfold out0_4
  frame_out
  idx_vars y
  obtain rfl : y0 = 0 := Subsingleton.elim _ _
  obtain ⟨h0, h1, h2, h3⟩ := blocks m c t y1 y2
  rw [delta_at, h0, h1, h2, h3]
  exact congrArg (moved m c) (places t y1 y2).1.symm

theorem arr5 : (dats m 0 c).arrAt 5 cfg0.N = newM m c := by
  refine (dats m 0 c).arrAt_eq_of_covers 5 _ (by decide +kernel) fun t _ y => ?_
  blk_simp
  rw [after0_5]
  unfold out0_5
  frame_out
  idx_vars y
  obtain rfl : y0 = 0 := Subsingleton.elim _ _
  obtain ⟨-, h1, h2, -⟩ := blocks m c t y1 y2
  rw [first_at, h1, h2]
  exact congrArg (newM m c) (places t y1 y2).2.1.symm

theorem arr6 : (dats m 0 c).arrAt 6 cfg0.N = newV m c := by
  refine (dats m 0 c).arrAt_eq_of_covers 6 _ (by decide +kernel) fun t _ y => ?_
  blk_simp
  rw [after0_6]
  unfold out0_6
  frame_out
  idx_vars y
  obtain rfl : y0 = 0 := Subsingleton.elim _ _
  obtain ⟨-, h1, -, h3⟩ := blocks m c t y1 y2
  rw [second_at, h1, h3]
  exact congrArg (newV m c) (places t y1 y2).2.2.symm

end Cert.Kernel21Ideal.Value

namespace Cert.Reference21Ideal.Read

open Cert.Reference21Ideal Cert.Reference21Ideal.Gen Cert.Adam

variable (W G M N : (⟨S4x256x1024, .f32⟩ : BufTy).Contents (Elt Ideal))

theorem moved_at (i : S4x256x1024.Idx) : val_main_v23 W G M N i = delta (W i) (G i) (M i) (N i) := rfl
theorem newM_at (i : S4x256x1024.Idx) : val_main_v4 G M i = first (G i) (M i) := rfl
theorem newV_at (i : S4x256x1024.Idx) : val_main_v10 G N i = second (G i) (N i) := rfl

end Cert.Reference21Ideal.Read

namespace Cert.Proof

theorem values21 : Cert.algebraic_Kernel21Ideal_Reference21Ideal := by
  intro m g m' g' _ hm
  refine ⟨fun c => Cert.Kernel21Ideal.Value.moved m c, fun c => Cert.Kernel21Ideal.Value.newM m c, fun c => Cert.Kernel21Ideal.Value.newV m c, ?_, ?_⟩
  · refine (θ_run _ _ _).mono (fun r h c => ?_) (Cert.Kernel21Ideal.Value.run_blocks m g)
    obtain ⟨h4, h5, h6, hr⟩ := h c
    exact ⟨h4.trans (Cert.Kernel21Ideal.Value.arr4 m c), h5.trans (Cert.Kernel21Ideal.Value.arr5 m c), h6.trans (Cert.Kernel21Ideal.Value.arr6 m c), hr⟩
  · refine (θ_run _ _ _).mono (fun r h c => ?_) (Cert.Reference21Ideal.Value.run m' g')
    obtain ⟨e0, e1, e2, e3⟩ := hm c
    obtain ⟨h4, h5, h6, hr⟩ := h c
    refine ⟨h4.trans ?_, h5.trans ?_, h6.trans ?_, hr⟩
    · rw [Cert.Reference21Ideal.Read.val_main_v23_eq, e0, e1, e2, e3]
      exact funext (Cert.Reference21Ideal.Read.moved_at _ _ _ _)
    · rw [Cert.Reference21Ideal.Read.val_main_v4_eq, e1, e2]
      exact funext (Cert.Reference21Ideal.Read.newM_at _ _)
    · rw [Cert.Reference21Ideal.Read.val_main_v10_eq, e1, e3]
      exact funext (Cert.Reference21Ideal.Read.newV_at _ _)

end Cert.Proof

end
-- ==== Proof.Adam22.lean ====
/- The optimiser's step for a weight of which a device holds 352 rows per layer: the kernel's blocks put together are the step that the
   reference takes at each element. -/
module

public import proofs.«01_k».proof.Defs
public import proofs.«01_k».proof.Proof.Adam
public import proofs.«01_k».proof.Proof.Gen.Kernel22Ideal.Value
public import proofs.«01_k».proof.Proof.Gen.Reference22Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel22Ideal.Value

open Cert.Kernel22Ideal Cert.Kernel22Ideal.Gen Cert.Adam

theorem delta_at (w g m v : FVec Ideal S1x352x1024 .f32) (r : Fin 352) (j : Fin 1024) : k0_pay1 (F := Ideal) (k0_pay7 w g m v) (ix3 0 r j)
    = delta (w (ix3 0 r j)) (g (ix3 0 r j)) (m (ix3 0 r j)) (v (ix3 0 r j)) := by
  pointwise [k0_pay1, k0_pay7, k0_pay5, k0_pay6, k0_pay4, delta, first, second]

theorem first_at (g m : FVec Ideal S1x352x1024 .f32) (r : Fin 352) (j : Fin 1024) : k0_pay2 (F := Ideal) (k0_pay5 g m) (ix3 0 r j)
    = first (g (ix3 0 r j)) (m (ix3 0 r j)) := by
  pointwise [k0_pay2, k0_pay5, k0_pay4, first]

theorem second_at (g v : FVec Ideal S1x352x1024 .f32) (r : Fin 352) (j : Fin 1024) : k0_pay3 (F := Ideal) (k0_pay6 g v) (ix3 0 r j)
    = second (g (ix3 0 r j)) (v (ix3 0 r j)) := by
  pointwise [k0_pay3, k0_pay6, k0_pay4, second]

variable (m : (ℓ : Loc nD τ sig) → Buf (Elt Ideal) ℓ) (c : Dev nD)

/-- The arguments as launched: weight, gradient, and the two moments. -/
def W : FVec Ideal S4x352x1024 .f32 := m ((c.tc : Thread nD τ).loc main_arg0)
def G : FVec Ideal S4x352x1024 .f32 := m ((c.tc : Thread nD τ).loc main_arg1)
def M : FVec Ideal S4x352x1024 .f32 := m ((c.tc : Thread nD τ).loc main_arg2)
def N : FVec Ideal S4x352x1024 .f32 := m ((c.tc : Thread nD τ).loc main_arg3)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The layer of a point, and the row of the arrays that is row `r` of the point's block. -/
def layer (t : Fin cfg0.N) : Fin 4 := ⟨t.val, by have := t.isLt; have h : cfg0.N = 4 := N_0; omega⟩
def row (_ : Fin cfg0.N) (r : Fin 352) : Fin 352 := r

/-- The four arguments' blocks of a point, and the places of the results' blocks. -/
theorem blocks (t : Fin cfg0.N) (r : Fin 352) (j : Fin 1024) :
    (iblk m c 0 t : FVec Ideal S1x352x1024 .f32) (ix3 0 r j) = W m c (ix3 (layer t) (row t r) j)
    ∧ (iblk m c 1 t : FVec Ideal S1x352x1024 .f32) (ix3 0 r j) = G m c (ix3 (layer t) (row t r) j)
    ∧ (iblk m c 2 t : FVec Ideal S1x352x1024 .f32) (ix3 0 r j) = M m c (ix3 (layer t) (row t r) j)
    ∧ (iblk m c 3 t : FVec Ideal S1x352x1024 .f32) (ix3 0 r j) = N m c (ix3 (layer t) (row t r) j) := by
  unfold W G M N layer row
  refine ⟨?_, ?_, ?_, ?_⟩ <;> blk_ext [iblk, V, idx t]

theorem places (t : Fin cfg0.N) (r : Fin 352) (j : Fin 1024) :
    ((win0_4.blk t).view.emb (ix3 0 r j : S1x352x1024.Idx) : S4x352x1024.Idx) = ix3 (layer t) (row t r) j
    ∧ ((win0_5.blk t).view.emb (ix3 0 r j : S1x352x1024.Idx) : S4x352x1024.Idx) = ix3 (layer t) (row t r) j
    ∧ ((win0_6.blk t).view.emb (ix3 0 r j : S1x352x1024.Idx) : S4x352x1024.Idx) = ix3 (layer t) (row t r) j := by
  unfold layer row
  refine ⟨?_, ?_, ?_⟩ <;> blk_ext [idx t]

/-- The results as functions of the arguments. -/
def moved (i : S4x352x1024.Idx) : EReal := delta (W m c i) (G m c i) (M m c i) (N m c i)
def newM (i : S4x352x1024.Idx) : EReal := first (G m c i) (M m c i)
def newV (i : S4x352x1024.Idx) : EReal := second (G m c i) (N m c i)

theorem arr4 : (dats m 0 c).arrAt 4 cfg0.N = moved m c := by
  refine (dats m 0 c).arrAt_eq_of_covers 4 _ (by decide +kernel) fun t _ y => ?_
  blk_simp
  rw [after0_4]
  unfold out0_4
  frame_out
  idx_vars y
  obtain rfl : y0 = 0 := Subsingleton.elim _ _
  obtain ⟨h0, h1, h2, h3⟩ := blocks m c t y1 y2
  rw [delta_at, h0, h1, h2, h3]
  exact congrArg (moved m c) (places t y1 y2).1.symm

theorem arr5 : (dats m 0 c).arrAt 5 cfg0.N = newM m c := by
  refine (dats m 0 c).arrAt_eq_of_covers 5 _ (by decide +kernel) fun t _ y => ?_
  blk_simp
  rw [after0_5]
  unfold out0_5
  frame_out
  idx_vars y
  obtain rfl : y0 = 0 := Subsingleton.elim _ _
  obtain ⟨-, h1, h2, -⟩ := blocks m c t y1 y2
  rw [first_at, h1, h2]
  exact congrArg (newM m c) (places t y1 y2).2.1.symm

theorem arr6 : (dats m 0 c).arrAt 6 cfg0.N = newV m c := by
  refine (dats m 0 c).arrAt_eq_of_covers 6 _ (by decide +kernel) fun t _ y => ?_
  blk_simp
  rw [after0_6]
  unfold out0_6
  frame_out
  idx_vars y
  obtain rfl : y0 = 0 := Subsingleton.elim _ _
  obtain ⟨-, h1, -, h3⟩ := blocks m c t y1 y2
  rw [second_at, h1, h3]
  exact congrArg (newV m c) (places t y1 y2).2.2.symm

end Cert.Kernel22Ideal.Value

namespace Cert.Reference22Ideal.Read

open Cert.Reference22Ideal Cert.Reference22Ideal.Gen Cert.Adam

variable (W G M N : (⟨S4x352x1024, .f32⟩ : BufTy).Contents (Elt Ideal))

theorem moved_at (i : S4x352x1024.Idx) : val_main_v23 W G M N i = delta (W i) (G i) (M i) (N i) := rfl
theorem newM_at (i : S4x352x1024.Idx) : val_main_v4 G M i = first (G i) (M i) := rfl
theorem newV_at (i : S4x352x1024.Idx) : val_main_v10 G N i = second (G i) (N i) := rfl

end Cert.Reference22Ideal.Read

namespace Cert.Proof

theorem values22 : Cert.algebraic_Kernel22Ideal_Reference22Ideal := by
  intro m g m' g' _ hm
  refine ⟨fun c => Cert.Kernel22Ideal.Value.moved m c, fun c => Cert.Kernel22Ideal.Value.newM m c, fun c => Cert.Kernel22Ideal.Value.newV m c, ?_, ?_⟩
  · refine (θ_run _ _ _).mono (fun r h c => ?_) (Cert.Kernel22Ideal.Value.run_blocks m g)
    obtain ⟨h4, h5, h6, hr⟩ := h c
    exact ⟨h4.trans (Cert.Kernel22Ideal.Value.arr4 m c), h5.trans (Cert.Kernel22Ideal.Value.arr5 m c), h6.trans (Cert.Kernel22Ideal.Value.arr6 m c), hr⟩
  · refine (θ_run _ _ _).mono (fun r h c => ?_) (Cert.Reference22Ideal.Value.run m' g')
    obtain ⟨e0, e1, e2, e3⟩ := hm c
    obtain ⟨h4, h5, h6, hr⟩ := h c
    refine ⟨h4.trans ?_, h5.trans ?_, h6.trans ?_, hr⟩
    · rw [Cert.Reference22Ideal.Read.val_main_v23_eq, e0, e1, e2, e3]
      exact funext (Cert.Reference22Ideal.Read.moved_at _ _ _ _)
    · rw [Cert.Reference22Ideal.Read.val_main_v4_eq, e1, e2]
      exact funext (Cert.Reference22Ideal.Read.newM_at _ _)
    · rw [Cert.Reference22Ideal.Read.val_main_v10_eq, e1, e3]
      exact funext (Cert.Reference22Ideal.Read.newV_at _ _)

end Cert.Proof

end
-- ==== Proof.Adam23.lean ====
/- The optimiser's step for a weight of which a device holds 704 rows per layer: the kernel's blocks put together are the step that the
   reference takes at each element. -/
module

public import proofs.«01_k».proof.Defs
public import proofs.«01_k».proof.Proof.Adam
public import proofs.«01_k».proof.Proof.Gen.Kernel23Ideal.Value
public import proofs.«01_k».proof.Proof.Gen.Reference23Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel23Ideal.Value

open Cert.Kernel23Ideal Cert.Kernel23Ideal.Gen Cert.Adam

theorem delta_at (w g m v : FVec Ideal S1x352x1024 .f32) (r : Fin 352) (j : Fin 1024) : k0_pay1 (F := Ideal) (k0_pay7 w g m v) (ix3 0 r j)
    = delta (w (ix3 0 r j)) (g (ix3 0 r j)) (m (ix3 0 r j)) (v (ix3 0 r j)) := by
  pointwise [k0_pay1, k0_pay7, k0_pay5, k0_pay6, k0_pay4, delta, first, second]

theorem first_at (g m : FVec Ideal S1x352x1024 .f32) (r : Fin 352) (j : Fin 1024) : k0_pay2 (F := Ideal) (k0_pay5 g m) (ix3 0 r j)
    = first (g (ix3 0 r j)) (m (ix3 0 r j)) := by
  pointwise [k0_pay2, k0_pay5, k0_pay4, first]

theorem second_at (g v : FVec Ideal S1x352x1024 .f32) (r : Fin 352) (j : Fin 1024) : k0_pay3 (F := Ideal) (k0_pay6 g v) (ix3 0 r j)
    = second (g (ix3 0 r j)) (v (ix3 0 r j)) := by
  pointwise [k0_pay3, k0_pay6, k0_pay4, second]

variable (m : (ℓ : Loc nD τ sig) → Buf (Elt Ideal) ℓ) (c : Dev nD)

/-- The arguments as launched: weight, gradient, and the two moments. -/
def W : FVec Ideal S4x704x1024 .f32 := m ((c.tc : Thread nD τ).loc main_arg0)
def G : FVec Ideal S4x704x1024 .f32 := m ((c.tc : Thread nD τ).loc main_arg1)
def M : FVec Ideal S4x704x1024 .f32 := m ((c.tc : Thread nD τ).loc main_arg2)
def N : FVec Ideal S4x704x1024 .f32 := m ((c.tc : Thread nD τ).loc main_arg3)

theorem idx : ∀ t : Fin cfg0.N, win0_0.index t = ![t.val / 2, t.val % 2, 0] ∧ win0_1.index t = ![t.val / 2, t.val % 2, 0] ∧ win0_2.index t = ![t.val / 2, t.val % 2, 0]
    ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The layer of a point, and the row of the arrays that is row `r` of the point's block. -/
def layer (t : Fin cfg0.N) : Fin 4 := ⟨t.val / 2, by have := t.isLt; have h : cfg0.N = 8 := N_0; omega⟩
def row (t : Fin cfg0.N) (r : Fin 352) : Fin 704 := ⟨t.val % 2 * 352 + r.val, by omega⟩

/-- The four arguments' blocks of a point, and the places of the results' blocks. -/
theorem blocks (t : Fin cfg0.N) (r : Fin 352) (j : Fin 1024) :
    (iblk m c 0 t : FVec Ideal S1x352x1024 .f32) (ix3 0 r j) = W m c (ix3 (layer t) (row t r) j)
    ∧ (iblk m c 1 t : FVec Ideal S1x352x1024 .f32) (ix3 0 r j) = G m c (ix3 (layer t) (row t r) j)
    ∧ (iblk m c 2 t : FVec Ideal S1x352x1024 .f32) (ix3 0 r j) = M m c (ix3 (layer t) (row t r) j)
    ∧ (iblk m c 3 t : FVec Ideal S1x352x1024 .f32) (ix3 0 r j) = N m c (ix3 (layer t) (row t r) j) := by
  unfold W G M N layer row
  refine ⟨?_, ?_, ?_, ?_⟩ <;> blk_ext [iblk, V, idx t]

theorem places (t : Fin cfg0.N) (r : Fin 352) (j : Fin 1024) :
    ((win0_4.blk t).view.emb (ix3 0 r j : S1x352x1024.Idx) : S4x704x1024.Idx) = ix3 (layer t) (row t r) j
    ∧ ((win0_5.blk t).view.emb (ix3 0 r j : S1x352x1024.Idx) : S4x704x1024.Idx) = ix3 (layer t) (row t r) j
    ∧ ((win0_6.blk t).view.emb (ix3 0 r j : S1x352x1024.Idx) : S4x704x1024.Idx) = ix3 (layer t) (row t r) j := by
  unfold layer row
  refine ⟨?_, ?_, ?_⟩ <;> blk_ext [idx t]

/-- The results as functions of the arguments. -/
def moved (i : S4x704x1024.Idx) : EReal := delta (W m c i) (G m c i) (M m c i) (N m c i)
def newM (i : S4x704x1024.Idx) : EReal := first (G m c i) (M m c i)
def newV (i : S4x704x1024.Idx) : EReal := second (G m c i) (N m c i)

theorem arr4 : (dats m 0 c).arrAt 4 cfg0.N = moved m c := by
  refine (dats m 0 c).arrAt_eq_of_covers 4 _ (by decide +kernel) fun t _ y => ?_
  blk_simp
  rw [after0_4]
  unfold out0_4
  frame_out
  idx_vars y
  obtain rfl : y0 = 0 := Subsingleton.elim _ _
  obtain ⟨h0, h1, h2, h3⟩ := blocks m c t y1 y2
  rw [delta_at, h0, h1, h2, h3]
  exact congrArg (moved m c) (places t y1 y2).1.symm

theorem arr5 : (dats m 0 c).arrAt 5 cfg0.N = newM m c := by
  refine (dats m 0 c).arrAt_eq_of_covers 5 _ (by decide +kernel) fun t _ y => ?_
  blk_simp
  rw [after0_5]
  unfold out0_5
  frame_out
  idx_vars y
  obtain rfl : y0 = 0 := Subsingleton.elim _ _
  obtain ⟨-, h1, h2, -⟩ := blocks m c t y1 y2
  rw [first_at, h1, h2]
  exact congrArg (newM m c) (places t y1 y2).2.1.symm

theorem arr6 : (dats m 0 c).arrAt 6 cfg0.N = newV m c := by
  refine (dats m 0 c).arrAt_eq_of_covers 6 _ (by decide +kernel) fun t _ y => ?_
  blk_simp
  rw [after0_6]
  unfold out0_6
  frame_out
  idx_vars y
  obtain rfl : y0 = 0 := Subsingleton.elim _ _
  obtain ⟨-, h1, -, h3⟩ := blocks m c t y1 y2
  rw [second_at, h1, h3]
  exact congrArg (newV m c) (places t y1 y2).2.2.symm

end Cert.Kernel23Ideal.Value

namespace Cert.Reference23Ideal.Read

open Cert.Reference23Ideal Cert.Reference23Ideal.Gen Cert.Adam

variable (W G M N : (⟨S4x704x1024, .f32⟩ : BufTy).Contents (Elt Ideal))

theorem moved_at (i : S4x704x1024.Idx) : val_main_v23 W G M N i = delta (W i) (G i) (M i) (N i) := rfl
theorem newM_at (i : S4x704x1024.Idx) : val_main_v4 G M i = first (G i) (M i) := rfl
theorem newV_at (i : S4x704x1024.Idx) : val_main_v10 G N i = second (G i) (N i) := rfl

end Cert.Reference23Ideal.Read

namespace Cert.Proof

theorem values23 : Cert.algebraic_Kernel23Ideal_Reference23Ideal := by
  intro m g m' g' _ hm
  refine ⟨fun c => Cert.Kernel23Ideal.Value.moved m c, fun c => Cert.Kernel23Ideal.Value.newM m c, fun c => Cert.Kernel23Ideal.Value.newV m c, ?_, ?_⟩
  · refine (θ_run _ _ _).mono (fun r h c => ?_) (Cert.Kernel23Ideal.Value.run_blocks m g)
    obtain ⟨h4, h5, h6, hr⟩ := h c
    exact ⟨h4.trans (Cert.Kernel23Ideal.Value.arr4 m c), h5.trans (Cert.Kernel23Ideal.Value.arr5 m c), h6.trans (Cert.Kernel23Ideal.Value.arr6 m c), hr⟩
  · refine (θ_run _ _ _).mono (fun r h c => ?_) (Cert.Reference23Ideal.Value.run m' g')
    obtain ⟨e0, e1, e2, e3⟩ := hm c
    obtain ⟨h4, h5, h6, hr⟩ := h c
    refine ⟨h4.trans ?_, h5.trans ?_, h6.trans ?_, hr⟩
    · rw [Cert.Reference23Ideal.Read.val_main_v23_eq, e0, e1, e2, e3]
      exact funext (Cert.Reference23Ideal.Read.moved_at _ _ _ _)
    · rw [Cert.Reference23Ideal.Read.val_main_v4_eq, e1, e2]
      exact funext (Cert.Reference23Ideal.Read.newM_at _ _)
    · rw [Cert.Reference23Ideal.Read.val_main_v10_eq, e1, e3]
      exact funext (Cert.Reference23Ideal.Read.newV_at _ _)

end Cert.Proof

end
-- ==== Proof.XattnFwd.lean ====
/- The memory cross-attention itself: in every head the softmax of the scores times the values. The kernel goes through the query rows in
   blocks and through the heads one after the other; the blocks put together are what the reference computes. -/
module

public import proofs.«01_k».proof.Defs
public import proofs.«01_k».proof.Proof.Math
public import proofs.«01_k».proof.Proof.Gen.Kernel24Ideal.Value
public import proofs.«01_k».proof.Proof.Gen.Reference24Ideal.Read

@[expose] public section

set_option maxRecDepth 16384

noncomputable section

open Idealize.ShloMosaic Idealize.ShloMosaic.TcCoe Idealize.SL.Sem

namespace Cert.Xattn

/-- The scores of one query row `q` against the keys of head `h`, the query's factor first. -/
def marks (kv : FVec Ideal ⟨2, ![256, 2048]⟩ .bf16) (q : Fin 1024 → EReal) (h : Fin 4) (m : Fin 256) : EReal :=
  (∑ l : Fin 256, q (col h l) * kv (ix2 m (kcol h l))) * sixteenth

/-- What head `h` returns for one query row, at place `l`. -/
def mixed (kv : FVec Ideal ⟨2, ![256, 2048]⟩ .bf16) (q : Fin 1024 → EReal) (h : Fin 4) (l : Fin 256) : EReal :=
  ∑ m : Fin 256, prob (marks kv q h) m * kv (ix2 m (vcol h l))

end Cert.Xattn

namespace Cert.Reference24Ideal.Read

open Cert.Reference24Ideal Cert.Reference24Ideal.Gen Cert.Xattn

variable (Q : (⟨S4096x1024, .bf16⟩ : BufTy).Contents (Elt Ideal)) (KV : (⟨S256x2048, .bf16⟩ : BufTy).Contents (Elt Ideal))

/-- The scores of query row `s`. -/
def X (h : Fin 4) (s : Fin 4096) : Fin 256 → EReal := marks KV (fun j => Q (ix2 s j)) h

theorem v9_at (h : Fin 4) (s : Fin 4096) (m : Fin 256) : val_main_v9 Q KV (ix3 h s m) = X Q KV h s m := by
  unfold val_main_v9 val_main_v8 val_main_v7 val_main_v5 val_main_v4 val_main_v2 val_main_v1 val_main_v0 val_main_cst
  pointwise
  unfold X marks sixteenth
  refine congrArg₂ _ (Finset.sum_congr rfl fun l _ => ?_) rfl
  congr 1 <;> blk_ext [kcol, col]

theorem v12_at (h : Fin 4) (s : Fin 4096) : val_main_v12 Q KV (ix2 h s) = top (X Q KV h s) := by
  have e : val_main_v10 Q KV (ix2 h s) = top (X Q KV h s) := by
    unfold val_main_v10 val_main_cst_0
    pointwise [v9_at Q KV]
    rfl
  rw [val_main_v12_apply, val_main_v11_apply, val_main_cst_1_apply, e]
  exact max_lowest _

theorem v16_at (h : Fin 4) (s : Fin 4096) (m : Fin 256) : val_main_v16 Q KV (ix3 h s m) = weight (X Q KV h s) m := by
  unfold val_main_v16 val_main_v15 val_main_v14 val_main_v13
  pointwise [v9_at Q KV, v12_at Q KV]
  rfl

theorem v20_at (h : Fin 4) (s : Fin 4096) (m : Fin 256) : val_main_v20 Q KV (ix3 h s m) = prob (X Q KV h s) m := by
  unfold val_main_v20 val_main_v19 val_main_v18 val_main_v17 val_main_cst_2
  pointwise [v16_at Q KV]
  rfl

theorem v24_at (s : Fin 4096) (j : Fin 1024) :
    val_main_v24 Q KV (ix2 s j) = mixed KV (fun k => Q (ix2 s k)) (head j) (lane j) := by
  unfold val_main_v24 val_main_v23 val_main_v22 val_main_v21 val_main_v6 val_main_v3 val_main_v1
  pointwise
  unfold mixed
  refine Finset.sum_congr rfl fun x _ => ?_
  rw [mul_comm]
  refine congrArg₂ (· * ·) (v20_at Q KV (head j) s x) (congrArg KV ?_)
  blk_ext [vcol, head, lane]

end Cert.Reference24Ideal.Read

namespace Cert.Kernel24Ideal.Value

open Cert.Kernel24Ideal Cert.Kernel24Ideal.Gen Cert.Xattn Cert.Stores
open Cert.KernelIdeal.Value (head_col lane_col)

section

variable (q : FVec Ideal S512x256 .bf16) (k v : FVec Ideal S256x256 .bf16)

/-- The scores of query row `r` of a block against one head's keys. -/
def rowMarks (r : Fin 512) (m : Fin 256) : EReal := (∑ l : Fin 256, q (ix2 r l) * k (ix2 m l)) * sixteenth

theorem pay2_at (r : Fin 512) (l : Fin 256) : k0_pay2 (F := Ideal) q k v (ix2 r l) = ∑ m : Fin 256, prob (rowMarks q k r) m * v (ix2 m l) := by
  pointwise [k0_pay2, prob, weight, top, rowMarks, sixteenth]

/-! The other heads run the first head's text. -/

theorem second : k0_pay4 (F := Ideal) v (k0_pay3 q k) = k0_pay2 q k v := rfl
theorem third : k0_pay5 (F := Ideal) q k v = k0_pay2 q k v := rfl
theorem fourth : k0_pay1 (F := Ideal) v (k0_pay6 q k) = k0_pay2 q k v := rfl

end

/-- What a block of query rows gets. -/
def mixedBlk (Q : FVec Ideal S512x1024 .bf16) (KV : FVec Ideal S256x2048 .bf16) (y : S512x1024.Idx) : EReal :=
  mixed KV (fun j => Q (ix2 (y 0) j)) (head (y 1)) (lane (y 1))

theorem piece (Q : FVec Ideal S512x1024 .bf16) (KV : FVec Ideal S256x2048 .bf16) (h : Fin 4) {q : FVec Ideal S512x256 .bf16}
    {k v : FVec Ideal S256x256 .bf16} (hq : ∀ r l, q (ix2 r l) = Q (ix2 r (col h l))) (hk : ∀ i l, k (ix2 i l) = KV (ix2 i (kcol h l)))
    (hv : ∀ i l, v (ix2 i l) = KV (ix2 i (vcol h l))) (r : Fin 512) (l : Fin 256) (z : S512x1024.Idx) (hz : z = ix2 r (col h l)) :
    k0_pay2 (F := Ideal) q k v (ix2 r l) = mixedBlk Q KV z := by
  subst hz
  rw [pay2_at]
  show _ = mixed KV (fun j => Q (ix2 r j)) (head (col h l)) (lane (col h l))
  have e : rowMarks q k r = marks KV (fun j => Q (ix2 r j)) h := funext fun i => by simp only [rowMarks, marks, hq, hk]
  rw [head_col, lane_col, e]
  simp only [mixed, hv]

variable (m : (ℓ : Loc nD τ sig) → Buf (Elt Ideal) ℓ) (c : Dev nD)

theorem out2 (t : Fin cfg0.N) (y : S512x1024.Idx) : out0_2 (iblk m c 0 t) (iblk m c 1 t) y = mixedBlk (iblk m c 0 t) (iblk m c 1 t) y := by
  unfold out0_2
  refine canon_all (e := .bf16) (mixedBlk (iblk m c 0 t) (iblk m c 1 t)) _ y ?_ ?_
  swap
  · refine View.cover_of_tiledL (s := S512x1024) _ S512x256.size ?_ y
    sl_kernel_rfl
  refine ⟨fun x => ?_, fun x => ?_, fun x => ?_, fun x => ?_, trivial⟩
  all_goals idx_vars x
  · refine (congrFun (fourth _ _ _) _).trans (piece (iblk m c 0 t) (iblk m c 1 t) 3 ?_ ?_ ?_ _ _ _ ?_)
    all_goals first | (intro r l; pointwise; blk_ext [col, kcol, vcol]; done) | (blk_ext [col]; done)
  · refine (congrFun (third _ _ _) _).trans (piece (iblk m c 0 t) (iblk m c 1 t) 2 ?_ ?_ ?_ _ _ _ ?_)
    all_goals first | (intro r l; pointwise; blk_ext [col, kcol, vcol]; done) | (blk_ext [col]; done)
  · refine (congrFun (second _ _ _) _).trans (piece (iblk m c 0 t) (iblk m c 1 t) 1 ?_ ?_ ?_ _ _ _ ?_)
    all_goals first | (intro r l; pointwise; blk_ext [col, kcol, vcol]; done) | (blk_ext [col]; done)
  · refine piece (iblk m c 0 t) (iblk m c 1 t) 0 ?_ ?_ ?_ _ _ _ ?_
    all_goals first | (intro r l; pointwise; blk_ext [col, kcol, vcol]; done) | (blk_ext [col]; done)

theorem idx : ∀ t : Fin cfg0.N, win0_0.index t = ![t.val, 0] ∧ win0_1.index t = ![0, 0] ∧ win0_2.index t = ![t.val, 0] :=
  (by decide +kernel : ∀ t : Fin grid0.N, _)

/-- The row of the arrays that is row `r` of point `t`'s blocks. -/
def row (t : Fin cfg0.N) (r : Fin 512) : Fin 4096 := ⟨t.val * 512 + r.val, by have := t.isLt; have h : cfg0.N = 8 := N_0; omega⟩

/-- The arguments as launched. -/
def Q : FVec Ideal S4096x1024 .bf16 := m ((c.tc : Thread nD τ).loc main_arg0)
def KV : FVec Ideal S256x2048 .bf16 := m ((c.tc : Thread nD τ).loc main_arg1)

theorem block_q (t : Fin cfg0.N) (r : Fin 512) (j : Fin 1024) :
    (iblk m c 0 t : FVec Ideal S512x1024 .bf16) (ix2 r j) = Q m c (ix2 (row t r) j) := by
  unfold Q row
  blk_ext [iblk, V, idx t]

theorem block_kv (t : Fin cfg0.N) : (iblk m c 1 t : FVec Ideal S256x2048 .bf16) = KV m c := by
  funext y
  unfold KV
  blk_ext [iblk, V, idx t]

theorem place (t : Fin cfg0.N) (r : Fin 512) (j : Fin 1024) :
    ((win0_2.blk t).view.emb (ix2 r j : S512x1024.Idx) : S4096x1024.Idx) = ix2 (row t r) j := by
  unfold row
  blk_ext [idx t]

/-- The result as a function of the arguments. -/
def whole (i : S4096x1024.Idx) : EReal := mixed (KV m c) (fun k => Q m c (ix2 (i 0) k)) (head (i 1)) (lane (i 1))

theorem mixed_block (t : Fin cfg0.N) (r : Fin 512) (j : Fin 1024) :
    mixedBlk (iblk m c 0 t) (iblk m c 1 t) (ix2 r j) = whole m c (ix2 (row t r) j) := by
  unfold mixedBlk
  rw [block_kv]
  exact congrArg (fun q => mixed (KV m c) q (head j) (lane j)) (funext fun k => block_q m c t r k)

theorem arr2 : (dats m 0 c).arrAt 2 cfg0.N = whole m c := by
  refine (dats m 0 c).arrAt_eq_of_covers 2 _ (by decide +kernel) fun t _ y => ?_
  blk_simp
  rw [after0_2]
  refine (out2 m c t y).trans ?_
  idx_vars y
  exact (mixed_block m c t _ _).trans (congrArg (whole m c) (place t _ _).symm)

end Cert.Kernel24Ideal.Value

namespace Cert.Proof

theorem values24 : Cert.algebraic_Kernel24Ideal_Reference24Ideal := by
  intro m g m' g' _ hm
  refine ⟨fun c => Cert.Kernel24Ideal.Value.whole m c, ?_, ?_⟩
  · refine (θ_run _ _ _).mono (fun r h c => ?_) (Cert.Kernel24Ideal.Value.run_blocks m g)
    obtain ⟨h2, hr⟩ := h c
    exact ⟨h2.trans (Cert.Kernel24Ideal.Value.arr2 m c), hr⟩
  · refine (θ_run _ _ _).mono (fun r h c => ?_) (Cert.Reference24Ideal.Value.run m' g')
    obtain ⟨e0, e1⟩ := hm c
    obtain ⟨h2, hr⟩ := h c
    refine ⟨h2.trans ?_, hr⟩
    rw [Cert.Reference24Ideal.Read.val_main_v24_eq, e0, e1]
    funext i
    idx_vars i
    exact Cert.Reference24Ideal.Read.v24_at _ _ _ _

end Cert.Proof

end
-- ==== Proof.WXkvGrad.lean ====
/- The gradient of w_xkv: the kernel's column blocks put together are the product that the reference computes and transposes. -/
module

public import proofs.«01_k».proof.Defs
public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel25Ideal.Value

open Cert.Kernel25Ideal Cert.Kernel25Ideal.Gen

variable (m : (ℓ : Loc nD τ sig) → Buf (Elt Ideal) ℓ) (c : Dev nD)

/-- The element of the gradient that the reference computes. -/
abbrev grad (i : S2048x1024.Idx) : EReal :=
  Cert.Reference25Ideal.Read.val_main_v5 (F := Ideal) (m ((c.tc : Thread nD τ).loc main_arg0)) (m ((c.tc : Thread nD τ).loc main_arg1)) i

theorem idx : ∀ t : Fin cfg0.N, win0_0.index t = ![0, t.val] ∧ win0_1.index t = ![0, 0] ∧ win0_2.index t = ![t.val, 0] :=
  (by decide +kernel : ∀ t : Fin grid0.N, _)

/-- The row of the gradient that is row `r` of point `t`'s block. -/
def row (t : Fin cfg0.N) (r : Fin 512) : Fin 2048 := ⟨t.val * 512 + r.val, by have := t.isLt; have h : cfg0.N = 4 := N_0; omega⟩

theorem place (t : Fin cfg0.N) (r : Fin 512) (j : Fin 1024) :
    ((win0_2.blk t).view.emb (ix2 r j : S512x1024.Idx) : S2048x1024.Idx) = ix2 (row t r) j := by
  unfold row
  blk_ext [idx t]

theorem block (t : Fin cfg0.N) (r : Fin 512) (j : Fin 1024) :
    k0_pay1 (F := Ideal) (iblk m c 0 t) (iblk m c 1 t) (ix2 r j) = grad m c (ix2 (row t r) j) := by
  unfold grad Cert.Reference25Ideal.Read.val_main_v5 Cert.Reference25Ideal.Read.val_main_v4 Cert.Reference25Ideal.Read.val_main_v3 Cert.Reference25Ideal.Read.val_main_v0
  pointwise [k0_pay1]
  refine Finset.sum_congr rfl fun k _ => ?_
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel25Ideal.Value

namespace Cert.Proof

theorem values25 : Cert.algebraic_Kernel25Ideal_Reference25Ideal := by
  intro m g m' g' _ hm
  refine ⟨fun c => Cert.Kernel25Ideal.Value.grad m c, ?_, ?_⟩
  · refine (θ_run _ _ _).mono (fun r h c => ?_) (Cert.Kernel25Ideal.Value.run_blocks m g)
    exact ⟨(h c).1.trans (Cert.Kernel25Ideal.Value.arr2 m c), (h c).2⟩
  · refine (θ_run _ _ _).mono (fun r h c => ?_) (Cert.Reference25Ideal.Value.run m' g')
    obtain ⟨e0, e1⟩ := hm c
    refine ⟨(h c).1.trans ?_, (h c).2⟩
    exact (Cert.Reference25Ideal.Read.val_main_v5_eq _ _).trans (congrArg₂ _ e0 e1)

end Cert.Proof

end
-- ==== Proof.XkvProjBwd.lean ====
/- The gradient of a product's left factor: the kernel's row blocks put together are what the reference computes. -/
module

public import proofs.«01_k».proof.Defs
public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel26Ideal.Value

open Cert.Kernel26Ideal Cert.Kernel26Ideal.Gen

variable (m : (ℓ : Loc nD τ sig) → Buf (Elt Ideal) ℓ) (c : Dev nD)

/-- The element of the gradient that the reference computes. -/
abbrev grad (i : S256x1024.Idx) : EReal :=
  Cert.Reference26Ideal.Read.val_main_v4 (F := Ideal) (m ((c.tc : Thread nD τ).loc main_arg0)) (m ((c.tc : Thread nD τ).loc main_arg1)) i

theorem idx : ∀ t : Fin cfg0.N, win0_0.index t = ![t.val, 0] ∧ win0_1.index t = ![0, 0] ∧ win0_2.index t = ![t.val, 0] :=
  (by decide +kernel : ∀ t : Fin grid0.N, _)

/-- The row of the gradient that is row `r` of point `t`'s block. -/
def row (t : Fin cfg0.N) (r : Fin 256) : Fin 256 := ⟨t.val * 256 + r.val, by have := t.isLt; have h : cfg0.N = 1 := N_0; omega⟩

theorem place (t : Fin cfg0.N) (r : Fin 256) (j : Fin 1024) :
    ((win0_2.blk t).view.emb (ix2 r j : S256x1024.Idx) : S256x1024.Idx) = ix2 (row t r) j := by
  unfold row
  blk_ext [idx t]

theorem block (t : Fin cfg0.N) (r : Fin 256) (j : Fin 1024) :
    k0_pay1 (F := Ideal) (iblk m c 0 t) (iblk m c 1 t) (ix2 r j) = grad m c (ix2 (row t r) j) := by
  unfold grad Cert.Reference26Ideal.Read.val_main_v4 Cert.Reference26Ideal.Read.val_main_v1 Cert.Reference26Ideal.Read.val_main_v0
  pointwise [k0_pay1]
  refine Finset.sum_congr rfl fun k _ => ?_
  unfold row
  congr 1 <;> blk_ext [iblk, V, idx t]

theorem arr2 : (dats m 0 c).arrAt 2 cfg0.N = grad m c := by
  refine (dats m 0 c).arrAt_eq_of_covers 2 _ (by decide +kernel) fun t _ y => ?_
  blk_simp
  rw [after0_2]
  unfold out0_2
  frame_out
  idx_vars y
  exact (block m c t _ _).trans (congrArg (grad m c) (place t _ _).symm)

end Cert.Kernel26Ideal.Value

namespace Cert.Proof

theorem values26 : Cert.algebraic_Kernel26Ideal_Reference26Ideal := by
  intro m g m' g' _ hm
  refine ⟨fun c => Cert.Kernel26Ideal.Value.grad m c, ?_, ?_⟩
  · refine (θ_run _ _ _).mono (fun r h c => ?_) (Cert.Kernel26Ideal.Value.run_blocks m g)
    exact ⟨(h c).1.trans (Cert.Kernel26Ideal.Value.arr2 m c), (h c).2⟩
  · refine (θ_run _ _ _).mono (fun r h c => ?_) (Cert.Reference26Ideal.Value.run m' g')
    obtain ⟨e0, e1⟩ := hm c
    refine ⟨(h c).1.trans ?_, (h c).2⟩
    exact (Cert.Reference26Ideal.Read.val_main_v4_eq _ _).trans (congrArg₂ _ e0 e1)

end Cert.Proof

end
-- ==== Proof.MemNormGrad.lean ====
/- The gradient of the memory's norm in its gain: the kernel adds the four layers' gradients and sums over the rows, as the derivative does. -/
module

public import proofs.«01_k».proof.Defs
public import proofs.«01_k».proof.Proof.Norm
public import proofs.«01_k».proof.Proof.Gen.Kernel27Ideal.Value
public import proofs.«01_k».proof.Proof.Gen.Reference27Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference27Ideal.Read

open Cert.Reference27Ideal Cert.Reference27Ideal.Gen Cert.Norm

variable (X : (⟨S256x1024, .f32⟩ : BufTy).Contents (Elt Ideal)) (D : (⟨S4x256x1024, .f32⟩ : BufTy).Contents (Elt Ideal))

/-- The gain's gradient: the sum over the rows of the normed row times the gradient that the four layers send. -/
def gain (j : Fin 1024) : EReal :=
  ∑ s : Fin 256, X (ix2 s j) * scale (fun k => X (ix2 s k)) * ∑ l : Fin 4, D (ix3 l s j)

theorem v16_at (r : Fin 1) (j : Fin 1024) : val_main_v16 X D (ix2 r j) = gain X D j := by
  unfold val_main_v16 val_main_v15 val_main_v14 val_main_v13 val_main_v10 val_main_v9 val_main_v8 val_main_v7 val_main_v6 val_main_v5
    val_main_v4 val_main_v3 val_main_v2 val_main_v1 val_main_cst_4 val_main_cst_3 val_main_cst_2 val_main_cst_1 val_main_cst_0
  pointwise [gain, scale, power]

end Cert.Reference27Ideal.Read

namespace Cert.Kernel27Ideal.Value

open Cert.Kernel27Ideal Cert.Kernel27Ideal.Gen Cert.Norm

theorem pay1_at (x : FVec Ideal S256x1024 .f32) (a b d e : FVec Ideal S1x256x1024 .f32) (r : Fin 1) (j : Fin 1024) :
    k0_pay1 (F := Ideal) x a b d e (ix2 r j) = ∑ s : Fin 256, (a (ix3 0 s j) + b (ix3 0 s j) + d (ix3 0 s j) + e (ix3 0 s j)) * x (ix2 s j)
      * scale fun k => x (ix2 s k) := by
  pointwise [k0_pay1, scale, power]

variable (m : (ℓ : Loc nD τ sig) → Buf (Elt Ideal) ℓ) (c : Dev nD)

/-- The arguments as launched. -/
def X : FVec Ideal S256x1024 .f32 := m ((c.tc : Thread nD τ).loc main_arg0)
def D : FVec Ideal S4x256x1024 .f32 := m ((c.tc : Thread nD τ).loc main_arg1)

/-- The result as a function of the arguments. -/
def gain (i : S1x1024.Idx) : EReal := Cert.Reference27Ideal.Read.gain (X m c) (D m c) (i 1)

/-- Layer `o`'s gradient as the kernel loads it. -/
theorem layer (A : FVec Ideal S4x256x1024 .f32) (o : Fin 4) (z : S4x256x1024.Idx) (s : Fin 256) (j : Fin 1024) (h0 : (z 0).val = o.val)
    (h1 : (z 1).val = 0 + 1 * s.val) (h2 : (z 2).val = 0 + 1 * j.val) : A z = A (ix3 o s j) := by
  refine congrArg A (funext fun a => Fin.ext ?_)
  match a with
  | ⟨0, _⟩ => exact h0
  | ⟨1, _⟩ => exact h1.trans ((Nat.zero_add _).trans (Nat.one_mul _))
  | ⟨2, _⟩ => exact h2.trans ((Nat.zero_add _).trans (Nat.one_mul _))

theorem sum_block (r : Fin 1) (j : Fin 1024) : G2 (F := Ideal) (X m c) (D m c) (ix2 r j) = gain m c (ix2 r j) := by
  refine (pay1_at _ _ _ _ _ _ _).trans ?_
  unfold gain Cert.Reference27Ideal.Read.gain
  refine Finset.sum_congr rfl fun s _ => ?_
  rw [mul_assoc, mul_comm, Fin.sum_univ_four]
  refine congrArg (fun z : EReal => _ * z) (congrArg₂ _ (congrArg₂ _ (congrArg₂ _ ?_ ?_) ?_) ?_)
  · exact layer (D m c) 0 _ s j rfl rfl rfl
  · exact layer (D m c) 1 _ s j rfl rfl rfl
  · exact layer (D m c) 2 _ s j rfl rfl rfl
  · exact layer (D m c) 3 _ s j rfl rfl rfl

theorem arr2 : (dats m 0 c).arrAt 2 cfg0.N = gain m c := by
  refine (final2 m c).trans (funext fun y => ?_)
  idx_vars y
  exact sum_block m c y0 y1

end Cert.Kernel27Ideal.Value

namespace Cert.Proof

theorem values27 : Cert.algebraic_Kernel27Ideal_Reference27Ideal := by
  intro m g m' g' _ hm
  refine ⟨fun c => Cert.Kernel27Ideal.Value.gain m c, ?_, ?_⟩
  · refine (θ_run _ _ _).mono (fun r h c => ?_) (Cert.Kernel27Ideal.Value.run_blocks m g)
    obtain ⟨h2, hr⟩ := h c
    exact ⟨h2.trans (Cert.Kernel27Ideal.Value.arr2 m c), hr⟩
  · refine (θ_run _ _ _).mono (fun r h c => ?_) (Cert.Reference27Ideal.Value.run m' g')
    obtain ⟨e0, e1⟩ := hm c
    obtain ⟨h2, hr⟩ := h c
    refine ⟨h2.trans ?_, hr⟩
    rw [Cert.Reference27Ideal.Read.val_main_v16_eq, e0, e1]
    funext i
    idx_vars i
    exact Cert.Reference27Ideal.Read.v16_at _ _ _ _

end Cert.Proof

end
-- ==== Proof.LastFfnOut.lean ====
/- The last layer's feed-forward block, its second half: the gate, the product, and the norm of it added to the residual stream. The
   results of a block are named as in the other layers' module. -/
module

public import proofs.«01_k».proof.Defs
public import proofs.«01_k».proof.Proof.FfnOut
public import proofs.«01_k».proof.Proof.Gen.Kernel28Ideal.Value
public import proofs.«01_k».proof.Proof.Gen.Reference28Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference28Ideal.Read

open Cert.Reference28Ideal Cert.Reference28Ideal.Gen Cert.Norm Cert.Gate
open Cert.Reference7Ideal.Read (act prod resid)

variable (GU : (⟨S4096x5632, .bf16⟩ : BufTy).Contents (Elt Ideal)) (W : (⟨S2816x1024, .bf16⟩ : BufTy).Contents (Elt Ideal))
  (P : (⟨S1x1024, .f32⟩ : BufTy).Contents (Elt Ideal)) (X : (⟨S4096x1024, .f32⟩ : BufTy).Contents (Elt Ideal))

theorem v1_at (s : Fin 4096) (j : Fin 2816) : val_main_v1 GU (ix2 s j) = GU (ix2 s (gateCol j)) := by
  unfold val_main_v1 val_main_v0
  pointwise
  blk_ext [gateCol]

theorem v2_at (s : Fin 4096) (j : Fin 2816) : val_main_v2 GU (ix2 s j) = GU (ix2 s (upCol j)) := by
  unfold val_main_v2 val_main_v0
  pointwise
  blk_ext [upCol]

theorem v4_at (s : Fin 4096) (j : Fin 2816) : val_main_v4 GU (ix2 s j) = act GU s j := by
  unfold val_main_v4 val_main_v3 val_main_call0_v5 val_main_call0_v4 val_main_call0_v3 val_main_call0_v2 val_main_call0_v1 val_main_call0_v0
    val_main_call0_cst val_main_call0_cst_0
  pointwise [v1_at GU, v2_at GU, act, gated, Gate.logistic]

theorem v21_at (s : Fin 4096) (j : Fin 2816) : val_main_v21 GU (ix2 s j) = act GU s j := by
  unfold val_main_v21
  pointwise [v4_at GU]

theorem v6_at (s : Fin 4096) (j : Fin 1024) : val_main_v6 GU W (ix2 s j) = prod GU W s j := by
  unfold val_main_v6 val_main_v5
  pointwise [v4_at GU, prod]

theorem v7_at (s : Fin 4096) (j : Fin 1024) : val_main_v7 GU W (ix2 s j) = prod GU W s j := by
  unfold val_main_v7
  pointwise [v6_at GU W]

theorem v20_at (s : Fin 4096) (j : Fin 1024) : val_main_v20 GU W P X (ix2 s j) = resid GU W P X s j := by
  unfold val_main_v20 val_main_v19 val_main_v18 val_main_v17 val_main_v16 val_main_v15 val_main_v14 val_main_v13 val_main_v12 val_main_v11
    val_main_v10 val_main_v9 val_main_v8 val_main_cst val_main_cst_0 val_main_cst_1
  pointwise [v6_at GU W, resid, scale, power]

end Cert.Reference28Ideal.Read

namespace Cert.Kernel28Ideal.Value

open Cert.Kernel28Ideal Cert.Kernel28Ideal.Gen Cert.Norm Cert.Gate Cert.Stores
open Cert.Kernel7Ideal.Value (actBlk prodBlk residBlk chunk piece)

section

variable (gate up : FVec Ideal S256x640 .bf16) (gate' up' : FVec Ideal S256x256 .bf16)

theorem pay5_at (r : Fin 256) (j : Fin 640) : k0_pay5 (F := Ideal) gate up (ix2 r j) = gated (gate (ix2 r j)) (up (ix2 r j)) := by
  pointwise [k0_pay5, gated, logistic_eq]

theorem pay6_at (r : Fin 256) (j : Fin 640) : k0_pay6 (F := Ideal) gate up (ix2 r j) = gated (gate (ix2 r j)) (up (ix2 r j)) := by
  pointwise [k0_pay6, gated, logistic_eq]

theorem pay8_at (r : Fin 256) (j : Fin 640) : k0_pay8 (F := Ideal) (k0_pay7 gate) up (ix2 r j) = gated (gate (ix2 r j)) (up (ix2 r j)) := by
  pointwise [k0_pay8, k0_pay7, gated, logistic_eq]

theorem pay9_at (r : Fin 256) (j : Fin 640) : k0_pay9 (F := Ideal) gate up (ix2 r j) = gated (gate (ix2 r j)) (up (ix2 r j)) := by
  pointwise [k0_pay9, gated, logistic_eq]

theorem pay1_at (r : Fin 256) (j : Fin 256) :
    k0_pay1 (F := Ideal) (k0_pay10 gate') (k0_pay11 up') (k0_pay12 gate') (ix2 r j) = gated (gate' (ix2 r j)) (up' (ix2 r j)) := by
  pointwise [k0_pay1, k0_pay12, k0_pay11, k0_pay10, gated, logistic_eq]

end

section

variable (a : FVec Ideal S256x2816 .bf16) (w : FVec Ideal S2816x1024 .bf16) (x : FVec Ideal S256x1024 .f32) (p : FVec Ideal S1x1024 .f32)

theorem pay2_at (r : Fin 256) (j : Fin 1024) : k0_pay2 (F := Ideal) a w (ix2 r j) = prodBlk a w r j := by
  pointwise [k0_pay2, prodBlk]

theorem pay3_at (r : Fin 256) (j : Fin 1024) : k0_pay3 (F := Ideal) a w (ix2 r j) = prodBlk a w r j := by
  pointwise [k0_pay3, pay2_at a w]

theorem pay4_at (r : Fin 256) (j : Fin 1024) : k0_pay4 (F := Ideal) a w x p (ix2 r j) = residBlk a w x p r j := by
  pointwise [k0_pay4, pay2_at a w, residBlk, scale, power]

end

variable (m : (ℓ : Loc nD τ sig) → Buf (Elt Ideal) ℓ) (c : Dev nD)

theorem out4 (t : Fin cfg0.N) : (outsAt0 m c t).1 = k0_pay3 (outsAt0 m c t).2.2 (iblk m c 1 t) := by
  unfold outsAt0
  frame_out

theorem out5 (t : Fin cfg0.N) : (outsAt0 m c t).2.1 = k0_pay4 (outsAt0 m c t).2.2 (iblk m c 1 t) (iblk m c 3 t) (iblk m c 2 t) := by
  unfold outsAt0
  frame_out

theorem out6 (t : Fin cfg0.N) : (outsAt0 m c t).2.2 = actBlk (iblk m c 0 t) := by
  unfold outsAt0
  frame_out
  rw [View.readCov_eq_canon']
  funext y
  idx_vars y
  refine (canon_all (e := .bf16) (actBlk (iblk m c 0 t)) _ _ ?_ ?_).trans ?_
  · refine ⟨fun x => ?_, fun x => ?_, fun x => ?_, fun x => ?_, fun x => ?_, trivial⟩
    all_goals idx_vars x
    · refine (pay1_at _ _ _ _).trans (piece _ x0 (chunk 2560 (by decide) x1) ?_ ?_ ?_)
      · pointwise; blk_ext [gateCol, chunk]
      · pointwise; blk_ext [upCol, chunk]
      · blk_ext [chunk]
    · refine (pay9_at _ _ _ _).trans (piece _ x0 (chunk 1920 (by decide) x1) ?_ ?_ ?_)
      · pointwise; blk_ext [gateCol, chunk]
      · pointwise; blk_ext [upCol, chunk]
      · blk_ext [chunk]
    · refine (pay8_at _ _ _ _).trans (piece _ x0 (chunk 1280 (by decide) x1) ?_ ?_ ?_)
      · pointwise; blk_ext [gateCol, chunk]
      · pointwise; blk_ext [upCol, chunk]
      · blk_ext [chunk]
    · refine (pay6_at _ _ _ _).trans (piece _ x0 (chunk 640 (by decide) x1) ?_ ?_ ?_)
      · pointwise; blk_ext [gateCol, chunk]
      · pointwise; blk_ext [upCol, chunk]
      · blk_ext [chunk]
    · refine (pay5_at _ _ _ _).trans (piece _ x0 (chunk 0 (by decide) x1) ?_ ?_ ?_)
      · pointwise; blk_ext [gateCol, chunk]
      · pointwise; blk_ext [upCol, chunk]
      · blk_ext [chunk]
  · refine View.cover_of_tiledBy (s := S256x2816) _ ![256, 128] ?_ _
    sl_kernel_rfl
  · refine congrArg _ (funext fun a => Fin.ext ?_)
    fin_cases a
    · simp [LoadRect.idx, Rect.unit, Rect.toLoadRect]
    · simp [LoadRect.idx, Rect.unit, Rect.toLoadRect]

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The row of the arrays that is row `r` of point `t`'s blocks. -/
def row (t : Fin cfg0.N) (r : Fin 256) : Fin 4096 := ⟨t.val * 256 + r.val, by have := t.isLt; have h : cfg0.N = 16 := N_0; omega⟩

/-- The arguments as launched. -/
def GU : FVec Ideal S4096x5632 .bf16 := m ((c.tc : Thread nD τ).loc main_arg0)
def W : FVec Ideal S2816x1024 .bf16 := m ((c.tc : Thread nD τ).loc main_arg1)
def P : FVec Ideal S1x1024 .f32 := m ((c.tc : Thread nD τ).loc main_arg2)
def X : FVec Ideal S4096x1024 .f32 := m ((c.tc : Thread nD τ).loc main_arg3)

theorem block_gu (t : Fin cfg0.N) (r : Fin 256) (j : Fin 5632) :
    (iblk m c 0 t : FVec Ideal S256x5632 .bf16) (ix2 r j) = GU m c (ix2 (row t r) j) := by
  unfold GU row
  blk_ext [iblk, V, idx t]

theorem block_w (t : Fin cfg0.N) : (iblk m c 1 t : FVec Ideal S2816x1024 .bf16) = W m c := by
  funext y
  unfold W
  blk_ext [iblk, V, idx t]

theorem block_p (t : Fin cfg0.N) : (iblk m c 2 t : FVec Ideal S1x1024 .f32) = P m c := by
  funext y
  unfold P
  blk_ext [iblk, V, idx t]

theorem block_x (t : Fin cfg0.N) (r : Fin 256) (j : Fin 1024) :
    (iblk m c 3 t : FVec Ideal S256x1024 .f32) (ix2 r j) = X m c (ix2 (row t r) j) := by
  unfold X row
  blk_ext [iblk, V, idx t]

/-- The results as functions of the arguments. -/
def prod (i : S4096x1024.Idx) : EReal := Cert.Reference7Ideal.Read.prod (GU m c) (W m c) (i 0) (i 1)
def resid (i : S4096x1024.Idx) : EReal := Cert.Reference7Ideal.Read.resid (GU m c) (W m c) (P m c) (X m c) (i 0) (i 1)
def act (i : S4096x2816.Idx) : EReal := Cert.Reference7Ideal.Read.act (GU m c) (i 0) (i 1)

theorem act_block (t : Fin cfg0.N) (r : Fin 256) (j : Fin 2816) : actBlk (iblk m c 0 t) (ix2 r j) = act m c (ix2 (row t r) j) :=
  congrArg₂ gated (block_gu m c t r (gateCol j)) (block_gu m c t r (upCol j))

theorem prod_block (t : Fin cfg0.N) (r : Fin 256) (j : Fin 1024) :
    prodBlk (actBlk (iblk m c 0 t)) (iblk m c 1 t) r j = prod m c (ix2 (row t r) j) := by
  unfold prodBlk
  rw [block_w]
  exact Finset.sum_congr rfl fun k _ => congrArg (fun z : EReal => z * W m c (ix2 k j)) (act_block m c t r k)

theorem resid_block (t : Fin cfg0.N) (r : Fin 256) (j : Fin 1024) :
    residBlk (actBlk (iblk m c 0 t)) (iblk m c 1 t) (iblk m c 3 t) (iblk m c 2 t) r j = resid m c (ix2 (row t r) j) := by
  unfold residBlk
  rw [block_p]
  exact congrArg₂ (· + ·) (block_x m c t r j) (congrArg (fun z : EReal => z * P m c (ix2 0 j))
    (congrArg₂ (· * ·) (prod_block m c t r j) (congrArg scale (funext fun k => prod_block m c t r k))))

theorem place4 (t : Fin cfg0.N) (r : Fin 256) (j : Fin 1024) :
    ((win0_4.blk t).view.emb (ix2 r j : S256x1024.Idx) : S4096x1024.Idx) = ix2 (row t r) j := by
  unfold row
  blk_ext [idx t]

theorem place5 (t : Fin cfg0.N) (r : Fin 256) (j : Fin 1024) :
    ((win0_5.blk t).view.emb (ix2 r j : S256x1024.Idx) : S4096x1024.Idx) = ix2 (row t r) j := by
  unfold row
  blk_ext [idx t]

theorem place6 (t : Fin cfg0.N) (r : Fin 256) (j : Fin 2816) :
    ((win0_6.blk t).view.emb (ix2 r j : S256x2816.Idx) : S4096x2816.Idx) = ix2 (row t r) j := by
  unfold row
  blk_ext [idx t]

theorem arr4 : (dats m 0 c).arrAt 4 cfg0.N = prod m c := by
  refine (dats m 0 c).arrAt_eq_of_covers 4 _ (by decide +kernel) fun t _ y => ?_
  blk_simp
  rw [after0_4, out4, out6]
  idx_vars y
  exact ((pay3_at _ _ _ _).trans (prod_block m c t _ _)).trans (congrArg (prod m c) (place4 t _ _).symm)

theorem arr5 : (dats m 0 c).arrAt 5 cfg0.N = resid m c := by
  refine (dats m 0 c).arrAt_eq_of_covers 5 _ (by decide +kernel) fun t _ y => ?_
  blk_simp
  rw [after0_5, out5, out6]
  idx_vars y
  exact ((pay4_at _ _ _ _ _ _).trans (resid_block m c t _ _)).trans (congrArg (resid m c) (place5 t _ _).symm)

theorem arr6 : (dats m 0 c).arrAt 6 cfg0.N = act m c := by
  refine (dats m 0 c).arrAt_eq_of_covers 6 _ (by decide +kernel) fun t _ y => ?_
  blk_simp
  rw [after0_6, out6]
  idx_vars y
  exact (act_block m c t _ _).trans (congrArg (act m c) (place6 t _ _).symm)

end Cert.Kernel28Ideal.Value

namespace Cert.Proof

theorem values28 : Cert.algebraic_Kernel28Ideal_Reference28Ideal := by
  intro m g m' g' _ hm
  refine ⟨fun c => Cert.Kernel28Ideal.Value.prod m c, fun c => Cert.Kernel28Ideal.Value.resid m c, fun c => Cert.Kernel28Ideal.Value.act m c,
    ?_, ?_⟩
  · refine (θ_run _ _ _).mono (fun r h c => ?_) (Cert.Kernel28Ideal.Value.run_blocks m g)
    obtain ⟨h4, h5, h6, hr⟩ := h c
    exact ⟨h4.trans (Cert.Kernel28Ideal.Value.arr4 m c), h5.trans (Cert.Kernel28Ideal.Value.arr5 m c), h6.trans (Cert.Kernel28Ideal.Value.arr6 m c),
      hr⟩
  · refine (θ_run _ _ _).mono (fun r h c => ?_) (Cert.Reference28Ideal.Value.run m' g')
    obtain ⟨e0, e1, e2, e3⟩ := hm c
    obtain ⟨h4, h5, h6, hr⟩ := h c
    refine ⟨h4.trans ?_, h5.trans ?_, h6.trans ?_, hr⟩
    · rw [Cert.Reference28Ideal.Read.val_main_v7_eq, e0, e1]
      funext i
      idx_vars i
      exact Cert.Reference28Ideal.Read.v7_at _ _ _ _
    · rw [Cert.Reference28Ideal.Read.val_main_v20_eq, e0, e1, e2, e3]
      funext i
      idx_vars i
      exact Cert.Reference28Ideal.Read.v20_at _ _ _ _ _ _
    · rw [Cert.Reference28Ideal.Read.val_main_v21_eq, e0]
      funext i
      idx_vars i
      exact Cert.Reference28Ideal.Read.v21_at _ _ _

end Cert.Proof

end
-- ==== Proof.FinalSum29.lean ====
/- A weight's gradient on the chip that keeps 128 of its rows: the chip's own sum and what the three other chips have sent. -/
module

public import proofs.«01_k».proof.Defs
public import proofs.«01_k».proof.Proof.Gen.Kernel29Ideal.Value
public import proofs.«01_k».proof.Proof.Gen.Reference29Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference29Ideal.Read

open Cert.Reference29Ideal Cert.Reference29Ideal.Gen

/-- The sum, as a function of the arguments. -/
def total (A : FVec Ideal S128x1024 .f32) (B : FVec Ideal S3x128x1024 .bf16) (s : Fin 128) (j : Fin 1024) : EReal :=
  A (ix2 s j) + ∑ k : Fin 3, (B (ix3 k s j) : EReal)

theorem v2_at (A : (⟨S128x1024, .f32⟩ : BufTy).Contents (Elt Ideal)) (B : (⟨S3x128x1024, .bf16⟩ : BufTy).Contents (Elt Ideal)) (s : Fin 128) (j : Fin 1024) :
    val_main_v2 A B (ix2 s j) = total A B s j := by
  unfold val_main_v2 val_main_v1 val_main_v0 val_main_cst
  pointwise [total]

end Cert.Reference29Ideal.Read

namespace Cert.Kernel29Ideal.Value

open Cert.Kernel29Ideal Cert.Kernel29Ideal.Gen

theorem sum_at (a : FVec Ideal S128x1024 .f32) (b0 b1 b2 : FVec Ideal S1x128x1024 .bf16) (r : Fin 128) (j : Fin 1024) :
    k0_pay1 (F := Ideal) a b0 b1 b2 (ix2 r j) = a (ix2 r j) + (b0 (ix3 0 r j) : EReal) + (b1 (ix3 0 r j) : EReal) + (b2 (ix3 0 r j) : EReal) := by
  pointwise [k0_pay1]

variable (m : (ℓ : Loc nD τ sig) → Buf (Elt Ideal) ℓ) (c : Dev nD)

/-- The arguments as launched. -/
def A : FVec Ideal S128x1024 .f32 := m ((c.tc : Thread nD τ).loc main_arg0)
def B : FVec Ideal S3x128x1024 .bf16 := m ((c.tc : Thread nD τ).loc main_arg1)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that is row `r` of a point's block. -/
def row (t : Fin cfg0.N) (r : Fin 128) : Fin 128 := ⟨t.val * 128 + r.val, by have := t.isLt; have h : cfg0.N = 1 := N_0; omega⟩

theorem own (t : Fin cfg0.N) (r : Fin 128) (j : Fin 1024) :
    (iblk m c 0 t : FVec Ideal S128x1024 .f32) (ix2 r j) = A m c (ix2 (row t r) j) := by
  unfold A row
  blk_ext [iblk, V, idx t]

theorem sent (t : Fin cfg0.N) (k : Fin 3) (r : Fin 128) (j : Fin 1024) :
    (iblk m c 1 t : FVec Ideal S3x128x1024 .bf16) (ix3 k r j) = B m c (ix3 k (row t r) j) := by
  unfold B row
  blk_ext [iblk, V, idx t]

theorem place (t : Fin cfg0.N) (r : Fin 128) (j : Fin 1024) :
    ((win0_2.blk t).view.emb (ix2 r j : S128x1024.Idx) : S128x1024.Idx) = ix2 (row t r) j := by
  unfold row
  blk_ext [idx t]

/-- The result as a function of the arguments. -/
def total (i : S128x1024.Idx) : EReal := Cert.Reference29Ideal.Read.total (A m c) (B m c) (i 0) (i 1)

theorem sum_block (t : Fin cfg0.N) (r : Fin 128) (j : Fin 1024) :
    k0_pay1 (F := Ideal) (iblk m c 0 t) (View.ld (iblk m c 1 t) r0_1) (View.ld (iblk m c 1 t) r0_2) (View.ld (iblk m c 1 t) r0_3) (ix2 r j)
      = total m c (ix2 (row t r) j) := by
  unfold total Cert.Reference29Ideal.Read.total
  rw [sum_at, Fin.sum_univ_three, ← add_assoc, ← add_assoc]
  refine congrArg₂ _ (congrArg₂ _ (congrArg₂ _ (own m c t r j) ?_) ?_) ?_ <;>
    refine Eq.trans ?_ (sent m c t _ r j) <;> refine congrArg (iblk m c 1 t : FVec Ideal S3x128x1024 .bf16) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem arr2 : (dats m 0 c).arrAt 2 cfg0.N = total m c := by
  refine (dats m 0 c).arrAt_eq_of_covers 2 _ (by decide +kernel) fun t _ y => ?_
  blk_simp
  rw [after0_2]
  unfold out0_2
  frame_out
  idx_vars y
  exact (sum_block m c t y0 y1).trans (congrArg (total m c) (place t y0 y1).symm)

end Cert.Kernel29Ideal.Value

namespace Cert.Proof

theorem values29 : Cert.algebraic_Kernel29Ideal_Reference29Ideal := by
  intro m g m' g' _ hm
  refine ⟨fun c => Cert.Kernel29Ideal.Value.total m c, ?_, ?_⟩
  · refine (θ_run _ _ _).mono (fun r h c => ?_) (Cert.Kernel29Ideal.Value.run_blocks m g)
    obtain ⟨h2, hr⟩ := h c
    exact ⟨h2.trans (Cert.Kernel29Ideal.Value.arr2 m c), hr⟩
  · refine (θ_run _ _ _).mono (fun r h c => ?_) (Cert.Reference29Ideal.Value.run m' g')
    obtain ⟨e0, e1⟩ := hm c
    obtain ⟨h2, hr⟩ := h c
    refine ⟨h2.trans ?_, hr⟩
    rw [Cert.Reference29Ideal.Read.val_main_v2_eq, e0, e1]
    funext i
    idx_vars i
    exact Cert.Reference29Ideal.Read.v2_at _ _ _ _

end Cert.Proof

end
-- ==== Proof.FinalSum30.lean ====
/- A weight's gradient on the chip that keeps 192 of its rows: the chip's own sum and what the three other chips have sent. -/
module

public import proofs.«01_k».proof.Defs
public import proofs.«01_k».proof.Proof.Gen.Kernel30Ideal.Value
public import proofs.«01_k».proof.Proof.Gen.Reference30Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference30Ideal.Read

open Cert.Reference30Ideal Cert.Reference30Ideal.Gen

/-- The sum, as a function of the arguments. -/
def total (A : FVec Ideal S192x1024 .f32) (B : FVec Ideal S3x192x1024 .bf16) (s : Fin 192) (j : Fin 1024) : EReal :=
  A (ix2 s j) + ∑ k : Fin 3, (B (ix3 k s j) : EReal)

theorem v2_at (A : (⟨S192x1024, .f32⟩ : BufTy).Contents (Elt Ideal)) (B : (⟨S3x192x1024, .bf16⟩ : BufTy).Contents (Elt Ideal)) (s : Fin 192) (j : Fin 1024) :
    val_main_v2 A B (ix2 s j) = total A B s j := by
  unfold val_main_v2 val_main_v1 val_main_v0 val_main_cst
  pointwise [total]

end Cert.Reference30Ideal.Read

namespace Cert.Kernel30Ideal.Value

open Cert.Kernel30Ideal Cert.Kernel30Ideal.Gen

theorem sum_at (a : FVec Ideal S192x1024 .f32) (b0 b1 b2 : FVec Ideal S1x192x1024 .bf16) (r : Fin 192) (j : Fin 1024) :
    k0_pay1 (F := Ideal) a b0 b1 b2 (ix2 r j) = a (ix2 r j) + (b0 (ix3 0 r j) : EReal) + (b1 (ix3 0 r j) : EReal) + (b2 (ix3 0 r j) : EReal) := by
  pointwise [k0_pay1]

variable (m : (ℓ : Loc nD τ sig) → Buf (Elt Ideal) ℓ) (c : Dev nD)

/-- The arguments as launched. -/
def A : FVec Ideal S192x1024 .f32 := m ((c.tc : Thread nD τ).loc main_arg0)
def B : FVec Ideal S3x192x1024 .bf16 := m ((c.tc : Thread nD τ).loc main_arg1)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that is row `r` of a point's block. -/
def row (t : Fin cfg0.N) (r : Fin 192) : Fin 192 := ⟨t.val * 192 + r.val, by have := t.isLt; have h : cfg0.N = 1 := N_0; omega⟩

theorem own (t : Fin cfg0.N) (r : Fin 192) (j : Fin 1024) :
    (iblk m c 0 t : FVec Ideal S192x1024 .f32) (ix2 r j) = A m c (ix2 (row t r) j) := by
  unfold A row
  blk_ext [iblk, V, idx t]

theorem sent (t : Fin cfg0.N) (k : Fin 3) (r : Fin 192) (j : Fin 1024) :
    (iblk m c 1 t : FVec Ideal S3x192x1024 .bf16) (ix3 k r j) = B m c (ix3 k (row t r) j) := by
  unfold B row
  blk_ext [iblk, V, idx t]

theorem place (t : Fin cfg0.N) (r : Fin 192) (j : Fin 1024) :
    ((win0_2.blk t).view.emb (ix2 r j : S192x1024.Idx) : S192x1024.Idx) = ix2 (row t r) j := by
  unfold row
  blk_ext [idx t]

/-- The result as a function of the arguments. -/
def total (i : S192x1024.Idx) : EReal := Cert.Reference30Ideal.Read.total (A m c) (B m c) (i 0) (i 1)

theorem sum_block (t : Fin cfg0.N) (r : Fin 192) (j : Fin 1024) :
    k0_pay1 (F := Ideal) (iblk m c 0 t) (View.ld (iblk m c 1 t) r0_1) (View.ld (iblk m c 1 t) r0_2) (View.ld (iblk m c 1 t) r0_3) (ix2 r j)
      = total m c (ix2 (row t r) j) := by
  unfold total Cert.Reference30Ideal.Read.total
  rw [sum_at, Fin.sum_univ_three, ← add_assoc, ← add_assoc]
  refine congrArg₂ _ (congrArg₂ _ (congrArg₂ _ (own m c t r j) ?_) ?_) ?_ <;>
    refine Eq.trans ?_ (sent m c t _ r j) <;> refine congrArg (iblk m c 1 t : FVec Ideal S3x192x1024 .bf16) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem arr2 : (dats m 0 c).arrAt 2 cfg0.N = total m c := by
  refine (dats m 0 c).arrAt_eq_of_covers 2 _ (by decide +kernel) fun t _ y => ?_
  blk_simp
  rw [after0_2]
  unfold out0_2
  frame_out
  idx_vars y
  exact (sum_block m c t y0 y1).trans (congrArg (total m c) (place t y0 y1).symm)

end Cert.Kernel30Ideal.Value

namespace Cert.Proof

theorem values30 : Cert.algebraic_Kernel30Ideal_Reference30Ideal := by
  intro m g m' g' _ hm
  refine ⟨fun c => Cert.Kernel30Ideal.Value.total m c, ?_, ?_⟩
  · refine (θ_run _ _ _).mono (fun r h c => ?_) (Cert.Kernel30Ideal.Value.run_blocks m g)
    obtain ⟨h2, hr⟩ := h c
    exact ⟨h2.trans (Cert.Kernel30Ideal.Value.arr2 m c), hr⟩
  · refine (θ_run _ _ _).mono (fun r h c => ?_) (Cert.Reference30Ideal.Value.run m' g')
    obtain ⟨e0, e1⟩ := hm c
    obtain ⟨h2, hr⟩ := h c
    refine ⟨h2.trans ?_, hr⟩
    rw [Cert.Reference30Ideal.Read.val_main_v2_eq, e0, e1]
    funext i
    idx_vars i
    exact Cert.Reference30Ideal.Read.v2_at _ _ _ _

end Cert.Proof

end
-- ==== Proof.FinalSum31.lean ====
/- A weight's gradient on the chip that keeps 256 of its rows: the chip's own sum and what the three other chips have sent. -/
module

public import proofs.«01_k».proof.Defs
public import proofs.«01_k».proof.Proof.Gen.Kernel31Ideal.Value
public import proofs.«01_k».proof.Proof.Gen.Reference31Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference31Ideal.Read

open Cert.Reference31Ideal Cert.Reference31Ideal.Gen

/-- The sum, as a function of the arguments. -/
def total (A : FVec Ideal S256x1024 .f32) (B : FVec Ideal S3x256x1024 .bf16) (s : Fin 256) (j : Fin 1024) : EReal :=
  A (ix2 s j) + ∑ k : Fin 3, (B (ix3 k s j) : EReal)

theorem v2_at (A : (⟨S256x1024, .f32⟩ : BufTy).Contents (Elt Ideal)) (B : (⟨S3x256x1024, .bf16⟩ : BufTy).Contents (Elt Ideal)) (s : Fin 256) (j : Fin 1024) :
    val_main_v2 A B (ix2 s j) = total A B s j := by
  unfold val_main_v2 val_main_v1 val_main_v0 val_main_cst
  pointwise [total]

end Cert.Reference31Ideal.Read

namespace Cert.Kernel31Ideal.Value

open Cert.Kernel31Ideal Cert.Kernel31Ideal.Gen

theorem sum_at (a : FVec Ideal S256x1024 .f32) (b0 b1 b2 : FVec Ideal S1x256x1024 .bf16) (r : Fin 256) (j : Fin 1024) :
    k0_pay1 (F := Ideal) a b0 b1 b2 (ix2 r j) = a (ix2 r j) + (b0 (ix3 0 r j) : EReal) + (b1 (ix3 0 r j) : EReal) + (b2 (ix3 0 r j) : EReal) := by
  pointwise [k0_pay1]

variable (m : (ℓ : Loc nD τ sig) → Buf (Elt Ideal) ℓ) (c : Dev nD)

/-- The arguments as launched. -/
def A : FVec Ideal S256x1024 .f32 := m ((c.tc : Thread nD τ).loc main_arg0)
def B : FVec Ideal S3x256x1024 .bf16 := m ((c.tc : Thread nD τ).loc main_arg1)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that is row `r` of a point's block. -/
def row (t : Fin cfg0.N) (r : Fin 256) : Fin 256 := ⟨t.val * 256 + r.val, by have := t.isLt; have h : cfg0.N = 1 := N_0; omega⟩

theorem own (t : Fin cfg0.N) (r : Fin 256) (j : Fin 1024) :
    (iblk m c 0 t : FVec Ideal S256x1024 .f32) (ix2 r j) = A m c (ix2 (row t r) j) := by
  unfold A row
  blk_ext [iblk, V, idx t]

theorem sent (t : Fin cfg0.N) (k : Fin 3) (r : Fin 256) (j : Fin 1024) :
    (iblk m c 1 t : FVec Ideal S3x256x1024 .bf16) (ix3 k r j) = B m c (ix3 k (row t r) j) := by
  unfold B row
  blk_ext [iblk, V, idx t]

theorem place (t : Fin cfg0.N) (r : Fin 256) (j : Fin 1024) :
    ((win0_2.blk t).view.emb (ix2 r j : S256x1024.Idx) : S256x1024.Idx) = ix2 (row t r) j := by
  unfold row
  blk_ext [idx t]

/-- The result as a function of the arguments. -/
def total (i : S256x1024.Idx) : EReal := Cert.Reference31Ideal.Read.total (A m c) (B m c) (i 0) (i 1)

theorem sum_block (t : Fin cfg0.N) (r : Fin 256) (j : Fin 1024) :
    k0_pay1 (F := Ideal) (iblk m c 0 t) (View.ld (iblk m c 1 t) r0_1) (View.ld (iblk m c 1 t) r0_2) (View.ld (iblk m c 1 t) r0_3) (ix2 r j)
      = total m c (ix2 (row t r) j) := by
  unfold total Cert.Reference31Ideal.Read.total
  rw [sum_at, Fin.sum_univ_three, ← add_assoc, ← add_assoc]
  refine congrArg₂ _ (congrArg₂ _ (congrArg₂ _ (own m c t r j) ?_) ?_) ?_ <;>
    refine Eq.trans ?_ (sent m c t _ r j) <;> refine congrArg (iblk m c 1 t : FVec Ideal S3x256x1024 .bf16) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem arr2 : (dats m 0 c).arrAt 2 cfg0.N = total m c := by
  refine (dats m 0 c).arrAt_eq_of_covers 2 _ (by decide +kernel) fun t _ y => ?_
  blk_simp
  rw [after0_2]
  unfold out0_2
  frame_out
  idx_vars y
  exact (sum_block m c t y0 y1).trans (congrArg (total m c) (place t y0 y1).symm)

end Cert.Kernel31Ideal.Value

namespace Cert.Proof

theorem values31 : Cert.algebraic_Kernel31Ideal_Reference31Ideal := by
  intro m g m' g' _ hm
  refine ⟨fun c => Cert.Kernel31Ideal.Value.total m c, ?_, ?_⟩
  · refine (θ_run _ _ _).mono (fun r h c => ?_) (Cert.Kernel31Ideal.Value.run_blocks m g)
    obtain ⟨h2, hr⟩ := h c
    exact ⟨h2.trans (Cert.Kernel31Ideal.Value.arr2 m c), hr⟩
  · refine (θ_run _ _ _).mono (fun r h c => ?_) (Cert.Reference31Ideal.Value.run m' g')
    obtain ⟨e0, e1⟩ := hm c
    obtain ⟨h2, hr⟩ := h c
    refine ⟨h2.trans ?_, hr⟩
    rw [Cert.Reference31Ideal.Read.val_main_v2_eq, e0, e1]
    funext i
    idx_vars i
    exact Cert.Reference31Ideal.Read.v2_at _ _ _ _

end Cert.Proof

end
-- ==== Proof.FinalSum32.lean ====
/- A weight's gradient on the chip that keeps 352 of its rows: the chip's own sum and what the three other chips have sent. -/
module

public import proofs.«01_k».proof.Defs
public import proofs.«01_k».proof.Proof.Gen.Kernel32Ideal.Value
public import proofs.«01_k».proof.Proof.Gen.Reference32Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference32Ideal.Read

open Cert.Reference32Ideal Cert.Reference32Ideal.Gen

/-- The sum, as a function of the arguments. -/
def total (A : FVec Ideal S352x1024 .f32) (B : FVec Ideal S3x352x1024 .bf16) (s : Fin 352) (j : Fin 1024) : EReal :=
  A (ix2 s j) + ∑ k : Fin 3, (B (ix3 k s j) : EReal)

theorem v2_at (A : (⟨S352x1024, .f32⟩ : BufTy).Contents (Elt Ideal)) (B : (⟨S3x352x1024, .bf16⟩ : BufTy).Contents (Elt Ideal)) (s : Fin 352) (j : Fin 1024) :
    val_main_v2 A B (ix2 s j) = total A B s j := by
  unfold val_main_v2 val_main_v1 val_main_v0 val_main_cst
  pointwise [total]

end Cert.Reference32Ideal.Read

namespace Cert.Kernel32Ideal.Value

open Cert.Kernel32Ideal Cert.Kernel32Ideal.Gen

theorem sum_at (a : FVec Ideal S176x1024 .f32) (b0 b1 b2 : FVec Ideal S1x176x1024 .bf16) (r : Fin 176) (j : Fin 1024) :
    k0_pay1 (F := Ideal) a b0 b1 b2 (ix2 r j) = a (ix2 r j) + (b0 (ix3 0 r j) : EReal) + (b1 (ix3 0 r j) : EReal) + (b2 (ix3 0 r j) : EReal) := by
  pointwise [k0_pay1]

variable (m : (ℓ : Loc nD τ sig) → Buf (Elt Ideal) ℓ) (c : Dev nD)

/-- The arguments as launched. -/
def A : FVec Ideal S352x1024 .f32 := m ((c.tc : Thread nD τ).loc main_arg0)
def B : FVec Ideal S3x352x1024 .bf16 := m ((c.tc : Thread nD τ).loc main_arg1)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that is row `r` of a point's block. -/
def row (t : Fin cfg0.N) (r : Fin 176) : Fin 352 := ⟨t.val * 176 + r.val, by have := t.isLt; have h : cfg0.N = 2 := N_0; omega⟩

theorem own (t : Fin cfg0.N) (r : Fin 176) (j : Fin 1024) :
    (iblk m c 0 t : FVec Ideal S176x1024 .f32) (ix2 r j) = A m c (ix2 (row t r) j) := by
  unfold A row
  blk_ext [iblk, V, idx t]

theorem sent (t : Fin cfg0.N) (k : Fin 3) (r : Fin 176) (j : Fin 1024) :
    (iblk m c 1 t : FVec Ideal S3x176x1024 .bf16) (ix3 k r j) = B m c (ix3 k (row t r) j) := by
  unfold B row
  blk_ext [iblk, V, idx t]

theorem place (t : Fin cfg0.N) (r : Fin 176) (j : Fin 1024) :
    ((win0_2.blk t).view.emb (ix2 r j : S176x1024.Idx) : S352x1024.Idx) = ix2 (row t r) j := by
  unfold row
  blk_ext [idx t]

/-- The result as a function of the arguments. -/
def total (i : S352x1024.Idx) : EReal := Cert.Reference32Ideal.Read.total (A m c) (B m c) (i 0) (i 1)

theorem sum_block (t : Fin cfg0.N) (r : Fin 176) (j : Fin 1024) :
    k0_pay1 (F := Ideal) (iblk m c 0 t) (View.ld (iblk m c 1 t) r0_1) (View.ld (iblk m c 1 t) r0_2) (View.ld (iblk m c 1 t) r0_3) (ix2 r j)
      = total m c (ix2 (row t r) j) := by
  unfold total Cert.Reference32Ideal.Read.total
  rw [sum_at, Fin.sum_univ_three, ← add_assoc, ← add_assoc]
  refine congrArg₂ _ (congrArg₂ _ (congrArg₂ _ (own m c t r j) ?_) ?_) ?_ <;>
    refine Eq.trans ?_ (sent m c t _ r j) <;> refine congrArg (iblk m c 1 t : FVec Ideal S3x176x1024 .bf16) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem arr2 : (dats m 0 c).arrAt 2 cfg0.N = total m c := by
  refine (dats m 0 c).arrAt_eq_of_covers 2 _ (by decide +kernel) fun t _ y => ?_
  blk_simp
  rw [after0_2]
  unfold out0_2
  frame_out
  idx_vars y
  exact (sum_block m c t y0 y1).trans (congrArg (total m c) (place t y0 y1).symm)

end Cert.Kernel32Ideal.Value

namespace Cert.Proof

theorem values32 : Cert.algebraic_Kernel32Ideal_Reference32Ideal := by
  intro m g m' g' _ hm
  refine ⟨fun c => Cert.Kernel32Ideal.Value.total m c, ?_, ?_⟩
  · refine (θ_run _ _ _).mono (fun r h c => ?_) (Cert.Kernel32Ideal.Value.run_blocks m g)
    obtain ⟨h2, hr⟩ := h c
    exact ⟨h2.trans (Cert.Kernel32Ideal.Value.arr2 m c), hr⟩
  · refine (θ_run _ _ _).mono (fun r h c => ?_) (Cert.Reference32Ideal.Value.run m' g')
    obtain ⟨e0, e1⟩ := hm c
    obtain ⟨h2, hr⟩ := h c
    refine ⟨h2.trans ?_, hr⟩
    rw [Cert.Reference32Ideal.Read.val_main_v2_eq, e0, e1]
    funext i
    idx_vars i
    exact Cert.Reference32Ideal.Read.v2_at _ _ _ _

end Cert.Proof

end
-- ==== Proof.FinalSum33.lean ====
/- A weight's gradient on the chip that keeps 704 of its rows: the chip's own sum and what the three other chips have sent. -/
module

public import proofs.«01_k».proof.Defs
public import proofs.«01_k».proof.Proof.Gen.Kernel33Ideal.Value
public import proofs.«01_k».proof.Proof.Gen.Reference33Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference33Ideal.Read

open Cert.Reference33Ideal Cert.Reference33Ideal.Gen

/-- The sum, as a function of the arguments. -/
def total (A : FVec Ideal S704x1024 .f32) (B : FVec Ideal S3x704x1024 .bf16) (s : Fin 704) (j : Fin 1024) : EReal :=
  A (ix2 s j) + ∑ k : Fin 3, (B (ix3 k s j) : EReal)

theorem v2_at (A : (⟨S704x1024, .f32⟩ : BufTy).Contents (Elt Ideal)) (B : (⟨S3x704x1024, .bf16⟩ : BufTy).Contents (Elt Ideal)) (s : Fin 704) (j : Fin 1024) :
    val_main_v2 A B (ix2 s j) = total A B s j := by
  unfold val_main_v2 val_main_v1 val_main_v0 val_main_cst
  pointwise [total]

end Cert.Reference33Ideal.Read

namespace Cert.Kernel33Ideal.Value

open Cert.Kernel33Ideal Cert.Kernel33Ideal.Gen

theorem sum_at (a : FVec Ideal S176x1024 .f32) (b0 b1 b2 : FVec Ideal S1x176x1024 .bf16) (r : Fin 176) (j : Fin 1024) :
    k0_pay1 (F := Ideal) a b0 b1 b2 (ix2 r j) = a (ix2 r j) + (b0 (ix3 0 r j) : EReal) + (b1 (ix3 0 r j) : EReal) + (b2 (ix3 0 r j) : EReal) := by
  pointwise [k0_pay1]

variable (m : (ℓ : Loc nD τ sig) → Buf (Elt Ideal) ℓ) (c : Dev nD)

/-- The arguments as launched. -/
def A : FVec Ideal S704x1024 .f32 := m ((c.tc : Thread nD τ).loc main_arg0)
def B : FVec Ideal S3x704x1024 .bf16 := m ((c.tc : Thread nD τ).loc main_arg1)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that is row `r` of a point's block. -/
def row (t : Fin cfg0.N) (r : Fin 176) : Fin 704 := ⟨t.val * 176 + r.val, by have := t.isLt; have h : cfg0.N = 4 := N_0; omega⟩

theorem own (t : Fin cfg0.N) (r : Fin 176) (j : Fin 1024) :
    (iblk m c 0 t : FVec Ideal S176x1024 .f32) (ix2 r j) = A m c (ix2 (row t r) j) := by
  unfold A row
  blk_ext [iblk, V, idx t]

theorem sent (t : Fin cfg0.N) (k : Fin 3) (r : Fin 176) (j : Fin 1024) :
    (iblk m c 1 t : FVec Ideal S3x176x1024 .bf16) (ix3 k r j) = B m c (ix3 k (row t r) j) := by
  unfold B row
  blk_ext [iblk, V, idx t]

theorem place (t : Fin cfg0.N) (r : Fin 176) (j : Fin 1024) :
    ((win0_2.blk t).view.emb (ix2 r j : S176x1024.Idx) : S704x1024.Idx) = ix2 (row t r) j := by
  unfold row
  blk_ext [idx t]

/-- The result as a function of the arguments. -/
def total (i : S704x1024.Idx) : EReal := Cert.Reference33Ideal.Read.total (A m c) (B m c) (i 0) (i 1)

theorem sum_block (t : Fin cfg0.N) (r : Fin 176) (j : Fin 1024) :
    k0_pay1 (F := Ideal) (iblk m c 0 t) (View.ld (iblk m c 1 t) r0_1) (View.ld (iblk m c 1 t) r0_2) (View.ld (iblk m c 1 t) r0_3) (ix2 r j)
      = total m c (ix2 (row t r) j) := by
  unfold total Cert.Reference33Ideal.Read.total
  rw [sum_at, Fin.sum_univ_three, ← add_assoc, ← add_assoc]
  refine congrArg₂ _ (congrArg₂ _ (congrArg₂ _ (own m c t r j) ?_) ?_) ?_ <;>
    refine Eq.trans ?_ (sent m c t _ r j) <;> refine congrArg (iblk m c 1 t : FVec Ideal S3x176x1024 .bf16) ?_ <;>
    exact funext fun a => Fin.ext (by
      match a with
      | ⟨0, _⟩ => rfl
      | ⟨1, _⟩ => exact (Nat.zero_add _).trans (Nat.one_mul _)
      | ⟨2, _⟩ => exact (Nat.zero_add _).trans (Nat.one_mul _))

theorem arr2 : (dats m 0 c).arrAt 2 cfg0.N = total m c := by
  refine (dats m 0 c).arrAt_eq_of_covers 2 _ (by decide +kernel) fun t _ y => ?_
  blk_simp
  rw [after0_2]
  unfold out0_2
  frame_out
  idx_vars y
  exact (sum_block m c t y0 y1).trans (congrArg (total m c) (place t y0 y1).symm)

end Cert.Kernel33Ideal.Value

namespace Cert.Proof

theorem values33 : Cert.algebraic_Kernel33Ideal_Reference33Ideal := by
  intro m g m' g' _ hm
  refine ⟨fun c => Cert.Kernel33Ideal.Value.total m c, ?_, ?_⟩
  · refine (θ_run _ _ _).mono (fun r h c => ?_) (Cert.Kernel33Ideal.Value.run_blocks m g)
    obtain ⟨h2, hr⟩ := h c
    exact ⟨h2.trans (Cert.Kernel33Ideal.Value.arr2 m c), hr⟩
  · refine (θ_run _ _ _).mono (fun r h c => ?_) (Cert.Reference33Ideal.Value.run m' g')
    obtain ⟨e0, e1⟩ := hm c
    obtain ⟨h2, hr⟩ := h c
    refine ⟨h2.trans ?_, hr⟩
    rw [Cert.Reference33Ideal.Read.val_main_v2_eq, e0, e1]
    funext i
    idx_vars i
    exact Cert.Reference33Ideal.Read.v2_at _ _ _ _

end Cert.Proof

end
-- ==== Proof.lean ====
/- The claims of the fifteen programs, from the modules that prove them. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel34Ideal.Frame
public import proofs.«01_k».proof.Proof.Frames
public import proofs.«01_k».proof.Proof.Xattn
public import proofs.«01_k».proof.Proof.FfnOutBwd
public import proofs.«01_k».proof.Proof.FfnInBwd
public import proofs.«01_k».proof.Proof.WGateUpGrad
public import proofs.«01_k».proof.Proof.WDownGrad
public import proofs.«01_k».proof.Proof.FfnIn
public import proofs.«01_k».proof.Proof.FfnOut
public import proofs.«01_k».proof.Proof.XqProjBwd
public import proofs.«01_k».proof.Proof.InProjBwd
public import proofs.«01_k».proof.Proof.SquareGrad
public import proofs.«01_k».proof.Proof.WInGrad
public import proofs.«01_k».proof.Proof.OutBwd
public import proofs.«01_k».proof.Proof.MixOut
public import proofs.«01_k».proof.Proof.InProj
public import proofs.«01_k».proof.Proof.XqProj
public import proofs.«01_k».proof.Proof.FirstInProjBwd
public import proofs.«01_k».proof.Proof.Loss
public import proofs.«01_k».proof.Proof.SmallUpdate
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.XattnFwd
public import proofs.«01_k».proof.Proof.WXkvGrad
public import proofs.«01_k».proof.Proof.XkvProjBwd
public import proofs.«01_k».proof.Proof.MemNormGrad
public import proofs.«01_k».proof.Proof.LastFfnOut
public import proofs.«01_k».proof.Proof.FinalSum29
public import proofs.«01_k».proof.Proof.FinalSum30
public import proofs.«01_k».proof.Proof.FinalSum31
public import proofs.«01_k».proof.Proof.FinalSum32
public import proofs.«01_k».proof.Proof.FinalSum33

@[expose] public section

set_option maxRecDepth 16384

noncomputable section

namespace Cert.Proof

open Idealize.ShloMosaic Idealize.SL.Sem

theorem claim : Cert.Claim :=
  ⟨
    Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts,
    Cert.Kernel21.Gen.facts, Cert.Kernel21Ideal.Gen.facts, Cert.Reference21Ideal.Gen.facts, Cert.Kernel22.Gen.facts,
    Cert.Kernel22Ideal.Gen.facts, Cert.Reference22Ideal.Gen.facts, Cert.Kernel23.Gen.facts, Cert.Kernel23Ideal.Gen.facts,
    Cert.Reference23Ideal.Gen.facts, Cert.Kernel24.Gen.facts, Cert.Kernel24Ideal.Gen.facts, Cert.Reference24Ideal.Gen.facts,
    Cert.Kernel25.Gen.facts, Cert.Kernel25Ideal.Gen.facts, Cert.Reference25Ideal.Gen.facts, Cert.Kernel26.Gen.facts,
    Cert.Kernel26Ideal.Gen.facts, Cert.Reference26Ideal.Gen.facts, Cert.Kernel27.Gen.facts, Cert.Kernel27Ideal.Gen.facts,
    Cert.Reference27Ideal.Gen.facts, Cert.Kernel28.Gen.facts, Cert.Kernel28Ideal.Gen.facts, Cert.Reference28Ideal.Gen.facts,
    Cert.Kernel29.Gen.facts, Cert.Kernel29Ideal.Gen.facts, Cert.Reference29Ideal.Gen.facts, Cert.Kernel30.Gen.facts,
    Cert.Kernel30Ideal.Gen.facts, Cert.Reference30Ideal.Gen.facts, Cert.Kernel31.Gen.facts, Cert.Kernel31Ideal.Gen.facts,
    Cert.Reference31Ideal.Gen.facts, Cert.Kernel32.Gen.facts, Cert.Kernel32Ideal.Gen.facts, Cert.Reference32Ideal.Gen.facts,
    Cert.Kernel33.Gen.facts, Cert.Kernel33Ideal.Gen.facts, Cert.Reference33Ideal.Gen.facts, Cert.Kernel34.Gen.facts,
    Cert.Kernel34Ideal.Gen.facts, preFacts, preFacts2,
    fun m g _ => Cert.Kernel.Gen.frame m g, fun m g _ => Cert.KernelIdeal.Gen.frame m g,
    fun m g _ => Cert.KernelIdeal.Gen.frame m g, frame_reference, fun m g _ => frame_reference m g trivial,
    fun m g _ => Cert.Kernel2.Gen.frame m g, fun m g _ => Cert.Kernel2Ideal.Gen.frame m g,
    fun m g _ => Cert.Kernel2Ideal.Gen.frame m g, frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, frame_reference15,
    fun m g _ => Cert.Kernel16.Gen.frame m g, fun m g _ => Cert.Kernel16Ideal.Gen.frame m g, frame_reference16,
    fun m g _ => Cert.Kernel17.Gen.frame m g, fun m g _ => Cert.Kernel17Ideal.Gen.frame m g, frame_reference17,
    fun m g _ => Cert.Kernel18.Gen.frame m g, fun m g _ => Cert.Kernel18Ideal.Gen.frame m g, frame_reference18,
    fun m g _ => Cert.Kernel19.Gen.frame m g, fun m g _ => Cert.Kernel19Ideal.Gen.frame m g, frame_reference19,
    fun m g _ => Cert.Kernel20.Gen.frame m g, fun m g _ => Cert.Kernel20Ideal.Gen.frame m g, frame_reference20,
    fun m g _ => Cert.Kernel21.Gen.frame m g, fun m g _ => Cert.Kernel21Ideal.Gen.frame m g, frame_reference21,
    fun m g _ => Cert.Kernel22.Gen.frame m g, fun m g _ => Cert.Kernel22Ideal.Gen.frame m g, frame_reference22,
    fun m g _ => Cert.Kernel23.Gen.frame m g, fun m g _ => Cert.Kernel23Ideal.Gen.frame m g, frame_reference23,
    fun m g _ => Cert.Kernel24.Gen.frame m g, fun m g _ => Cert.Kernel24Ideal.Gen.frame m g, frame_reference24,
    fun m g _ => Cert.Kernel25.Gen.frame m g, fun m g _ => Cert.Kernel25Ideal.Gen.frame m g, frame_reference25,
    fun m g _ => Cert.Kernel26.Gen.frame m g, fun m g _ => Cert.Kernel26Ideal.Gen.frame m g, frame_reference26,
    fun m g _ => Cert.Kernel27.Gen.frame m g, fun m g _ => Cert.Kernel27Ideal.Gen.frame m g, frame_reference27,
    fun m g _ => Cert.Kernel28.Gen.frame m g, fun m g _ => Cert.Kernel28Ideal.Gen.frame m g, frame_reference28,
    fun m g _ => Cert.Kernel29.Gen.frame m g, fun m g _ => Cert.Kernel29Ideal.Gen.frame m g, frame_reference29,
    fun m g _ => Cert.Kernel30.Gen.frame m g, fun m g _ => Cert.Kernel30Ideal.Gen.frame m g, frame_reference30,
    fun m g _ => Cert.Kernel31.Gen.frame m g, fun m g _ => Cert.Kernel31Ideal.Gen.frame m g, frame_reference31,
    fun m g _ => Cert.Kernel32.Gen.frame m g, fun m g _ => Cert.Kernel32Ideal.Gen.frame m g, frame_reference32,
    fun m g _ => Cert.Kernel33.Gen.frame m g, fun m g _ => Cert.Kernel33Ideal.Gen.frame m g, frame_reference33,
    fun m g _ => Cert.Kernel34.Gen.frame m g, fun m g _ => Cert.Kernel34Ideal.Gen.frame m g, trivial,
    values, trivial, values2, trivial, values3, trivial, values4, trivial, values5, trivial, values6, trivial, values7,
    trivial, values8, trivial, values9, trivial, values10, trivial, values11, trivial, values12, trivial, values13, trivial,
    values14, trivial, values15, trivial, values16, trivial, values17, trivial, values18, trivial, values19, trivial,
    values20, trivial, values21, trivial, values22, trivial, values23, trivial, values24, trivial, values25, trivial,
    values26, trivial, values27, trivial, values28, trivial, values29, trivial, values30, trivial, values31, trivial,
    values32, trivial, values33, trivial⟩

end Cert.Proof

end
